-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_ids_finite_floats [hPre_sorted_ids_finite_floats : Cert.Pre_sorted_ids_finite_floats.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids_finite_floats.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids_finite_floats [hPre_sorted_ids_finite_floats : Cert.Pre_sorted_ids_finite_floats.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids_finite_floats.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sorted_ids_finite_floats [hKernelIdeal : Cert.KernelIdeal.Facts] [hPre_sorted_ids_finite_floats : Cert.Pre_sorted_ids_finite_floats.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_ids_finite_floats m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_ids_finite_floats [hReferenceIdeal : Cert.ReferenceIdeal.Facts] [hPre_sorted_ids_finite_floats : Cert.Pre_sorted_ids_finite_floats.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids_finite_floats m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sorted_ids_finite_floats [hKernelIdeal : Cert.KernelIdeal.Facts] [hReferenceIdeal : Cert.ReferenceIdeal.Facts] [hPre_sorted_ids_finite_floats : Cert.Pre_sorted_ids_finite_floats.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_ids_finite_floats m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_ids_finite_floats : Cert.Pre_sorted_ids_finite_floats.Facts),
    quiescent_Kernel (hKernel := hKernel)
    ∧ quiescent_KernelIdeal (hKernelIdeal := hKernelIdeal)
    ∧ quiescent_KernelIdeal_pre_sorted_ids_finite_floats (hKernelIdeal := hKernelIdeal) (hPre_sorted_ids_finite_floats := hPre_sorted_ids_finite_floats)
    ∧ quiescent_ReferenceIdeal (hReferenceIdeal := hReferenceIdeal)
    ∧ quiescent_ReferenceIdeal_pre_sorted_ids_finite_floats (hReferenceIdeal := hReferenceIdeal) (hPre_sorted_ids_finite_floats := hPre_sorted_ids_finite_floats)
    ∧ preserves_Kernel_KernelIdeal
    ∧ algebraic_KernelIdeal_ReferenceIdeal_pre_sorted_ids_finite_floats (hKernelIdeal := hKernelIdeal) (hReferenceIdeal := hReferenceIdeal) (hPre_sorted_ids_finite_floats := hPre_sorted_ids_finite_floats)
-- ==== Pre_sorted_ids_finite_floats.lean ====
abbrev S50000x256 : Shape := ⟨2, ![50000, 256]⟩
abbrev S50000 : Shape := ⟨1, ![50000]⟩
abbrev S1x256 : Shape := ⟨2, ![1, 256]⟩
abbrev S1 : Shape := ⟨1, ![1]⟩
abbrev S512x256 : Shape := ⟨2, ![512, 256]⟩
abbrev S512 : Shape := ⟨1, ![512]⟩
abbrev S49999 : Shape := ⟨1, ![49999]⟩
abbrev S_ : Shape := ⟨0, ![]⟩

class Facts : Prop where
  slices_S50000_S49999_0 : S50000.Slices ![0] S49999
  slices_S50000_S49999_1 : S50000.Slices ![1] S49999
  reducesTo_S49999_S_d0 : S49999.ReducesTo [0] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S50000x256 .f32) (main_arg1 : IVec S50000 32) (main_arg2 : FVec F S1x256 .f32) (main_arg3 : FVec F S1 .f32) (main_arg4 : FVec F S512x256 .f32) (main_arg5 : FVec F S512 .f32) : IVec S_ 1 :=
  let main_v0 : IVec S49999 32 := (extractStridedSlice S49999 ![0] · slices_S50000_S49999_0) main_arg1
  let main_v1 : IVec S49999 32 := (extractStridedSlice S49999 ![1] · slices_S50000_S49999_1) main_arg1
  let main_v2 : IVec S49999 1 := cmpi .sle main_v0 main_v1
  let main_c : IVec S_ 1 := constantI S_ 1 1#1
  let main_v3 : IVec S_ 1 := (fun x v => Host.reduce IntOp.andi x v reducesTo_S49999_S_d0 h_S_) main_v2 main_c
  let main_v4 : FVec F S50000x256 .f32 := Host.absf main_arg0
  let main_cst : FVec F S_ .f32 := constant S_ .f32 0x7F800000#32
  let main_v5 : FVec F S50000x256 .f32 := broadcastInDim S50000x256 ![] bcast_S_S50000x256 main_cst
  let main_v6 : IVec S50000x256 1 := cmpf .olt main_v4 main_v5
  let main_c_0 : IVec S_ 1 := constantI S_ 1 1#1
  let main_v7 : IVec S_ 1 := (fun x v => Host.reduce IntOp.andi x v reducesTo_S50000x256_S_d0_1 h_S_) main_v6 main_c_0
  let main_v8 : IVec S_ 1 := andi main_v3 main_v7
  let main_v9 : FVec F S512x256 .f32 := Host.absf main_arg4
  let main_cst_1 : FVec F S_ .f32 := constant S_ .f32 0x7F800000#32
  let main_v10 : FVec F S512x256 .f32 := broadcastInDim S512x256 ![] bcast_S_S512x256 main_cst_1
  let main_v11 : IVec S512x256 1 := cmpf .olt main_v9 main_v10
  let main_c_2 : IVec S_ 1 := constantI S_ 1 1#1
  let main_v12 : IVec S_ 1 := (fun x v => Host.reduce IntOp.andi x v reducesTo_S512x256_S_d0_1 h_S_) main_v11 main_c_2
  let main_v13 : IVec S_ 1 := andi main_v8 main_v12
  main_v13
-- ==== Kernel.lean ====
abbrev S50000x256 : Shape := ⟨2, ![50000, 256]⟩
abbrev S50000 : Shape := ⟨1, ![50000]⟩
abbrev S1x256 : Shape := ⟨2, ![1, 256]⟩
abbrev S1 : Shape := ⟨1, ![1]⟩
abbrev S512x256 : Shape := ⟨2, ![512, 256]⟩
abbrev S512 : Shape := ⟨1, ![512]⟩
abbrev S1x512 : Shape := ⟨2, ![1, 512]⟩
abbrev S256 : Shape := ⟨1, ![256]⟩
abbrev S16 : Shape := ⟨1, ![16]⟩
abbrev S1024x256 : Shape := ⟨2, ![1024, 256]⟩
abbrev S1024x16 : Shape := ⟨2, ![1024, 16]⟩
abbrev S2x80x256 : Shape := ⟨3, ![2, 80, 256]⟩
abbrev S50176 : Shape := ⟨1, ![50176]⟩
abbrev S32x256 : Shape := ⟨2, ![32, 256]⟩
abbrev S32x16 : Shape := ⟨2, ![32, 16]⟩
abbrev S2 : Shape := ⟨1, ![2]⟩
abbrev S1x16 : Shape := ⟨2, ![1, 16]⟩
abbrev S_ : Shape := ⟨0, ![]⟩
abbrev S1x80x256 : Shape := ⟨3, ![1, 80, 256]⟩
abbrev S80x256 : Shape := ⟨2, ![80, 256]⟩
abbrev S1x1x16 : Shape := ⟨3, ![1, 1, 16]⟩
abbrev S1024x512 : Shape := ⟨2, ![1024, 512]⟩
abbrev S1024x1 : Shape := ⟨2, ![1024, 1]⟩

abbrev nBuf : Table → Nat
  | .hbm => 12
  | .local .tc .vmem => 5
  | .local .scVector .vmem => 6
  | _ => 0

abbrev bufTy : (tb : Table) → Fin (nBuf tb) → BufTy
  | .hbm, ⟨0, _⟩ => ⟨S50000x256, .f32⟩
  | .hbm, ⟨1, _⟩ => ⟨S50000, .i32⟩
  | .hbm, ⟨2, _⟩ => ⟨S1x256, .f32⟩
  | .hbm, ⟨3, _⟩ => ⟨S1, .f32⟩
  | .hbm, ⟨4, _⟩ => ⟨S512x256, .f32⟩
  | .hbm, ⟨5, _⟩ => ⟨S512, .f32⟩
  | .hbm, ⟨6, _⟩ => ⟨S1x512, .f32⟩
  | .hbm, ⟨7, _⟩ => ⟨S256, .f32⟩
  | .hbm, ⟨8, _⟩ => ⟨S16, .f32⟩
  | .hbm, ⟨9, _⟩ => ⟨S1024x256, .f32⟩
  | .hbm, ⟨10, _⟩ => ⟨S1024x16, .f32⟩
  | .hbm, ⟨11, _⟩ => ⟨S1024x512, .f32⟩
  | .local .tc .vmem, ⟨0, _⟩ => ⟨S1024x256, .f32⟩
  | .local .tc .vmem, ⟨1, _⟩ => ⟨S1024x16, .f32⟩
  | .local .tc .vmem, ⟨2, _⟩ => ⟨S512x256, .f32⟩
  | .local .tc .vmem, ⟨3, _⟩ => ⟨S1x512, .f32⟩
  | .local .tc .vmem, ⟨4, _⟩ => ⟨S1024x512, .f32⟩
  | .local .scVector .vmem, ⟨0, _⟩ => ⟨S2x80x256, .f32⟩
  | .local .scVector .vmem, ⟨1, _⟩ => ⟨S50176, .i32⟩
  | .local .scVector .vmem, ⟨2, _⟩ => ⟨S256, .f32⟩
  | .local .scVector .vmem, ⟨3, _⟩ => ⟨S16, .f32⟩
  | .local .scVector .vmem, ⟨4, _⟩ => ⟨S32x256, .f32⟩
  | .local .scVector .vmem, ⟨5, _⟩ => ⟨S32x16, .f32⟩
  | _, _ => ⟨S50000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_arg0_scv : Ref sig .scVector := ⟨.hbm, 0, rfl⟩
abbrev main_arg1_scv : Ref sig .scVector := ⟨.hbm, 1, rfl⟩
abbrev main_v1_scv : Ref sig .scVector := ⟨.hbm, 7, rfl⟩
abbrev main_v2_scv : Ref sig .scVector := ⟨.hbm, 8, rfl⟩
abbrev main_v3_0_scv : Ref sig .scVector := ⟨.hbm, 9, rfl⟩
abbrev main_v3_1_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k0_off1 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v83 : Index := Scalar.indexCast arg15
  let c0_34 : Index := 0#32
  ![v83.toNat, 0]
def k0_off2 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v85 : Index := Scalar.indexCast arg15
  let c16_35 : Index := 16#32
  ![v85.toNat, 16]
def k0_off3 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v87 : Index := Scalar.indexCast arg15
  let c32_36 : Index := 32#32
  ![v87.toNat, 32]
def k0_off4 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v89 : Index := Scalar.indexCast arg15
  let c48_37 : Index := 48#32
  ![v89.toNat, 48]
def k0_off5 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v91 : Index := Scalar.indexCast arg15
  let c64_38 : Index := 64#32
  ![v91.toNat, 64]
def k0_off6 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v93 : Index := Scalar.indexCast arg15
  let c80_39 : Index := 80#32
  ![v93.toNat, 80]
def k0_off7 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v95 : Index := Scalar.indexCast arg15
  let c96_40 : Index := 96#32
  ![v95.toNat, 96]
def k0_off8 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v97 : Index := Scalar.indexCast arg15
  let c112_41 : Index := 112#32
  ![v97.toNat, 112]
def k0_off9 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v99 : Index := Scalar.indexCast arg15
  let c128_42 : Index := 128#32
  ![v99.toNat, 128]
def k0_off10 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v101 : Index := Scalar.indexCast arg15
  let c144_43 : Index := 144#32
  ![v101.toNat, 144]
def k0_off11 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v103 : Index := Scalar.indexCast arg15
  let c160_44 : Index := 160#32
  ![v103.toNat, 160]
def k0_off12 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v105 : Index := Scalar.indexCast arg15
  let c176_45 : Index := 176#32
  ![v105.toNat, 176]
def k0_off13 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v107 : Index := Scalar.indexCast arg15
  let c192_46 : Index := 192#32
  ![v107.toNat, 192]
def k0_off14 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v109 : Index := Scalar.indexCast arg15
  let c208_47 : Index := 208#32
  ![v109.toNat, 208]
def k0_off15 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v111 : Index := Scalar.indexCast arg15
  let c224_48 : Index := 224#32
  ![v111.toNat, 224]
def k0_off16 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v113 : Index := Scalar.indexCast arg15
  let c240_49 : Index := 240#32
  ![v113.toNat, 240]
def k0_off17 (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let v115 : Index := Scalar.indexCast arg15
  let c0_50 : Index := 0#32
  ![v115.toNat, 0]
@[reducible] def k0_t2_loop : Scf.Loop 32 :=
  let c0_i32_3 : BitVec 32 := 0#32
  let c11_i32 : BitVec 32 := 11#32
  let v5 : BitVec 32 := Scalar.addi c0_i32_3 c11_i32
  let c1_i32_4 : BitVec 32 := 1#32
  ⟨c0_i32_3, v5, c1_i32_4⟩
def k0_off18 (k0_t2 : Fin k0_t2_loop.trips) : Fin 1 → Nat :=
  let c50000_i32 : BitVec 32 := 50000#32
  let c0_i32_3 : BitVec 32 := 0#32
  let c1_i32_4 : BitVec 32 := 1#32
  let arg15 : BitVec 32 := Scf.iv c0_i32_3 c1_i32_4 k0_t2
  let c16_i32 : BitVec 32 := 16#32
  let v84 : BitVec 32 := Scalar.muli arg15 c16_i32
  let v85 : BitVec 32 := Scalar.addi c50000_i32 v84
  let v86 : Index := Scalar.indexCast v85
  ![v86.toNat]
@[reducible] def k0_t3_loop : Scf.Loop 32 :=
  let c0_i32_8 : BitVec 32 := 0#32
  let c3136_i32 : BitVec 32 := 3136#32
  let v8 : BitVec 32 := Scalar.addi c0_i32_8 c3136_i32
  let c1_i32_9 : BitVec 32 := 1#32
  ⟨c0_i32_8, v8, c1_i32_9⟩
def k0_off19 (k0_t3 : Fin k0_t3_loop.trips) : Fin 1 → Nat :=
  let c0_i32_8 : BitVec 32 := 0#32
  let c1_i32_9 : BitVec 32 := 1#32
  let arg15 : BitVec 32 := Scf.iv c0_i32_8 c1_i32_9 k0_t3
  let c16_i32 : BitVec 32 := 16#32
  let v83 : BitVec 32 := Scalar.muli arg15 c16_i32
  let v84 : Index := Scalar.indexCast v83
  ![v84.toNat]
def k0_off20 (v13 : BitVec 32) : Fin 2 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_34 : BitVec 32 := 80#32
  let v83 : BitVec 32 := Scalar.muli v51 c80_i32_34
  let c0_i32_39 : BitVec 32 := 0#32
  ![v83.toNat, 0]
def k0_cond1 (v13 : BitVec 32) (v17 : BitVec 32) : BitVec 1 :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v71 : BitVec 1 := Scalar.cmpi .slt v51 v70
  let v72 : BitVec 32 := Scalar.extui v71
  let c0_i32_28 : BitVec 32 := 0#32
  let v73 : BitVec 1 := Scalar.cmpi .ne v72 c0_i32_28
  v73

@[reducible] def k0_t4_loop (v13 : BitVec 32) (v17 : BitVec 32) : Scf.Loop 32 :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_30 : BitVec 32 := 1#32
  ⟨v51, v78, c1_i32_30⟩
def k0_off21 (v13 : BitVec 32) (v17 : BitVec 32) (k0_t4 : Fin (k0_t4_loop v13 v17).trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let c0_i32_41 : BitVec 32 := 0#32
  let c0_i32_42 : BitVec 32 := 0#32
  ![v94.toNat, 0, 0]
def k0_off22 (v13 : BitVec 32) (v17 : BitVec 32) (k0_t4 : Fin (k0_t4_loop v13 v17).trips) : Fin 1 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  ![v94.toNat]
def k0_off23 (v13 : BitVec 32) (v17 : BitVec 32) (k0_t4 : Fin (k0_t4_loop v13 v17).trips) : Fin 3 → Nat :=
  let c1_i32_56 : BitVec 32 := 1#32
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v111 : BitVec 32 := Scalar.subi c1_i32_56 v94
  let c0_i32_58 : BitVec 32 := 0#32
  let c0_i32_59 : BitVec 32 := 0#32
  ![v111.toNat, 0, 0]
def k0_cond2 (v13 : BitVec 32) (v17 : BitVec 32) (k0_t4 : Fin (k0_t4_loop v13 v17).trips) : BitVec 1 :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let c1_i32_49 : BitVec 32 := 1#32
  let v103 : BitVec 32 := Scalar.addi arg15 c1_i32_49
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v104 : BitVec 1 := Scalar.cmpi .slt v103 v70
  let v105 : BitVec 32 := Scalar.extui v104
  let c0_i32_50 : BitVec 32 := 0#32
  let v106 : BitVec 1 := Scalar.cmpi .ne v105 c0_i32_50
  v106

def k0_off24 (v13 : BitVec 32) (v17 : BitVec 32) (k0_t4 : Fin (k0_t4_loop v13 v17).trips) : Fin 2 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let c1_i32_54 : BitVec 32 := 1#32
  let v109 : BitVec 32 := Scalar.addi arg15 c1_i32_54
  let c80_i32_55 : BitVec 32 := 80#32
  let v110 : BitVec 32 := Scalar.muli v109 c80_i32_55
  let c0_i32_60 : BitVec 32 := 0#32
  ![v110.toNat, 0]
def k0_off25 (v13 : BitVec 32) (v17 : BitVec 32) (k0_t4 : Fin (k0_t4_loop v13 v17).trips) : Fin 1 → Nat :=
  let c1_i32_57 : BitVec 32 := 1#32
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v112 : BitVec 32 := Scalar.subi c1_i32_57 v94
  ![v112.toNat]
@[reducible] def k0_t5_loop : Scf.Loop 32 :=
  let c0_i32_51 : BitVec 32 := 0#32
  let c5_i32 : BitVec 32 := 5#32
  let v107 : BitVec 32 := Scalar.addi c0_i32_51 c5_i32
  let c1_i32_52 : BitVec 32 := 1#32
  ⟨c0_i32_51, v107, c1_i32_52⟩
@[reducible] def k0_t6_loop : Scf.Loop 32 :=
  let c0_i32_54 : BitVec 32 := 0#32
  let c16_i32_55 : BitVec 32 := 16#32
  let v111 : BitVec 32 := Scalar.addi c0_i32_54 c16_i32_55
  let c1_i32_56 : BitVec 32 := 1#32
  ⟨c0_i32_54, v111, c1_i32_56⟩
def k0_off26 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v115 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v116 : Index := Scalar.indexCast v114
  let c0_59 : Index := 0#32
  ![v115.toNat, v116.toNat, 0]
def k0_off27 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v118 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v119 : Index := Scalar.indexCast v114
  let c16_60 : Index := 16#32
  ![v118.toNat, v119.toNat, 16]
def k0_off28 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v121 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v122 : Index := Scalar.indexCast v114
  let c32_61 : Index := 32#32
  ![v121.toNat, v122.toNat, 32]
def k0_off29 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v124 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v125 : Index := Scalar.indexCast v114
  let c48_62 : Index := 48#32
  ![v124.toNat, v125.toNat, 48]
def k0_off30 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v127 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v128 : Index := Scalar.indexCast v114
  let c64_63 : Index := 64#32
  ![v127.toNat, v128.toNat, 64]
def k0_off31 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v130 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v131 : Index := Scalar.indexCast v114
  let c80_64 : Index := 80#32
  ![v130.toNat, v131.toNat, 80]
def k0_off32 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v133 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v134 : Index := Scalar.indexCast v114
  let c96_65 : Index := 96#32
  ![v133.toNat, v134.toNat, 96]
def k0_off33 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v136 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v137 : Index := Scalar.indexCast v114
  let c112_66 : Index := 112#32
  ![v136.toNat, v137.toNat, 112]
def k0_off34 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v139 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v140 : Index := Scalar.indexCast v114
  let c128_67 : Index := 128#32
  ![v139.toNat, v140.toNat, 128]
def k0_off35 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v142 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v143 : Index := Scalar.indexCast v114
  let c144_68 : Index := 144#32
  ![v142.toNat, v143.toNat, 144]
def k0_off36 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v145 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v146 : Index := Scalar.indexCast v114
  let c160_69 : Index := 160#32
  ![v145.toNat, v146.toNat, 160]
def k0_off37 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v148 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v149 : Index := Scalar.indexCast v114
  let c176_70 : Index := 176#32
  ![v148.toNat, v149.toNat, 176]
def k0_off38 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v151 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v152 : Index := Scalar.indexCast v114
  let c192_71 : Index := 192#32
  ![v151.toNat, v152.toNat, 192]
def k0_off39 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v154 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v155 : Index := Scalar.indexCast v114
  let c208_72 : Index := 208#32
  ![v154.toNat, v155.toNat, 208]
def k0_off40 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v157 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v158 : Index := Scalar.indexCast v114
  let c224_73 : Index := 224#32
  ![v157.toNat, v158.toNat, 224]
def k0_off41 (v13 : BitVec 32) (v17 : BitVec 32) (k0_t4 : Fin (k0_t4_loop v13 v17).trips) (k0_t5 : Fin k0_t5_loop.trips) (k0_t6 : Fin k0_t6_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c1_i32_30 : BitVec 32 := 1#32
  let arg15 : BitVec 32 := Scf.iv v51 c1_i32_30 k0_t4
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v160 : Index := Scalar.indexCast v94
  let c0_i32_51 : BitVec 32 := 0#32
  let c1_i32_52 : BitVec 32 := 1#32
  let arg33 : BitVec 32 := Scf.iv c0_i32_51 c1_i32_52 k0_t5
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t6
  let v114 : BitVec 32 := Scalar.addi v113 arg51
  let v161 : Index := Scalar.indexCast v114
  let c240_74 : Index := 240#32
  ![v160.toNat, v161.toNat, 240]

def k0_chk2 (v251 : IVec S16 32) : Prop :=
  (∀ a x, ((![v251] : Fin 1 → IVec S16 32) a x).toNat < S50176.size a)
theorem k0_idx1_inb : ∀ (v251 : IVec S16 32) (k0_hw2 : k0_chk2 v251), ∀ a x, ((![v251] : Fin 1 → IVec S16 32) a x).toNat < S50176.size a := fun v251 k0_hw2 => k0_hw2

def k0_chk3 (v255 : IVec S16 32) : Prop :=
  (∀ a x, ((![v255] : Fin 1 → IVec S16 32) a x).toNat < S50176.size a)
theorem k0_idx2_inb : ∀ (v255 : IVec S16 32) (k0_hw3 : k0_chk3 v255), ∀ a x, ((![v255] : Fin 1 → IVec S16 32) a x).toNat < S50176.size a := fun v255 k0_hw3 => k0_hw3

def k0_chk4 (v267 : IVec S16 32) (v271 : IVec S16 32) : Prop :=
  (∀ a x, ((![v267, v271] : Fin 2 → IVec S16 32) a x).toNat < S32x256.size a)
theorem k0_idx3_inb : ∀ (v267 : IVec S16 32) (v271 : IVec S16 32) (k0_hw4 : k0_chk4 v267 v271), ∀ a x, ((![v267, v271] : Fin 2 → IVec S16 32) a x).toNat < S32x256.size a := fun v267 v271 k0_hw4 => k0_hw4

def k0_chk5 (v267 : IVec S16 32) (v276 : IVec S16 32) : Prop :=
  (∀ a x, ((![v267, v276] : Fin 2 → IVec S16 32) a x).toNat < S32x256.size a)
theorem k0_idx4_inb : ∀ (v267 : IVec S16 32) (v276 : IVec S16 32) (k0_hw5 : k0_chk5 v267 v276), ∀ a x, ((![v267, v276] : Fin 2 → IVec S16 32) a x).toNat < S32x256.size a := fun v267 v276 k0_hw5 => k0_hw5

def k0_chk6 (v267 : IVec S16 32) (v281 : IVec S16 32) : Prop :=
  (∀ a x, ((![v267, v281] : Fin 2 → IVec S16 32) a x).toNat < S32x256.size a)
theorem k0_idx5_inb : ∀ (v267 : IVec S16 32) (v281 : IVec S16 32) (k0_hw6 : k0_chk6 v267 v281), ∀ a x, ((![v267, v281] : Fin 2 → IVec S16 32) a x).toNat < S32x256.size a := fun v267 v281 k0_hw6 => k0_hw6

def k0_chk7 (v267 : IVec S16 32) (v286 : IVec S16 32) : Prop :=
  (∀ a x, ((![v267, v286] : Fin 2 → IVec S16 32) a x).toNat < S32x256.size a)
theorem k0_idx6_inb : ∀ (v267 : IVec S16 32) (v286 : IVec S16 32) (k0_hw7 : k0_chk7 v267 v286), ∀ a x, ((![v267, v286] : Fin 2 → IVec S16 32) a x).toNat < S32x256.size a := fun v267 v286 k0_hw7 => k0_hw7

def k0_chk8 (v267 : IVec S16 32) (v291 : IVec S16 32) : Prop :=
  (∀ a x, ((![v267, v291] : Fin 2 → IVec S16 32) a x).toNat < S32x256.size a)
theorem k0_idx7_inb : ∀ (v267 : IVec S16 32) (v291 : IVec S16 32) (k0_hw8 : k0_chk8 v267 v291), ∀ a x, ((![v267, v291] : Fin 2 → IVec S16 32) a x).toNat < S32x256.size a := fun v267 v291 k0_hw8 => k0_hw8

def k0_chk9 (v267 : IVec S16 32) (v296 : IVec S16 32) : Prop :=
  (∀ a x, ((![v267, v296] : Fin 2 → IVec S16 32) a x).toNat < S32x256.size a)
theorem k0_idx8_inb : ∀ (v267 : IVec S16 32) (v296 : IVec S16 32) (k0_hw9 : k0_chk9 v267 v296), ∀ a x, ((![v267, v296] : Fin 2 → IVec S16 32) a x).toNat < S32x256.size a := fun v267 v296 k0_hw9 => k0_hw9

def k0_chk10 (v267 : IVec S16 32) (v301 : IVec S16 32) : Prop :=
  (∀ a x, ((![v267, v301] : Fin 2 → IVec S16 32) a x).toNat < S32x256.size a)
theorem k0_idx9_inb : ∀ (v267 : IVec S16 32) (v301 : IVec S16 32) (k0_hw10 : k0_chk10 v267 v301), ∀ a x, ((![v267, v301] : Fin 2 → IVec S16 32) a x).toNat < S32x256.size a := fun v267 v301 k0_hw10 => k0_hw10

def k0_chk11 (v267 : IVec S16 32) (v306 : IVec S16 32) : Prop :=
  (∀ a x, ((![v267, v306] : Fin 2 → IVec S16 32) a x).toNat < S32x256.size a)
theorem k0_idx10_inb : ∀ (v267 : IVec S16 32) (v306 : IVec S16 32) (k0_hw11 : k0_chk11 v267 v306), ∀ a x, ((![v267, v306] : Fin 2 → IVec S16 32) a x).toNat < S32x256.size a := fun v267 v306 k0_hw11 => k0_hw11

def k0_chk12 (v267 : IVec S16 32) (v311 : IVec S16 32) : Prop :=
  (∀ a x, ((![v267, v311] : Fin 2 → IVec S16 32) a x).toNat < S32x256.size a)
theorem k0_idx11_inb : ∀ (v267 : IVec S16 32) (v311 : IVec S16 32) (k0_hw12 : k0_chk12 v267 v311), ∀ a x, ((![v267, v311] : Fin 2 → IVec S16 32) a x).toNat < S32x256.size a := fun v267 v311 k0_hw12 => k0_hw12

def k0_chk13 (v267 : IVec S16 32) (v316 : IVec S16 32) : Prop :=
  (∀ a x, ((![v267, v316] : Fin 2 → IVec S16 32) a x).toNat < S32x256.size a)
theorem k0_idx12_inb : ∀ (v267 : IVec S16 32) (v316 : IVec S16 32) (k0_hw13 : k0_chk13 v267 v316), ∀ a x, ((![v267, v316] : Fin 2 → IVec S16 32) a x).toNat < S32x256.size a := fun v267 v316 k0_hw13 => k0_hw13

def k0_chk14 (v267 : IVec S16 32) (v321 : IVec S16 32) : Prop :=
  (∀ a x, ((![v267, v321] : Fin 2 → IVec S16 32) a x).toNat < S32x256.size a)
theorem k0_idx13_inb : ∀ (v267 : IVec S16 32) (v321 : IVec S16 32) (k0_hw14 : k0_chk14 v267 v321), ∀ a x, ((![v267, v321] : Fin 2 → IVec S16 32) a x).toNat < S32x256.size a := fun v267 v321 k0_hw14 => k0_hw14

def k0_chk15 (v267 : IVec S16 32) (v326 : IVec S16 32) : Prop :=
  (∀ a x, ((![v267, v326] : Fin 2 → IVec S16 32) a x).toNat < S32x256.size a)
theorem k0_idx14_inb : ∀ (v267 : IVec S16 32) (v326 : IVec S16 32) (k0_hw15 : k0_chk15 v267 v326), ∀ a x, ((![v267, v326] : Fin 2 → IVec S16 32) a x).toNat < S32x256.size a := fun v267 v326 k0_hw15 => k0_hw15

def k0_chk16 (v267 : IVec S16 32) (v331 : IVec S16 32) : Prop :=
  (∀ a x, ((![v267, v331] : Fin 2 → IVec S16 32) a x).toNat < S32x256.size a)
theorem k0_idx15_inb : ∀ (v267 : IVec S16 32) (v331 : IVec S16 32) (k0_hw16 : k0_chk16 v267 v331), ∀ a x, ((![v267, v331] : Fin 2 → IVec S16 32) a x).toNat < S32x256.size a := fun v267 v331 k0_hw16 => k0_hw16

def k0_chk17 (v267 : IVec S16 32) (v336 : IVec S16 32) : Prop :=
  (∀ a x, ((![v267, v336] : Fin 2 → IVec S16 32) a x).toNat < S32x256.size a)
theorem k0_idx16_inb : ∀ (v267 : IVec S16 32) (v336 : IVec S16 32) (k0_hw17 : k0_chk17 v267 v336), ∀ a x, ((![v267, v336] : Fin 2 → IVec S16 32) a x).toNat < S32x256.size a := fun v267 v336 k0_hw17 => k0_hw17

def k0_chk18 (v267 : IVec S16 32) (v341 : IVec S16 32) : Prop :=
  (∀ a x, ((![v267, v341] : Fin 2 → IVec S16 32) a x).toNat < S32x256.size a)
theorem k0_idx17_inb : ∀ (v267 : IVec S16 32) (v341 : IVec S16 32) (k0_hw18 : k0_chk18 v267 v341), ∀ a x, ((![v267, v341] : Fin 2 → IVec S16 32) a x).toNat < S32x256.size a := fun v267 v341 k0_hw18 => k0_hw18

def k0_chk19 (v267 : IVec S16 32) (v346 : IVec S16 32) : Prop :=
  (∀ a x, ((![v267, v346] : Fin 2 → IVec S16 32) a x).toNat < S32x256.size a)
theorem k0_idx18_inb : ∀ (v267 : IVec S16 32) (v346 : IVec S16 32) (k0_hw19 : k0_chk19 v267 v346), ∀ a x, ((![v267, v346] : Fin 2 → IVec S16 32) a x).toNat < S32x256.size a := fun v267 v346 k0_hw19 => k0_hw19

def k0_chk20 (v2 : IVec S16 32) (v267 : IVec S16 32) : Prop :=
  (∀ a x, ((![v267, v2] : Fin 2 → IVec S16 32) a x).toNat < S32x16.size a)
theorem k0_idx19_inb : ∀ (v2 : IVec S16 32) (v267 : IVec S16 32) (k0_hw20 : k0_chk20 v2 v267), ∀ a x, ((![v267, v2] : Fin 2 → IVec S16 32) a x).toNat < S32x16.size a := fun v2 v267 k0_hw20 => k0_hw20
@[reducible] def k0_t7_loop (v13 : BitVec 32) (v17 : BitVec 32) : Scf.Loop 32 :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let v75 : BitVec 32 := Scalar.addi v51 v74
  let c1_i32_31 : BitVec 32 := 1#32
  ⟨v78, v75, c1_i32_31⟩
def k0_off42 (v13 : BitVec 32) (v17 : BitVec 32) (k0_t7 : Fin (k0_t7_loop v13 v17).trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let c0_i32_41 : BitVec 32 := 0#32
  let c0_i32_42 : BitVec 32 := 0#32
  ![v94.toNat, 0, 0]
def k0_off43 (v13 : BitVec 32) (v17 : BitVec 32) (k0_t7 : Fin (k0_t7_loop v13 v17).trips) : Fin 1 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  ![v94.toNat]
def k0_off44 (v13 : BitVec 32) (v17 : BitVec 32) (k0_t7 : Fin (k0_t7_loop v13 v17).trips) : Fin 3 → Nat :=
  let c1_i32_56 : BitVec 32 := 1#32
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v111 : BitVec 32 := Scalar.subi c1_i32_56 v94
  let c0_i32_58 : BitVec 32 := 0#32
  let c0_i32_59 : BitVec 32 := 0#32
  ![v111.toNat, 0, 0]
def k0_cond3 (v13 : BitVec 32) (v17 : BitVec 32) (k0_t7 : Fin (k0_t7_loop v13 v17).trips) : BitVec 1 :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let c1_i32_49 : BitVec 32 := 1#32
  let v103 : BitVec 32 := Scalar.addi arg15 c1_i32_49
  let v104 : BitVec 1 := Scalar.cmpi .slt v103 v70
  let v105 : BitVec 32 := Scalar.extui v104
  let c0_i32_50 : BitVec 32 := 0#32
  let v106 : BitVec 1 := Scalar.cmpi .ne v105 c0_i32_50
  v106

def k0_off45 (v13 : BitVec 32) (v17 : BitVec 32) (k0_t7 : Fin (k0_t7_loop v13 v17).trips) : Fin 2 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let c1_i32_54 : BitVec 32 := 1#32
  let v109 : BitVec 32 := Scalar.addi arg15 c1_i32_54
  let c80_i32_55 : BitVec 32 := 80#32
  let v110 : BitVec 32 := Scalar.muli v109 c80_i32_55
  let c0_i32_60 : BitVec 32 := 0#32
  ![v110.toNat, 0]
def k0_off46 (v13 : BitVec 32) (v17 : BitVec 32) (k0_t7 : Fin (k0_t7_loop v13 v17).trips) : Fin 1 → Nat :=
  let c1_i32_57 : BitVec 32 := 1#32
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v112 : BitVec 32 := Scalar.subi c1_i32_57 v94
  ![v112.toNat]
@[reducible] def k0_t8_loop : Scf.Loop 32 :=
  let c0_i32_51 : BitVec 32 := 0#32
  let c5_i32 : BitVec 32 := 5#32
  let v107 : BitVec 32 := Scalar.addi c0_i32_51 c5_i32
  let c1_i32_52 : BitVec 32 := 1#32
  ⟨c0_i32_51, v107, c1_i32_52⟩
@[reducible] def k0_t9_loop : Scf.Loop 32 :=
  let c0_i32_54 : BitVec 32 := 0#32
  let c16_i32_55 : BitVec 32 := 16#32
  let v111 : BitVec 32 := Scalar.addi c0_i32_54 c16_i32_55
  let c1_i32_56 : BitVec 32 := 1#32
  ⟨c0_i32_54, v111, c1_i32_56⟩
def k0_off47 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v115 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v116 : Index := Scalar.indexCast v114
  let c0_59 : Index := 0#32
  ![v115.toNat, v116.toNat, 0]
def k0_off48 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v118 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v119 : Index := Scalar.indexCast v114
  let c16_60 : Index := 16#32
  ![v118.toNat, v119.toNat, 16]
def k0_off49 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v121 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v122 : Index := Scalar.indexCast v114
  let c32_61 : Index := 32#32
  ![v121.toNat, v122.toNat, 32]
def k0_off50 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v124 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v125 : Index := Scalar.indexCast v114
  let c48_62 : Index := 48#32
  ![v124.toNat, v125.toNat, 48]
def k0_off51 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v127 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v128 : Index := Scalar.indexCast v114
  let c64_63 : Index := 64#32
  ![v127.toNat, v128.toNat, 64]
def k0_off52 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v130 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v131 : Index := Scalar.indexCast v114
  let c80_64 : Index := 80#32
  ![v130.toNat, v131.toNat, 80]
def k0_off53 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v133 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v134 : Index := Scalar.indexCast v114
  let c96_65 : Index := 96#32
  ![v133.toNat, v134.toNat, 96]
def k0_off54 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v136 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v137 : Index := Scalar.indexCast v114
  let c112_66 : Index := 112#32
  ![v136.toNat, v137.toNat, 112]
def k0_off55 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v139 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v140 : Index := Scalar.indexCast v114
  let c128_67 : Index := 128#32
  ![v139.toNat, v140.toNat, 128]
def k0_off56 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v142 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v143 : Index := Scalar.indexCast v114
  let c144_68 : Index := 144#32
  ![v142.toNat, v143.toNat, 144]
def k0_off57 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v145 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v146 : Index := Scalar.indexCast v114
  let c160_69 : Index := 160#32
  ![v145.toNat, v146.toNat, 160]
def k0_off58 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v148 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v149 : Index := Scalar.indexCast v114
  let c176_70 : Index := 176#32
  ![v148.toNat, v149.toNat, 176]
def k0_off59 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v151 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v152 : Index := Scalar.indexCast v114
  let c192_71 : Index := 192#32
  ![v151.toNat, v152.toNat, 192]
def k0_off60 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v154 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v155 : Index := Scalar.indexCast v114
  let c208_72 : Index := 208#32
  ![v154.toNat, v155.toNat, 208]
def k0_off61 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v157 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v158 : Index := Scalar.indexCast v114
  let c224_73 : Index := 224#32
  ![v157.toNat, v158.toNat, 224]
def k0_off62 (v13 : BitVec 32) (v17 : BitVec 32) (k0_t7 : Fin (k0_t7_loop v13 v17).trips) (k0_t8 : Fin k0_t8_loop.trips) (k0_t9 : Fin k0_t9_loop.trips) : Fin 3 → Nat :=
  let c0_i32_13 : BitVec 32 := 0#32
  let v36 : BitVec 1 := Scalar.cmpi .sgt v13 c0_i32_13
  let v37 : BitVec 32 := Scalar.extui v36
  let c0_i32_14 : BitVec 32 := 0#32
  let v38 : BitVec 1 := Scalar.cmpi .slt v13 c0_i32_14
  let v39 : BitVec 32 := Scalar.extui v38
  let v40 : BitVec 32 := Scalar.subi v37 v39
  let c80_i32 : BitVec 32 := 80#32
  let c0_i32_15 : BitVec 32 := 0#32
  let v41 : BitVec 1 := Scalar.cmpi .sgt c80_i32 c0_i32_15
  let v42 : BitVec 32 := Scalar.extui v41
  let c0_i32_16 : BitVec 32 := 0#32
  let v43 : BitVec 1 := Scalar.cmpi .slt c80_i32 c0_i32_16
  let v44 : BitVec 32 := Scalar.extui v43
  let v45 : BitVec 32 := Scalar.subi v42 v44
  let v46 : BitVec 1 := Scalar.cmpi .ne v40 v45
  let v47 : BitVec 32 := Scalar.remsi v13 c80_i32
  let c0_i32_17 : BitVec 32 := 0#32
  let v48 : BitVec 1 := Scalar.cmpi .ne v47 c0_i32_17
  let v49 : BitVec 1 := Scalar.andi v46 v48
  let v35 : BitVec 32 := Scalar.divsi v13 c80_i32
  let c1_i32_18 : BitVec 32 := 1#32
  let v50 : BitVec 32 := Scalar.subi v35 c1_i32_18
  let v51 : BitVec 32 := Scalar.select v49 v50 v35
  let c80_i32_19 : BitVec 32 := 80#32
  let v52 : BitVec 32 := Scalar.addi v17 c80_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c80_i32_21 : BitVec 32 := 80#32
  let c0_i32_24 : BitVec 32 := 0#32
  let v60 : BitVec 1 := Scalar.cmpi .sgt c80_i32_21 c0_i32_24
  let v61 : BitVec 32 := Scalar.extui v60
  let c0_i32_25 : BitVec 32 := 0#32
  let v62 : BitVec 1 := Scalar.cmpi .slt c80_i32_21 c0_i32_25
  let v63 : BitVec 32 := Scalar.extui v62
  let v64 : BitVec 32 := Scalar.subi v61 v63
  let v65 : BitVec 1 := Scalar.cmpi .ne v59 v64
  let v66 : BitVec 32 := Scalar.remsi v53 c80_i32_21
  let c0_i32_26 : BitVec 32 := 0#32
  let v67 : BitVec 1 := Scalar.cmpi .ne v66 c0_i32_26
  let v68 : BitVec 1 := Scalar.andi v65 v67
  let v54 : BitVec 32 := Scalar.divsi v53 c80_i32_21
  let c1_i32_27 : BitVec 32 := 1#32
  let v69 : BitVec 32 := Scalar.subi v54 c1_i32_27
  let v70 : BitVec 32 := Scalar.select v68 v69 v54
  let v74 : BitVec 32 := Scalar.subi v70 v51
  let c1_i32_29 : BitVec 32 := 1#32
  let v76 : BitVec 32 := Scalar.divsi v74 c1_i32_29
  let v77 : BitVec 32 := Scalar.muli v76 c1_i32_29
  let v78 : BitVec 32 := Scalar.addi v51 v77
  let c1_i32_31 : BitVec 32 := 1#32
  let arg15 : BitVec 32 := Scf.iv v78 c1_i32_31 k0_t7
  let v84 : BitVec 32 := Scalar.subi arg15 v51
  let c2_i32_35 : BitVec 32 := 2#32
  let c0_i32_36 : BitVec 32 := 0#32
  let v85 : BitVec 1 := Scalar.cmpi .eq c2_i32_35 c0_i32_36
  let c1_i32_37 : BitVec 32 := 1#32
  let v86 : BitVec 32 := Scalar.select v85 c1_i32_37 c2_i32_35
  let v87 : BitVec 32 := Scalar.remsi v84 v86
  let c0_i32_39 : BitVec 32 := 0#32
  let v89 : BitVec 1 := Scalar.cmpi .slt v87 c0_i32_39
  let c0_i32_40 : BitVec 32 := 0#32
  let v90 : BitVec 1 := Scalar.cmpi .slt v86 c0_i32_40
  let v91 : BitVec 1 := Scalar.xori v89 v90
  let c0_i32_38 : BitVec 32 := 0#32
  let v88 : BitVec 1 := Scalar.cmpi .ne v87 c0_i32_38
  let v92 : BitVec 1 := Scalar.andi v91 v88
  let v93 : BitVec 32 := Scalar.addi v87 v86
  let v94 : BitVec 32 := Scalar.select v92 v93 v87
  let v160 : Index := Scalar.indexCast v94
  let c0_i32_51 : BitVec 32 := 0#32
  let c1_i32_52 : BitVec 32 := 1#32
  let arg33 : BitVec 32 := Scf.iv c0_i32_51 c1_i32_52 k0_t8
  let c16_i32_58 : BitVec 32 := 16#32
  let v113 : BitVec 32 := Scalar.muli arg33 c16_i32_58
  let c0_i32_54 : BitVec 32 := 0#32
  let c1_i32_56 : BitVec 32 := 1#32
  let arg51 : BitVec 32 := Scf.iv c0_i32_54 c1_i32_56 k0_t9
  let v114 : BitVec 32 := Scalar.addi v113 arg51
  let v161 : Index := Scalar.indexCast v114
  let c240_74 : Index := 240#32
  ![v160.toNat, v161.toNat, 240]

def k0_chk1_0 (v13 : BitVec 32) (v17 : BitVec 32) : Prop :=
  (∀ (k0_h1 : k0_cond1 v13 v17 = 1#1), ∀ a, (k0_off20 v13) a + S80x256.size a ≤ S50000x256.size a) ∧
  ((k0_t4_loop v13 v17).OK) ∧
  (∀ k0_t4 : Fin (k0_t4_loop v13 v17).trips, ∀ a, (k0_off21 v13 v17 k0_t4) a + S1x80x256.size a ≤ S2x80x256.size a) ∧
  (∀ k0_t4 : Fin (k0_t4_loop v13 v17).trips, ∀ a, (k0_off22 v13 v17 k0_t4) a + S1.size a ≤ S2.size a) ∧
  (∀ k0_t4 : Fin (k0_t4_loop v13 v17).trips, ∀ (k0_h2 : k0_cond2 v13 v17 k0_t4 = 1#1), ∀ a, (k0_off23 v13 v17 k0_t4) a + S1x80x256.size a ≤ S2x80x256.size a) ∧
  (∀ k0_t4 : Fin (k0_t4_loop v13 v17).trips, ∀ (k0_h2 : k0_cond2 v13 v17 k0_t4 = 1#1), ∀ a, (k0_off24 v13 v17 k0_t4) a + S80x256.size a ≤ S50000x256.size a) ∧
  (∀ k0_t4 : Fin (k0_t4_loop v13 v17).trips, ∀ (k0_h2 : k0_cond2 v13 v17 k0_t4 = 1#1), ∀ a, (k0_off25 v13 v17 k0_t4) a + S1.size a ≤ S2.size a) ∧
  (∀ (k0_t4 : Fin (k0_t4_loop v13 v17).trips) (k0_t5 : Fin k0_t5_loop.trips) (k0_t6 : Fin k0_t6_loop.trips), ∀ a, (k0_off26 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off27 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off28 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off29 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off30 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off31 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off32 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off33 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off34 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off35 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off36 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off37 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off38 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off39 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off40 v13 v17 k0_t4 k0_t5 k0_t6) a + S1x1x16.size a ≤ S2x80x256.size a) ∧
  (∀ (k0_t4 : Fin (k0_t4_loop v13 v17).trips) (k0_t5 : Fin k0_t5_loop.trips) (k0_t6 : Fin k0_t6_loop.trips), ∀ a, (k0_off41 v13 v17 k0_t4 k0_t5 k0_t6) a + S1x1x16.size a ≤ S2x80x256.size a) ∧
  ((k0_t7_loop v13 v17).OK) ∧
  (∀ k0_t7 : Fin (k0_t7_loop v13 v17).trips, ∀ a, (k0_off42 v13 v17 k0_t7) a + S1x80x256.size a ≤ S2x80x256.size a) ∧
  (∀ k0_t7 : Fin (k0_t7_loop v13 v17).trips, ∀ a, (k0_off43 v13 v17 k0_t7) a + S1.size a ≤ S2.size a) ∧
  (∀ k0_t7 : Fin (k0_t7_loop v13 v17).trips, ∀ (k0_h3 : k0_cond3 v13 v17 k0_t7 = 1#1), ∀ a, (k0_off44 v13 v17 k0_t7) a + S1x80x256.size a ≤ S2x80x256.size a) ∧
  (∀ k0_t7 : Fin (k0_t7_loop v13 v17).trips, ∀ (k0_h3 : k0_cond3 v13 v17 k0_t7 = 1#1), ∀ a, (k0_off45 v13 v17 k0_t7) a + S80x256.size a ≤ S50000x256.size a) ∧
  (∀ k0_t7 : Fin (k0_t7_loop v13 v17).trips, ∀ (k0_h3 : k0_cond3 v13 v17 k0_t7 = 1#1), ∀ a, (k0_off46 v13 v17 k0_t7) a + S1.size a ≤ S2.size a) ∧
  (∀ (k0_t7 : Fin (k0_t7_loop v13 v17).trips) (k0_t8 : Fin k0_t8_loop.trips) (k0_t9 : Fin k0_t9_loop.trips), ∀ a, (k0_off47 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off48 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off49 v13 v17 k0_t7 k0_t8 k0_t9) a + S1x1x16.size a ≤ S2x80x256.size a)
def k0_chk1_1 (v13 : BitVec 32) (v17 : BitVec 32) : Prop :=
  (∀ (k0_t7 : Fin (k0_t7_loop v13 v17).trips) (k0_t8 : Fin k0_t8_loop.trips) (k0_t9 : Fin k0_t9_loop.trips), ∀ a, (k0_off50 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off51 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off52 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off53 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off54 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off55 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off56 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off57 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off58 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off59 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off60 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off61 v13 v17 k0_t7 k0_t8 k0_t9) a + S1x1x16.size a ≤ S2x80x256.size a) ∧
  (∀ (k0_t7 : Fin (k0_t7_loop v13 v17).trips) (k0_t8 : Fin k0_t8_loop.trips) (k0_t9 : Fin k0_t9_loop.trips), ∀ a, (k0_off62 v13 v17 k0_t7 k0_t8 k0_t9) a + S1x1x16.size a ≤ S2x80x256.size a)
def k0_chk1 (v13 : BitVec 32) (v17 : BitVec 32) : Prop :=
  k0_chk1_0 v13 v17 ∧
  k0_chk1_1 v13 v17
theorem k0_off20_inb : ∀ (v13 : BitVec 32) (v17 : BitVec 32) (k0_hw1 : k0_chk1 v13 v17), ∀ (k0_h1 : k0_cond1 v13 v17 = 1#1), ∀ a, (k0_off20 v13) a + S80x256.size a ≤ S50000x256.size a := fun v13 v17 k0_hw1 k0_h1 => k0_hw1.1.1 k0_h1
theorem k0_t4_ok : ∀ (v13 : BitVec 32) (v17 : BitVec 32) (k0_hw1 : k0_chk1 v13 v17), (k0_t4_loop v13 v17).OK := fun v13 v17 k0_hw1 => k0_hw1.1.2.1
theorem k0_off21_inb : ∀ (v13 : BitVec 32) (v17 : BitVec 32) (k0_hw1 : k0_chk1 v13 v17) (k0_t4 : Fin (k0_t4_loop v13 v17).trips), ∀ a, (k0_off21 v13 v17 k0_t4) a + S1x80x256.size a ≤ S2x80x256.size a := fun v13 v17 k0_hw1 k0_t4 => k0_hw1.1.2.2.1 k0_t4
theorem k0_off22_inb : ∀ (v13 : BitVec 32) (v17 : BitVec 32) (k0_hw1 : k0_chk1 v13 v17) (k0_t4 : Fin (k0_t4_loop v13 v17).trips), ∀ a, (k0_off22 v13 v17 k0_t4) a + S1.size a ≤ S2.size a := fun v13 v17 k0_hw1 k0_t4 => k0_hw1.1.2.2.2.1 k0_t4
theorem k0_off23_inb : ∀ (v13 : BitVec 32) (v17 : BitVec 32) (k0_hw1 : k0_chk1 v13 v17) (k0_t4 : Fin (k0_t4_loop v13 v17).trips), ∀ (k0_h2 : k0_cond2 v13 v17 k0_t4 = 1#1), ∀ a, (k0_off23 v13 v17 k0_t4) a + S1x80x256.size a ≤ S2x80x256.size a := fun v13 v17 k0_hw1 k0_t4 k0_h2 => k0_hw1.1.2.2.2.2.1 k0_t4 k0_h2
theorem k0_off24_inb : ∀ (v13 : BitVec 32) (v17 : BitVec 32) (k0_hw1 : k0_chk1 v13 v17) (k0_t4 : Fin (k0_t4_loop v13 v17).trips), ∀ (k0_h2 : k0_cond2 v13 v17 k0_t4 = 1#1), ∀ a, (k0_off24 v13 v17 k0_t4) a + S80x256.size a ≤ S50000x256.size a := fun v13 v17 k0_hw1 k0_t4 k0_h2 => k0_hw1.1.2.2.2.2.2.1 k0_t4 k0_h2
theorem k0_off25_inb : ∀ (v13 : BitVec 32) (v17 : BitVec 32) (k0_hw1 : k0_chk1 v13 v17) (k0_t4 : Fin (k0_t4_loop v13 v17).trips), ∀ (k0_h2 : k0_cond2 v13 v17 k0_t4 = 1#1), ∀ a, (k0_off25 v13 v17 k0_t4) a + S1.size a ≤ S2.size a := fun v13 v17 k0_hw1 k0_t4 k0_h2 => k0_hw1.1.2.2.2.2.2.2.1 k0_t4 k0_h2
theorem k0_off26_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off26 v13 v17 k0_t4 k0_t5 k0_t6) a + S1x1x16.size a ≤ S2x80x256.size a := fun v13 v17 k0_hw1 k0_t4 k0_t5 k0_t6 => k0_hw1.1.2.2.2.2.2.2.2.1 k0_t4 k0_t5 k0_t6
theorem k0_off27_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off27 v13 v17 k0_t4 k0_t5 k0_t6) a + S1x1x16.size a ≤ S2x80x256.size a := fun v13 v17 k0_hw1 k0_t4 k0_t5 k0_t6 => k0_hw1.1.2.2.2.2.2.2.2.2.1 k0_t4 k0_t5 k0_t6
theorem k0_off28_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off28 v13 v17 k0_t4 k0_t5 k0_t6) a + S1x1x16.size a ≤ S2x80x256.size a := fun v13 v17 k0_hw1 k0_t4 k0_t5 k0_t6 => k0_hw1.1.2.2.2.2.2.2.2.2.2.1 k0_t4 k0_t5 k0_t6
theorem k0_off29_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off29 v13 v17 k0_t4 k0_t5 k0_t6) a + S1x1x16.size a ≤ S2x80x256.size a := fun v13 v17 k0_hw1 k0_t4 k0_t5 k0_t6 => k0_hw1.1.2.2.2.2.2.2.2.2.2.2.1 k0_t4 k0_t5 k0_t6
theorem k0_off30_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off30 v13 v17 k0_t4 k0_t5 k0_t6) a + S1x1x16.size a ≤ S2x80x256.size a := fun v13 v17 k0_hw1 k0_t4 k0_t5 k0_t6 => k0_hw1.1.2.2.2.2.2.2.2.2.2.2.2.1 k0_t4 k0_t5 k0_t6
theorem k0_off31_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off31 v13 v17 k0_t4 k0_t5 k0_t6) a + S1x1x16.size a ≤ S2x80x256.size a := fun v13 v17 k0_hw1 k0_t4 k0_t5 k0_t6 => k0_hw1.1.2.2.2.2.2.2.2.2.2.2.2.2.1 k0_t4 k0_t5 k0_t6
theorem k0_off32_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off32 v13 v17 k0_t4 k0_t5 k0_t6) a + S1x1x16.size a ≤ S2x80x256.size a := fun v13 v17 k0_hw1 k0_t4 k0_t5 k0_t6 => k0_hw1.1.2.2.2.2.2.2.2.2.2.2.2.2.2.1 k0_t4 k0_t5 k0_t6
theorem k0_off33_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off33 v13 v17 k0_t4 k0_t5 k0_t6) a + S1x1x16.size a ≤ S2x80x256.size a := fun v13 v17 k0_hw1 k0_t4 k0_t5 k0_t6 => k0_hw1.1.2.2.2.2.2.2.2.2.2.2.2.2.2.2.1 k0_t4 k0_t5 k0_t6
theorem k0_off34_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off34 v13 v17 k0_t4 k0_t5 k0_t6) a + S1x1x16.size a ≤ S2x80x256.size a := fun v13 v17 k0_hw1 k0_t4 k0_t5 k0_t6 => k0_hw1.1.2.2.2.2.2.2.2.2.2.2.2.2.2.2.2.1 k0_t4 k0_t5 k0_t6
theorem k0_off35_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off35 v13 v17 k0_t4 k0_t5 k0_t6) a + S1x1x16.size a ≤ S2x80x256.size a := fun v13 v17 k0_hw1 k0_t4 k0_t5 k0_t6 => k0_hw1.1.2.2.2.2.2.2.2.2.2.2.2.2.2.2.2.2.1 k0_t4 k0_t5 k0_t6
theorem k0_off36_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off36 v13 v17 k0_t4 k0_t5 k0_t6) a + S1x1x16.size a ≤ S2x80x256.size a := fun v13 v17 k0_hw1 k0_t4 k0_t5 k0_t6 => k0_hw1.1.2.2.2.2.2.2.2.2.2.2.2.2.2.2.2.2.2.1 k0_t4 k0_t5 k0_t6
theorem k0_off37_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off37 v13 v17 k0_t4 k0_t5 k0_t6) a + S1x1x16.size a ≤ S2x80x256.size a := fun v13 v17 k0_hw1 k0_t4 k0_t5 k0_t6 => k0_hw1.1.2.2.2.2.2.2.2.2.2.2.2.2.2.2.2.2.2.2.1 k0_t4 k0_t5 k0_t6
theorem k0_off38_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off38 v13 v17 k0_t4 k0_t5 k0_t6) a + S1x1x16.size a ≤ S2x80x256.size a := fun v13 v17 k0_hw1 k0_t4 k0_t5 k0_t6 => k0_hw1.1.2.2.2.2.2.2.2.2.2.2.2.2.2.2.2.2.2.2.2.1 k0_t4 k0_t5 k0_t6
theorem k0_off39_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off39 v13 v17 k0_t4 k0_t5 k0_t6) a + S1x1x16.size a ≤ S2x80x256.size a := fun v13 v17 k0_hw1 k0_t4 k0_t5 k0_t6 => k0_hw1.1.2.2.2.2.2.2.2.2.2.2.2.2.2.2.2.2.2.2.2.2.1 k0_t4 k0_t5 k0_t6
theorem k0_off40_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off40 v13 v17 k0_t4 k0_t5 k0_t6) a + S1x1x16.size a ≤ S2x80x256.size a := fun v13 v17 k0_hw1 k0_t4 k0_t5 k0_t6 => k0_hw1.1.2.2.2.2.2.2.2.2.2.2.2.2.2.2.2.2.2.2.2.2.2.1 k0_t4 k0_t5 k0_t6
theorem k0_off41_inb : ∀ (v13 : BitVec 32) (v17 : BitVec 32) (k0_hw1 : k0_chk1 v13 v17) (k0_t4 : Fin (k0_t4_loop v13 v17).trips) (k0_t5 : Fin k0_t5_loop.trips) (k0_t6 : Fin k0_t6_loop.trips), ∀ a, (k0_off41 v13 v17 k0_t4 k0_t5 k0_t6) a + S1x1x16.size a ≤ S2x80x256.size a := fun v13 v17 k0_hw1 k0_t4 k0_t5 k0_t6 => k0_hw1.1.2.2.2.2.2.2.2.2.2.2.2.2.2.2.2.2.2.2.2.2.2.2.1 k0_t4 k0_t5 k0_t6
theorem k0_t7_ok : ∀ (v13 : BitVec 32) (v17 : BitVec 32) (k0_hw1 : k0_chk1 v13 v17), (k0_t7_loop v13 v17).OK := fun v13 v17 k0_hw1 => k0_hw1.1.2.2.2.2.2.2.2.2.2.2.2.2.2.2.2.2.2.2.2.2.2.2.2.1
theorem k0_off42_inb : ∀ (v13 : BitVec 32) (v17 : BitVec 32) (k0_hw1 : k0_chk1 v13 v17) (k0_t7 : Fin (k0_t7_loop v13 v17).trips), ∀ a, (k0_off42 v13 v17 k0_t7) a + S1x80x256.size a ≤ S2x80x256.size a := fun v13 v17 k0_hw1 k0_t7 => k0_hw1.1.2.2.2.2.2.2.2.2.2.2.2.2.2.2.2.2.2.2.2.2.2.2.2.2.1 k0_t7
theorem k0_off43_inb : ∀ (v13 : BitVec 32) (v17 : BitVec 32) (k0_hw1 : k0_chk1 v13 v17) (k0_t7 : Fin (k0_t7_loop v13 v17).trips), ∀ a, (k0_off43 v13 v17 k0_t7) a + S1.size a ≤ S2.size a := fun v13 v17 k0_hw1 k0_t7 => k0_hw1.1.2.2.2.2.2.2.2.2.2.2.2.2.2.2.2.2.2.2.2.2.2.2.2.2.2.1 k0_t7
theorem k0_off44_inb : ∀ (v13 : BitVec 32) (v17 : BitVec 32) (k0_hw1 : k0_chk1 v13 v17) (k0_t7 : Fin (k0_t7_loop v13 v17).trips), ∀ (k0_h3 : k0_cond3 v13 v17 k0_t7 = 1#1), ∀ a, (k0_off44 v13 v17 k0_t7) a + S1x80x256.size a ≤ S2x80x256.size a := fun v13 v17 k0_hw1 k0_t7 k0_h3 => k0_hw1.1.2.2.2.2.2.2.2.2.2.2.2.2.2.2.2.2.2.2.2.2.2.2.2.2.2.2.1 k0_t7 k0_h3
theorem k0_off45_inb : ∀ (v13 : BitVec 32) (v17 : BitVec 32) (k0_hw1 : k0_chk1 v13 v17) (k0_t7 : Fin (k0_t7_loop v13 v17).trips), ∀ (k0_h3 : k0_cond3 v13 v17 k0_t7 = 1#1), ∀ a, (k0_off45 v13 v17 k0_t7) a + S80x256.size a ≤ S50000x256.size a := fun v13 v17 k0_hw1 k0_t7 k0_h3 => k0_hw1.1.2.2.2.2.2.2.2.2.2.2.2.2.2.2.2.2.2.2.2.2.2.2.2.2.2.2.2.1 k0_t7 k0_h3
theorem k0_off46_inb : ∀ (v13 : BitVec 32) (v17 : BitVec 32) (k0_hw1 : k0_chk1 v13 v17) (k0_t7 : Fin (k0_t7_loop v13 v17).trips), ∀ (k0_h3 : k0_cond3 v13 v17 k0_t7 = 1#1), ∀ a, (k0_off46 v13 v17 k0_t7) a + S1.size a ≤ S2.size a := fun v13 v17 k0_hw1 k0_t7 k0_h3 => k0_hw1.1.2.2.2.2.2.2.2.2.2.2.2.2.2.2.2.2.2.2.2.2.2.2.2.2.2.2.2.2.1 k0_t7 k0_h3
theorem k0_off47_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off47 v13 v17 k0_t7 k0_t8 k0_t9) a + S1x1x16.size a ≤ S2x80x256.size a := fun v13 v17 k0_hw1 k0_t7 k0_t8 k0_t9 => k0_hw1.1.2.2.2.2.2.2.2.2.2.2.2.2.2.2.2.2.2.2.2.2.2.2.2.2.2.2.2.2.2.1 k0_t7 k0_t8 k0_t9
theorem k0_off48_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off48 v13 v17 k0_t7 k0_t8 k0_t9) a + S1x1x16.size a ≤ S2x80x256.size a := fun v13 v17 k0_hw1 k0_t7 k0_t8 k0_t9 => k0_hw1.1.2.2.2.2.2.2.2.2.2.2.2.2.2.2.2.2.2.2.2.2.2.2.2.2.2.2.2.2.2.2.1 k0_t7 k0_t8 k0_t9
theorem k0_off49_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off49 v13 v17 k0_t7 k0_t8 k0_t9) a + S1x1x16.size a ≤ S2x80x256.size a := fun v13 v17 k0_hw1 k0_t7 k0_t8 k0_t9 => k0_hw1.1.2.2.2.2.2.2.2.2.2.2.2.2.2.2.2.2.2.2.2.2.2.2.2.2.2.2.2.2.2.2.2 k0_t7 k0_t8 k0_t9
theorem k0_off50_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off50 v13 v17 k0_t7 k0_t8 k0_t9) a + S1x1x16.size a ≤ S2x80x256.size a := fun v13 v17 k0_hw1 k0_t7 k0_t8 k0_t9 => k0_hw1.2.1 k0_t7 k0_t8 k0_t9
theorem k0_off51_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off51 v13 v17 k0_t7 k0_t8 k0_t9) a + S1x1x16.size a ≤ S2x80x256.size a := fun v13 v17 k0_hw1 k0_t7 k0_t8 k0_t9 => k0_hw1.2.2.1 k0_t7 k0_t8 k0_t9
theorem k0_off52_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off52 v13 v17 k0_t7 k0_t8 k0_t9) a + S1x1x16.size a ≤ S2x80x256.size a := fun v13 v17 k0_hw1 k0_t7 k0_t8 k0_t9 => k0_hw1.2.2.2.1 k0_t7 k0_t8 k0_t9
theorem k0_off53_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off53 v13 v17 k0_t7 k0_t8 k0_t9) a + S1x1x16.size a ≤ S2x80x256.size a := fun v13 v17 k0_hw1 k0_t7 k0_t8 k0_t9 => k0_hw1.2.2.2.2.1 k0_t7 k0_t8 k0_t9
theorem k0_off54_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off54 v13 v17 k0_t7 k0_t8 k0_t9) a + S1x1x16.size a ≤ S2x80x256.size a := fun v13 v17 k0_hw1 k0_t7 k0_t8 k0_t9 => k0_hw1.2.2.2.2.2.1 k0_t7 k0_t8 k0_t9
theorem k0_off55_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off55 v13 v17 k0_t7 k0_t8 k0_t9) a + S1x1x16.size a ≤ S2x80x256.size a := fun v13 v17 k0_hw1 k0_t7 k0_t8 k0_t9 => k0_hw1.2.2.2.2.2.2.1 k0_t7 k0_t8 k0_t9
theorem k0_off56_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off56 v13 v17 k0_t7 k0_t8 k0_t9) a + S1x1x16.size a ≤ S2x80x256.size a := fun v13 v17 k0_hw1 k0_t7 k0_t8 k0_t9 => k0_hw1.2.2.2.2.2.2.2.1 k0_t7 k0_t8 k0_t9
theorem k0_off57_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off57 v13 v17 k0_t7 k0_t8 k0_t9) a + S1x1x16.size a ≤ S2x80x256.size a := fun v13 v17 k0_hw1 k0_t7 k0_t8 k0_t9 => k0_hw1.2.2.2.2.2.2.2.2.1 k0_t7 k0_t8 k0_t9
theorem k0_off58_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off58 v13 v17 k0_t7 k0_t8 k0_t9) a + S1x1x16.size a ≤ S2x80x256.size a := fun v13 v17 k0_hw1 k0_t7 k0_t8 k0_t9 => k0_hw1.2.2.2.2.2.2.2.2.2.1 k0_t7 k0_t8 k0_t9
theorem k0_off59_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off59 v13 v17 k0_t7 k0_t8 k0_t9) a + S1x1x16.size a ≤ S2x80x256.size a := fun v13 v17 k0_hw1 k0_t7 k0_t8 k0_t9 => k0_hw1.2.2.2.2.2.2.2.2.2.2.1 k0_t7 k0_t8 k0_t9
theorem k0_off60_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off60 v13 v17 k0_t7 k0_t8 k0_t9) a + S1x1x16.size a ≤ S2x80x256.size a := fun v13 v17 k0_hw1 k0_t7 k0_t8 k0_t9 => k0_hw1.2.2.2.2.2.2.2.2.2.2.2.1 k0_t7 k0_t8 k0_t9
theorem k0_off61_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off61 v13 v17 k0_t7 k0_t8 k0_t9) a + S1x1x16.size a ≤ S2x80x256.size a := fun v13 v17 k0_hw1 k0_t7 k0_t8 k0_t9 => k0_hw1.2.2.2.2.2.2.2.2.2.2.2.2.1 k0_t7 k0_t8 k0_t9
theorem k0_off62_inb : ∀ (v13 : BitVec 32) (v17 : BitVec 32) (k0_hw1 : k0_chk1 v13 v17) (k0_t7 : Fin (k0_t7_loop v13 v17).trips) (k0_t8 : Fin k0_t8_loop.trips) (k0_t9 : Fin k0_t9_loop.trips), ∀ a, (k0_off62 v13 v17 k0_t7 k0_t8 k0_t9) a + S1x1x16.size a ≤ S2x80x256.size a := fun v13 v17 k0_hw1 k0_t7 k0_t8 k0_t9 => k0_hw1.2.2.2.2.2.2.2.2.2.2.2.2.2 k0_t7 k0_t8 k0_t9

def k0_chk21 (v251 : IVec S16 32) : Prop :=
  (∀ a x, ((![v251] : Fin 1 → IVec S16 32) a x).toNat < S50176.size a)
theorem k0_idx20_inb : ∀ (v251 : IVec S16 32) (k0_hw21 : k0_chk21 v251), ∀ a x, ((![v251] : Fin 1 → IVec S16 32) a x).toNat < S50176.size a := fun v251 k0_hw21 => k0_hw21

def k0_chk22 (v255 : IVec S16 32) : Prop :=
  (∀ a x, ((![v255] : Fin 1 → IVec S16 32) a x).toNat < S50176.size a)
theorem k0_idx21_inb : ∀ (v255 : IVec S16 32) (k0_hw22 : k0_chk22 v255), ∀ a x, ((![v255] : Fin 1 → IVec S16 32) a x).toNat < S50176.size a := fun v255 k0_hw22 => k0_hw22

def k0_chk23 (v267 : IVec S16 32) (v271 : IVec S16 32) : Prop :=
  (∀ a x, ((![v267, v271] : Fin 2 → IVec S16 32) a x).toNat < S32x256.size a)
theorem k0_idx22_inb : ∀ (v267 : IVec S16 32) (v271 : IVec S16 32) (k0_hw23 : k0_chk23 v267 v271), ∀ a x, ((![v267, v271] : Fin 2 → IVec S16 32) a x).toNat < S32x256.size a := fun v267 v271 k0_hw23 => k0_hw23

def k0_chk24 (v267 : IVec S16 32) (v276 : IVec S16 32) : Prop :=
  (∀ a x, ((![v267, v276] : Fin 2 → IVec S16 32) a x).toNat < S32x256.size a)
theorem k0_idx23_inb : ∀ (v267 : IVec S16 32) (v276 : IVec S16 32) (k0_hw24 : k0_chk24 v267 v276), ∀ a x, ((![v267, v276] : Fin 2 → IVec S16 32) a x).toNat < S32x256.size a := fun v267 v276 k0_hw24 => k0_hw24

def k0_chk25 (v267 : IVec S16 32) (v281 : IVec S16 32) : Prop :=
  (∀ a x, ((![v267, v281] : Fin 2 → IVec S16 32) a x).toNat < S32x256.size a)
theorem k0_idx24_inb : ∀ (v267 : IVec S16 32) (v281 : IVec S16 32) (k0_hw25 : k0_chk25 v267 v281), ∀ a x, ((![v267, v281] : Fin 2 → IVec S16 32) a x).toNat < S32x256.size a := fun v267 v281 k0_hw25 => k0_hw25

def k0_chk26 (v267 : IVec S16 32) (v286 : IVec S16 32) : Prop :=
  (∀ a x, ((![v267, v286] : Fin 2 → IVec S16 32) a x).toNat < S32x256.size a)
theorem k0_idx25_inb : ∀ (v267 : IVec S16 32) (v286 : IVec S16 32) (k0_hw26 : k0_chk26 v267 v286), ∀ a x, ((![v267, v286] : Fin 2 → IVec S16 32) a x).toNat < S32x256.size a := fun v267 v286 k0_hw26 => k0_hw26

def k0_chk27 (v267 : IVec S16 32) (v291 : IVec S16 32) : Prop :=
  (∀ a x, ((![v267, v291] : Fin 2 → IVec S16 32) a x).toNat < S32x256.size a)
theorem k0_idx26_inb : ∀ (v267 : IVec S16 32) (v291 : IVec S16 32) (k0_hw27 : k0_chk27 v267 v291), ∀ a x, ((![v267, v291] : Fin 2 → IVec S16 32) a x).toNat < S32x256.size a := fun v267 v291 k0_hw27 => k0_hw27

def k0_chk28 (v267 : IVec S16 32) (v296 : IVec S16 32) : Prop :=
  (∀ a x, ((![v267, v296] : Fin 2 → IVec S16 32) a x).toNat < S32x256.size a)
theorem k0_idx27_inb : ∀ (v267 : IVec S16 32) (v296 : IVec S16 32) (k0_hw28 : k0_chk28 v267 v296), ∀ a x, ((![v267, v296] : Fin 2 → IVec S16 32) a x).toNat < S32x256.size a := fun v267 v296 k0_hw28 => k0_hw28

def k0_chk29 (v267 : IVec S16 32) (v301 : IVec S16 32) : Prop :=
  (∀ a x, ((![v267, v301] : Fin 2 → IVec S16 32) a x).toNat < S32x256.size a)
theorem k0_idx28_inb : ∀ (v267 : IVec S16 32) (v301 : IVec S16 32) (k0_hw29 : k0_chk29 v267 v301), ∀ a x, ((![v267, v301] : Fin 2 → IVec S16 32) a x).toNat < S32x256.size a := fun v267 v301 k0_hw29 => k0_hw29

def k0_chk30 (v267 : IVec S16 32) (v306 : IVec S16 32) : Prop :=
  (∀ a x, ((![v267, v306] : Fin 2 → IVec S16 32) a x).toNat < S32x256.size a)
theorem k0_idx29_inb : ∀ (v267 : IVec S16 32) (v306 : IVec S16 32) (k0_hw30 : k0_chk30 v267 v306), ∀ a x, ((![v267, v306] : Fin 2 → IVec S16 32) a x).toNat < S32x256.size a := fun v267 v306 k0_hw30 => k0_hw30

def k0_chk31 (v267 : IVec S16 32) (v311 : IVec S16 32) : Prop :=
  (∀ a x, ((![v267, v311] : Fin 2 → IVec S16 32) a x).toNat < S32x256.size a)
theorem k0_idx30_inb : ∀ (v267 : IVec S16 32) (v311 : IVec S16 32) (k0_hw31 : k0_chk31 v267 v311), ∀ a x, ((![v267, v311] : Fin 2 → IVec S16 32) a x).toNat < S32x256.size a := fun v267 v311 k0_hw31 => k0_hw31

def k0_chk32 (v267 : IVec S16 32) (v316 : IVec S16 32) : Prop :=
  (∀ a x, ((![v267, v316] : Fin 2 → IVec S16 32) a x).toNat < S32x256.size a)
theorem k0_idx31_inb : ∀ (v267 : IVec S16 32) (v316 : IVec S16 32) (k0_hw32 : k0_chk32 v267 v316), ∀ a x, ((![v267, v316] : Fin 2 → IVec S16 32) a x).toNat < S32x256.size a := fun v267 v316 k0_hw32 => k0_hw32

def k0_chk33 (v267 : IVec S16 32) (v321 : IVec S16 32) : Prop :=
  (∀ a x, ((![v267, v321] : Fin 2 → IVec S16 32) a x).toNat < S32x256.size a)
theorem k0_idx32_inb : ∀ (v267 : IVec S16 32) (v321 : IVec S16 32) (k0_hw33 : k0_chk33 v267 v321), ∀ a x, ((![v267, v321] : Fin 2 → IVec S16 32) a x).toNat < S32x256.size a := fun v267 v321 k0_hw33 => k0_hw33

def k0_chk34 (v267 : IVec S16 32) (v326 : IVec S16 32) : Prop :=
  (∀ a x, ((![v267, v326] : Fin 2 → IVec S16 32) a x).toNat < S32x256.size a)
theorem k0_idx33_inb : ∀ (v267 : IVec S16 32) (v326 : IVec S16 32) (k0_hw34 : k0_chk34 v267 v326), ∀ a x, ((![v267, v326] : Fin 2 → IVec S16 32) a x).toNat < S32x256.size a := fun v267 v326 k0_hw34 => k0_hw34

def k0_chk35 (v267 : IVec S16 32) (v331 : IVec S16 32) : Prop :=
  (∀ a x, ((![v267, v331] : Fin 2 → IVec S16 32) a x).toNat < S32x256.size a)
theorem k0_idx34_inb : ∀ (v267 : IVec S16 32) (v331 : IVec S16 32) (k0_hw35 : k0_chk35 v267 v331), ∀ a x, ((![v267, v331] : Fin 2 → IVec S16 32) a x).toNat < S32x256.size a := fun v267 v331 k0_hw35 => k0_hw35

def k0_chk36 (v267 : IVec S16 32) (v336 : IVec S16 32) : Prop :=
  (∀ a x, ((![v267, v336] : Fin 2 → IVec S16 32) a x).toNat < S32x256.size a)
theorem k0_idx35_inb : ∀ (v267 : IVec S16 32) (v336 : IVec S16 32) (k0_hw36 : k0_chk36 v267 v336), ∀ a x, ((![v267, v336] : Fin 2 → IVec S16 32) a x).toNat < S32x256.size a := fun v267 v336 k0_hw36 => k0_hw36

def k0_chk37 (v267 : IVec S16 32) (v341 : IVec S16 32) : Prop :=
  (∀ a x, ((![v267, v341] : Fin 2 → IVec S16 32) a x).toNat < S32x256.size a)
theorem k0_idx36_inb : ∀ (v267 : IVec S16 32) (v341 : IVec S16 32) (k0_hw37 : k0_chk37 v267 v341), ∀ a x, ((![v267, v341] : Fin 2 → IVec S16 32) a x).toNat < S32x256.size a := fun v267 v341 k0_hw37 => k0_hw37

def k0_chk38 (v267 : IVec S16 32) (v346 : IVec S16 32) : Prop :=
  (∀ a x, ((![v267, v346] : Fin 2 → IVec S16 32) a x).toNat < S32x256.size a)
theorem k0_idx37_inb : ∀ (v267 : IVec S16 32) (v346 : IVec S16 32) (k0_hw38 : k0_chk38 v267 v346), ∀ a x, ((![v267, v346] : Fin 2 → IVec S16 32) a x).toNat < S32x256.size a := fun v267 v346 k0_hw38 => k0_hw38

def k0_chk39 (v2 : IVec S16 32) (v267 : IVec S16 32) : Prop :=
  (∀ a x, ((![v267, v2] : Fin 2 → IVec S16 32) a x).toNat < S32x16.size a)
theorem k0_idx38_inb : ∀ (v2 : IVec S16 32) (v267 : IVec S16 32) (k0_hw39 : k0_chk39 v2 v267), ∀ a x, ((![v267, v2] : Fin 2 → IVec S16 32) a x).toNat < S32x16.size a := fun v2 v267 k0_hw39 => k0_hw39
def k0_off63 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_32 : BitVec 32 := 32#32
  let v81 : BitVec 32 := Scalar.muli v1 c32_i32_32
  let c0_i32_34_r3 : BitVec 32 := 0#32
  ![v81.toNat, 0]
def k0_off64 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_33 : BitVec 32 := 32#32
  let v82 : BitVec 32 := Scalar.muli v1 c32_i32_33
  let c0_i32_34_r4 : BitVec 32 := 0#32
  ![v82.toNat, 0]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x256 : Shape := ⟨2, ![50000, 256]⟩
abbrev S50000 : Shape := ⟨1, ![50000]⟩
abbrev S1x256 : Shape := ⟨2, ![1, 256]⟩
abbrev S1 : Shape := ⟨1, ![1]⟩
abbrev S512x256 : Shape := ⟨2, ![512, 256]⟩
abbrev S512 : Shape := ⟨1, ![512]⟩
abbrev S256x1 : Shape := ⟨2, ![256, 1]⟩
abbrev S50000x1 : Shape := ⟨2, ![50000, 1]⟩
abbrev S1x1 : Shape := ⟨2, ![1, 1]⟩
abbrev S_ : Shape := ⟨0, ![]⟩
abbrev S256x512 : Shape := ⟨2, ![256, 512]⟩
abbrev S50000x512 : Shape := ⟨2, ![50000, 512]⟩
abbrev S1x512 : Shape := ⟨2, ![1, 512]⟩
abbrev S1024x512 : Shape := ⟨2, ![1024, 512]⟩

abbrev nBuf : Space → Nat
  | .hbm => 30
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S1x256, .f32⟩
  | .hbm, ⟨3, _⟩ => ⟨S1, .f32⟩
  | .hbm, ⟨4, _⟩ => ⟨S512x256, .f32⟩
  | .hbm, ⟨5, _⟩ => ⟨S512, .f32⟩
  | .hbm, ⟨6, _⟩ => ⟨S256x1, .f32⟩
  | .hbm, ⟨7, _⟩ => ⟨S50000x1, .f32⟩
  | .hbm, ⟨8, _⟩ => ⟨S1x1, .f32⟩
  | .hbm, ⟨9, _⟩ => ⟨S50000x1, .f32⟩
  | .hbm, ⟨10, _⟩ => ⟨S50000x1, .f32⟩
  | .hbm, ⟨11, _⟩ => ⟨S50000x1, .f32⟩
  | .hbm, ⟨12, _⟩ => ⟨S50000x1, .f32⟩
  | .hbm, ⟨13, _⟩ => ⟨S_, .f32⟩
  | .hbm, ⟨14, _⟩ => ⟨S50000x1, .f32⟩
  | .hbm, ⟨15, _⟩ => ⟨S50000x1, .f32⟩
  | .hbm, ⟨16, _⟩ => ⟨S_, .f32⟩
  | .hbm, ⟨17, _⟩ => ⟨S50000x1, .f32⟩
  | .hbm, ⟨18, _⟩ => ⟨S50000x1, .f32⟩
  | .hbm, ⟨19, _⟩ => ⟨S256x512, .f32⟩
  | .hbm, ⟨20, _⟩ => ⟨S50000x512, .f32⟩
  | .hbm, ⟨21, _⟩ => ⟨S1x512, .f32⟩
  | .hbm, ⟨22, _⟩ => ⟨S50000x512, .f32⟩
  | .hbm, ⟨23, _⟩ => ⟨S50000x512, .f32⟩
  | .hbm, ⟨24, _⟩ => ⟨S50000x512, .f32⟩
  | .hbm, ⟨25, _⟩ => ⟨S50000x512, .f32⟩
  | .hbm, ⟨26, _⟩ => ⟨S_, .f32⟩
  | .hbm, ⟨27, _⟩ => ⟨S1024x512, .f32⟩
  | .hbm, ⟨28, _⟩ => ⟨S50000x1, .i32⟩
  | .hbm, ⟨29, _⟩ => ⟨S1024x512, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Word.lean ====
/-
  The word arithmetic of a tile: the first and last chunk of its rows, the slot of a chunk, the row of a lane, as the
  kernel computes them from the two counted words, and the check that the body makes of those two words.
-/
module

public import proofs.«01_k».proof.Proof.Gen.KernelIdeal
public import Idealize.ShloMosaic.Lib.Affine
public import Idealize.ShloMosaic.Lib.LoopRemainder

@[expose] public section

namespace Cert.Proof.Seg

open Cert.KernelIdeal Cert.KernelIdeal.Gen
open Idealize.ShloMosaic
open Idealize.ShloMosaic.Affine (IsInt)

/-- The floor of a word by 80, as the kernel computes it. -/
def fdiv (x : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt 80#32 0#32)) (Scalar.extui (Scalar.cmpi .slt 80#32 0#32))))
      (Scalar.cmpi .ne (Scalar.remsi x 80#32) 0#32))
    (Scalar.subi (Scalar.divsi x 80#32) 1#32) (Scalar.divsi x 80#32)

/-- The remainder of a word by 2, as the kernel computes it. -/
def fmod2 (x : BitVec 32) : BitVec 32 :=
  let two : BitVec 32 := Scalar.select (Scalar.cmpi .eq 2#32 0#32) 1#32 2#32
  let r : BitVec 32 := Scalar.remsi x two
  Scalar.select (Scalar.andi (Scalar.xori (Scalar.cmpi .slt r 0#32) (Scalar.cmpi .slt two 0#32)) (Scalar.cmpi .ne r 0#32)) (Scalar.addi r two) r

theorem fdiv_isInt {x : BitVec 32} {e : Int} (hx : IsInt x e) (h0 : 0 ≤ e) (h1 : e < 2 ^ 31) : IsInt (fdiv x) (e / 80) := by
  have h80 : IsInt 80#32 80 := Affine.ofNat _ (by omega)
  have hz : IsInt 0#32 0 := Affine.ofNat _ (by omega)
  have hd : IsInt (Scalar.divsi x 80#32) (e / 80) := Affine.divsi hx h80 (by omega)
  have ho : IsInt 1#32 1 := Affine.ofNat _ (by omega)
  have hs : IsInt (Scalar.subi (Scalar.divsi x 80#32) 1#32) (e / 80 - 1) := Affine.subi hd ho (by omega)
  have hr : IsInt (Scalar.remsi x 80#32) (e % 80) := Affine.remsi hx h80 (by omega)
  have hneg : IsInt (Scalar.extui (Scalar.cmpi .slt x 0#32)) 0 := Affine.extui_fails (Affine.slt_fails hx hz (by omega)) rfl
  have hone : IsInt (Scalar.subi (Scalar.extui (Scalar.cmpi .sgt 80#32 0#32)) (Scalar.extui (Scalar.cmpi .slt 80#32 0#32))) 1 :=
    Affine.subi (Affine.extui_holds (Affine.sgt_holds h80 hz (by omega)) rfl) (Affine.extui_fails (Affine.slt_fails h80 hz (by omega)) rfl) (by omega)
  unfold fdiv
  rcases eq_or_lt_of_le h0 with he | he
  · have hpos : IsInt (Scalar.extui (Scalar.cmpi .sgt x 0#32)) 0 := Affine.extui_fails (Affine.sgt_fails hx hz (by omega)) rfl
    exact Affine.select_fails (Affine.andi_fails_right (Affine.cmpi_term .ne (Affine.subi (e := 0) hpos hneg (by omega)) hone)
      (Affine.ne_fails hr hz (by omega))) hs hd rfl
  · have hpos : IsInt (Scalar.extui (Scalar.cmpi .sgt x 0#32)) 1 := Affine.extui_holds (Affine.sgt_holds hx hz (by omega)) rfl
    exact Affine.select_fails (Affine.andi_fails_left (Affine.ne_fails (Affine.subi (e := 1) hpos hneg (by omega)) hone (by omega))
      (Affine.cmpi_term .ne hr hz)) hs hd rfl

theorem fmod2_isInt {x : BitVec 32} {e : Int} (hx : IsInt x e) (h0 : 0 ≤ e) : IsInt (fmod2 x) (e % 2) := by
  have h2 : IsInt (Scalar.select (Scalar.cmpi .eq 2#32 0#32) 1#32 2#32) 2 := by
    rw [show Scalar.select (Scalar.cmpi .eq 2#32 0#32) 1#32 2#32 = (2#32 : BitVec 32) from by decide]; exact Affine.ofNat _ (by omega)
  have hz : IsInt 0#32 0 := Affine.ofNat _ (by omega)
  have hr := Affine.remsi (e := e % 2) hx h2 (by omega)
  exact Affine.select_fails (Affine.andi_fails_left (Affine.xori_ff (Affine.slt_fails hr hz (by omega)) (Affine.slt_fails h2 hz (by omega)))
    (Affine.cmpi_term .ne hr hz)) (Affine.addi hr h2 ⟨rfl, by omega, by omega⟩) hr rfl

/-- The first chunk and the chunk after the last. -/
abbrev q0w (v13 : BitVec 32) : BitVec 32 := fdiv v13
abbrev q1w (v17 : BitVec 32) : BitVec 32 := fdiv (Scalar.subi (Scalar.addi v17 80#32) 1#32)

section

variable {v13 v17 : BitVec 32} {lo hi : ℕ}

theorem q0w_isInt (h : IsInt v13 lo) (hlo : lo ≤ 50000) : IsInt (q0w v13) ((lo / 80 : ℕ) : Int) := by
  have := fdiv_isInt h (by omega) (by omega)
  rwa [show ((lo : Int) / 80) = ((lo / 80 : ℕ) : Int) by omega] at this

theorem q1w_isInt (h : IsInt v17 hi) (hhi : hi ≤ 50000) : IsInt (q1w v17) (((hi + 79) / 80 : ℕ) : Int) := by
  have h1 : IsInt (Scalar.addi v17 80#32) ((hi : Int) + 80) := Affine.addi h (Affine.ofNat (e := 80) _ (by omega)) ⟨rfl, by omega, by omega⟩
  have h2 : IsInt (Scalar.subi (Scalar.addi v17 80#32) 1#32) ((hi : Int) + 79) := Affine.subi h1 (Affine.ofNat (e := 1) _ (by omega)) ⟨by omega, by omega, by omega⟩
  have := fdiv_isInt h2 (by omega) (by omega)
  rwa [show (((hi : Int) + 79) / 80) = (((hi + 79) / 80 : ℕ) : Int) by omega] at this

/-- What is asked of the two counted words: the counts lie in order, within the rows. -/
structure Counted (v13 v17 : BitVec 32) (lo hi : ℕ) : Prop where
  lo_int : IsInt v13 lo
  hi_int : IsInt v17 hi
  le : lo ≤ hi
  hi_le : hi ≤ 50000

theorem loop4_eq (v13 v17 : BitVec 32) :
    k0_t4_loop v13 v17 = ⟨q0w v13, Scalar.addi (q0w v13) (Scalar.muli (Scalar.divsi (Scalar.subi (q1w v17) (q0w v13)) 1#32) 1#32), 1#32⟩ := rfl
theorem loop7_eq (v13 v17 : BitVec 32) :
    k0_t7_loop v13 v17 = ⟨Scalar.addi (q0w v13) (Scalar.muli (Scalar.divsi (Scalar.subi (q1w v17) (q0w v13)) 1#32) 1#32),
      Scalar.addi (q0w v13) (Scalar.subi (q1w v17) (q0w v13)), 1#32⟩ := rfl

theorem t7_trips (v13 v17 : BitVec 32) : (k0_t7_loop v13 v17).trips = 0 := Scf.rem_trips _ _
theorem t7_none (v13 v17 : BitVec 32) (k : Fin (k0_t7_loop v13 v17).trips) : False := Scf.rem_no_trip _ _ k

variable (H : Counted v13 v17 lo hi)

/-- The number of chunks. -/
abbrev nChunks (lo hi : ℕ) : ℕ := (hi + 79) / 80 - lo / 80

include H in
theorem ub4_isInt : IsInt (k0_t4_loop v13 v17).ub ((((hi + 79) / 80 : ℕ) : Int)) := by
  have h1 := q1w_isInt H.hi_int H.hi_le
  have h0 := q0w_isInt H.lo_int (H.le.trans H.hi_le)
  have := H.le; have := H.hi_le
  rw [loop4_eq]; dsimp only; rw [Scalar.muli_divsi_one]
  exact Affine.addi h0 (Affine.subi h1 h0 ⟨rfl, by omega, by omega⟩) ⟨by omega, by omega, by omega⟩

include H in
theorem t4_trips : (k0_t4_loop v13 v17).trips = nChunks lo hi := by
  have h0 := q0w_isInt H.lo_int (H.le.trans H.hi_le)
  have := H.le; have := H.hi_le
  exact Affine.trips_eq h0 (ub4_isInt H) (Affine.ofNat (e := 1) 1 (by omega)) _ (by unfold nChunks; omega)

include H in
theorem t4_ok : (k0_t4_loop v13 v17).OK := by
  have h0 := q0w_isInt H.lo_int (H.le.trans H.hi_le)
  have := H.le; have := H.hi_le
  exact Affine.ok h0 (ub4_isInt H) (Affine.ofNat (e := 1) 1 (by omega)) (by omega)

/-- The chunk of trip `i`, as a word. -/
abbrev qw (v13 : BitVec 32) (i : ℕ) : BitVec 32 := Scf.iv (q0w v13) 1#32 i
/-- The slot of trip `i`, as a word. -/
abbrev slotw (v13 : BitVec 32) (i : ℕ) : BitVec 32 := fmod2 (Scalar.subi (qw v13 i) (q0w v13))
/-- The row of lane `l` of group `m`, within its chunk, as a word. -/
abbrev roww (m l : ℕ) : BitVec 32 := Scalar.addi (Scalar.muli (Scf.iv 0#32 1#32 m) 16#32) (Scf.iv 0#32 1#32 l)

include H in
theorem qw_isInt {i : ℕ} (hi' : i < nChunks lo hi) : IsInt (qw v13 i) (((lo / 80 + i : ℕ)) : Int) := by
  have h0 := q0w_isInt H.lo_int (H.le.trans H.hi_le)
  have := H.le; have := H.hi_le
  unfold nChunks at hi'
  exact Affine.relit (Affine.iv (e := ((lo / 80 : ℕ) : Int) + i) h0 (Affine.ofNat (e := 1) 1 (by omega)) i (by omega)) (by omega)

include H in
theorem slotw_isInt {i : ℕ} (hi' : i < nChunks lo hi) : IsInt (slotw v13 i) ((i % 2 : ℕ) : Int) := by
  have h0 := q0w_isInt H.lo_int (H.le.trans H.hi_le)
  have h1 := qw_isInt H hi'
  have := H.le; have := H.hi_le
  unfold nChunks at hi'
  exact Affine.relit (fmod2_isInt (e := i) (Affine.subi h1 h0 ⟨by omega, by omega, by omega⟩) (by omega)) (by omega)

include H in
theorem slotw_toNat {i : ℕ} (hi' : i < nChunks lo hi) : (slotw v13 i).toNat = i % 2 := by
  have := Affine.toNat_of (slotw_isInt H hi') (by omega); omega

include H in
theorem slotw'_toNat {i : ℕ} (hi' : i < nChunks lo hi) : (Scalar.subi 1#32 (slotw v13 i)).toNat = (i + 1) % 2 := by
  have := Affine.toNat_of (Affine.subi (e := 1 - ((i % 2 : ℕ) : Int)) (Affine.ofNat (e := 1) 1 (by omega)) (slotw_isInt H hi') ⟨rfl, by omega, by omega⟩) (by omega)
  omega

theorem roww_toNat {m l : ℕ} (hm : m < 5) (hl : l < 16) : (roww m l).toNat = 16 * m + l := by
  have hz : IsInt 0#32 0 := Affine.ofNat _ (by omega)
  have ho : IsInt 1#32 1 := Affine.ofNat _ (by omega)
  have h1 := Affine.iv (e := (m : Int)) hz ho m (by omega)
  have h2 := Affine.iv (e := (l : Int)) hz ho l (by omega)
  have h3 := Affine.muli (e := (m : Int) * 16) h1 (Affine.ofNat (e := 16) 16 (by omega)) (by omega)
  have := Affine.toNat_of (Affine.addi (e := (m : Int) * 16 + l) h3 h2 (by omega)) (by omega)
  show (Scalar.addi (Scalar.muli (Scf.iv 0#32 1#32 m) 16#32) (Scf.iv 0#32 1#32 l)).toNat = _
  omega

/-- The position of the current row among all rows, as a word. -/
abbrev posw (v13 : BitVec 32) (i m l : ℕ) : BitVec 32 :=
  Scalar.addi (Scalar.addi (Scalar.muli (qw v13 i) 80#32) (Scalar.muli (Scf.iv 0#32 1#32 m) 16#32)) (Scf.iv 0#32 1#32 l)

/-- The row at which chunk `i`, group `m`, lane `l` of a tile stands. -/
abbrev rowAt (lo i m l : ℕ) : ℕ := 80 * (lo / 80) + (80 * i + (16 * m + l))

include H in
theorem posw_isInt {i m l : ℕ} (hi' : i < nChunks lo hi) (hm : m < 5) (hl : l < 16) : IsInt (posw v13 i m l) (rowAt lo i m l : ℕ) := by
  have hq := qw_isInt H hi'
  have := H.le; have := H.hi_le
  unfold nChunks at hi'
  have hz : IsInt 0#32 0 := Affine.ofNat _ (by omega)
  have ho : IsInt 1#32 1 := Affine.ofNat _ (by omega)
  have h1 := Affine.iv (e := (m : Int)) hz ho m (by omega)
  have h2 := Affine.iv (e := (l : Int)) hz ho l (by omega)
  have h3 := Affine.muli (e := (m : Int) * 16) h1 (Affine.ofNat (e := 16) 16 (by omega)) (by omega)
  have h4 := Affine.muli (e := ((lo / 80 + i : ℕ) : Int) * 80) hq (Affine.ofNat (e := 80) 80 (by omega)) (by omega)
  have h5 := Affine.addi (e := ((lo / 80 + i : ℕ) : Int) * 80 + m * 16) h4 h3 (by omega)
  exact Affine.addi h5 h2 (by unfold rowAt; omega)

include H in
theorem rowAt_lt {i m l : ℕ} (hi' : i < nChunks lo hi) (hm : m < 5) (hl : l < 16) : rowAt lo i m l < 50000 := by
  have := H.le; have := H.hi_le
  unfold nChunks at hi'; unfold rowAt; omega

theorem off20_eq : k0_off20 v13 = ![(Scalar.muli (q0w v13) 80#32).toNat, 0] := rfl
theorem off21_eq (i : Fin (k0_t4_loop v13 v17).trips) : k0_off21 v13 v17 i = ![(slotw v13 i).toNat, 0, 0] := rfl
theorem off22_eq (i : Fin (k0_t4_loop v13 v17).trips) : k0_off22 v13 v17 i = ![(slotw v13 i).toNat] := rfl
theorem off23_eq (i : Fin (k0_t4_loop v13 v17).trips) : k0_off23 v13 v17 i = ![(Scalar.subi 1#32 (slotw v13 i)).toNat, 0, 0] := rfl
theorem off24_eq (i : Fin (k0_t4_loop v13 v17).trips) : k0_off24 v13 v17 i = ![(Scalar.muli (Scalar.addi (qw v13 i) 1#32) 80#32).toNat, 0] := rfl
theorem off25_eq (i : Fin (k0_t4_loop v13 v17).trips) : k0_off25 v13 v17 i = ![(Scalar.subi 1#32 (slotw v13 i)).toNat] := rfl
theorem cond1_eq : k0_cond1 v13 v17 = Scalar.cmpi .ne (Scalar.extui (Scalar.cmpi .slt (q0w v13) (q1w v17))) 0#32 := rfl
theorem cond2_eq (i : Fin (k0_t4_loop v13 v17).trips) :
    k0_cond2 v13 v17 i = Scalar.cmpi .ne (Scalar.extui (Scalar.cmpi .slt (Scalar.addi (qw v13 i) 1#32) (q1w v17))) 0#32 := rfl

theorem flag_iff (c : BitVec 1) : Scalar.cmpi .ne (Scalar.extui c) 0#32 = 1#1 ↔ c = 1#1 := by
  rcases BitVec.eq_zero_or_eq_one c with h | h <;> subst h <;> decide

theorem slt_iff {a b : BitVec 32} {ea eb : Int} (ha : IsInt a ea) (hb : IsInt b eb) : Scalar.cmpi .slt a b = 1#1 ↔ ea < eb := by
  constructor
  · intro h; by_contra hn; exact Affine.slt_fails ha hb hn h
  · intro h; exact Affine.slt_holds ha hb h

include H in
theorem cond1_iff : k0_cond1 v13 v17 = 1#1 ↔ 0 < nChunks lo hi := by
  have h1 := q1w_isInt H.hi_int H.hi_le
  have h0 := q0w_isInt H.lo_int (H.le.trans H.hi_le)
  rw [cond1_eq, flag_iff, slt_iff h0 h1]; unfold nChunks; omega

include H in
theorem cond2_iff (i : Fin (k0_t4_loop v13 v17).trips) : k0_cond2 v13 v17 i = 1#1 ↔ i.val + 1 < nChunks lo hi := by
  have h1 := q1w_isInt H.hi_int H.hi_le
  have hi' : i.val < nChunks lo hi := t4_trips H ▸ i.isLt
  have hq := qw_isInt H hi'
  have := H.le; have := H.hi_le
  unfold nChunks at hi'
  have ha : IsInt (Scalar.addi (qw v13 i) 1#32) ((lo / 80 + i.val : ℕ) + 1 : Int) := Affine.addi hq (Affine.ofNat (e := 1) 1 (by omega)) ⟨rfl, by omega, by omega⟩
  rw [cond2_eq, flag_iff, slt_iff ha h1]; unfold nChunks; omega

include H in
theorem off20_val : k0_off20 v13 = ![80 * (lo / 80), 0] := by
  have h0 := q0w_isInt H.lo_int (H.le.trans H.hi_le)
  have := H.le; have := H.hi_le
  have := Affine.toNat_of (Affine.muli (e := ((lo / 80 : ℕ) : Int) * 80) h0 (Affine.ofNat (e := 80) 80 (by omega)) (by omega)) (by omega)
  rw [off20_eq, show (Scalar.muli (q0w v13) 80#32).toNat = 80 * (lo / 80) by omega]

include H in
theorem off24_val (i : Fin (k0_t4_loop v13 v17).trips) : k0_off24 v13 v17 i = ![80 * (lo / 80) + 80 * (i.val + 1), 0] := by
  have hi' : i.val < nChunks lo hi := t4_trips H ▸ i.isLt
  have hq := qw_isInt H hi'
  have := H.le; have := H.hi_le
  unfold nChunks at hi'
  have ha : IsInt (Scalar.addi (qw v13 i) 1#32) ((lo / 80 + i.val : ℕ) + 1 : Int) := Affine.addi hq (Affine.ofNat (e := 1) 1 (by omega)) ⟨rfl, by omega, by omega⟩
  have := Affine.toNat_of (Affine.muli (e := ((lo / 80 + i.val : ℕ) + 1 : Int) * 80) ha (Affine.ofNat (e := 80) 80 (by omega)) (by omega)) (by omega)
  rw [off24_eq, show (Scalar.muli (Scalar.addi (qw v13 i) 1#32) 80#32).toNat = 80 * (lo / 80) + 80 * (i.val + 1) by omega]

include H in
theorem off21_val (i : Fin (k0_t4_loop v13 v17).trips) : k0_off21 v13 v17 i = ![i.val % 2, 0, 0] := by
  rw [off21_eq, slotw_toNat H (t4_trips H ▸ i.isLt)]
include H in
theorem off22_val (i : Fin (k0_t4_loop v13 v17).trips) : k0_off22 v13 v17 i = ![i.val % 2] := by
  rw [off22_eq, slotw_toNat H (t4_trips H ▸ i.isLt)]
include H in
theorem off23_val (i : Fin (k0_t4_loop v13 v17).trips) : k0_off23 v13 v17 i = ![(i.val + 1) % 2, 0, 0] := by
  rw [off23_eq, slotw'_toNat H (t4_trips H ▸ i.isLt)]
include H in
theorem off25_val (i : Fin (k0_t4_loop v13 v17).trips) : k0_off25 v13 v17 i = ![(i.val + 1) % 2] := by
  rw [off25_eq, slotw'_toNat H (t4_trips H ▸ i.isLt)]

include H in
theorem t4_lt (i : Fin (k0_t4_loop v13 v17).trips) : i.val < nChunks lo hi := t4_trips H ▸ i.isLt

theorem t5_lt (m : Fin k0_t5_loop.trips) : m.val < 5 := lt_of_lt_of_le m.isLt k0_t5_abs.2.1
theorem t6_lt (l : Fin k0_t6_loop.trips) : l.val < 16 := lt_of_lt_of_le l.isLt k0_t6_abs.2.1

include H in
theorem lane_inb {off : Fin 3 → ℕ} (c : ℕ) (hc : c + 16 ≤ 256) (i : Fin (k0_t4_loop v13 v17).trips) (m : Fin k0_t5_loop.trips) (l : Fin k0_t6_loop.trips)
    (h : off = ![(slotw v13 i).toNat, (roww m l).toNat, c]) : ∀ a, off a + S1x1x16.size a ≤ S2x80x256.size a := by
  have h1 := slotw_toNat H (t4_lt H i)
  have h2 := roww_toNat (t5_lt m) (t6_lt l)
  have := t5_lt m; have := t6_lt l
  subst h; rw [h1, h2]
  intro a; fin_cases a
  · show i.val % 2 + 1 ≤ 2; omega
  · show 16 * m.val + l.val + 1 ≤ 80; omega
  · show c + 16 ≤ 256; omega

include H in
/-- The body's check of its two counted words holds. -/
theorem chk1_holds : k0_chk1 v13 v17 := by
  have hL := H.le; have hH := H.hi_le
  refine ⟨⟨fun hc => ?_, t4_ok H, fun i => ?_, fun i => ?_, fun i hc => ?_, fun i hc => ?_, fun i hc => ?_,
    fun i m l => lane_inb H 0 (by omega) i m l rfl, fun i m l => lane_inb H 16 (by omega) i m l rfl, fun i m l => lane_inb H 32 (by omega) i m l rfl,
    fun i m l => lane_inb H 48 (by omega) i m l rfl, fun i m l => lane_inb H 64 (by omega) i m l rfl, fun i m l => lane_inb H 80 (by omega) i m l rfl,
    fun i m l => lane_inb H 96 (by omega) i m l rfl, fun i m l => lane_inb H 112 (by omega) i m l rfl, fun i m l => lane_inb H 128 (by omega) i m l rfl,
    fun i m l => lane_inb H 144 (by omega) i m l rfl, fun i m l => lane_inb H 160 (by omega) i m l rfl, fun i m l => lane_inb H 176 (by omega) i m l rfl,
    fun i m l => lane_inb H 192 (by omega) i m l rfl, fun i m l => lane_inb H 208 (by omega) i m l rfl, fun i m l => lane_inb H 224 (by omega) i m l rfl,
    fun i m l => lane_inb H 240 (by omega) i m l rfl, Scf.rem_ok _ _, ?_⟩, ?_⟩
  · have hc' := (cond1_iff H).mp hc
    rw [off20_val H]; unfold nChunks at hc'
    intro a; fin_cases a
    · show 80 * (lo / 80) + 80 ≤ 50000; omega
    · show 0 + 256 ≤ 256; omega
  · rw [off21_val H]
    intro a; fin_cases a
    · show i.val % 2 + 1 ≤ 2; omega
    · show 0 + 80 ≤ 80; omega
    · show 0 + 256 ≤ 256; omega
  · rw [off22_val H]
    intro a; fin_cases a
    show i.val % 2 + 1 ≤ 2; omega
  · rw [off23_val H]
    intro a; fin_cases a
    · show (i.val + 1) % 2 + 1 ≤ 2; omega
    · show 0 + 80 ≤ 80; omega
    · show 0 + 256 ≤ 256; omega
  · have hc' := (cond2_iff H i).mp hc
    rw [off24_val H]; unfold nChunks at hc'
    intro a; fin_cases a
    · show 80 * (lo / 80) + 80 * (i.val + 1) + 80 ≤ 50000; omega
    · show 0 + 256 ≤ 256; omega
  · rw [off25_val H]
    intro a; fin_cases a
    show (i.val + 1) % 2 + 1 ≤ 2; omega
  · exact ⟨fun k => (t7_none v13 v17 k).elim, fun k => (t7_none v13 v17 k).elim, fun k => (t7_none v13 v17 k).elim, fun k => (t7_none v13 v17 k).elim,
      fun k => (t7_none v13 v17 k).elim, fun k => (t7_none v13 v17 k).elim, fun k => (t7_none v13 v17 k).elim, fun k => (t7_none v13 v17 k).elim⟩
  · unfold k0_chk1_1
    simp only [IsEmpty.forall_iff, implies_true, and_true, true_and,
      (show IsEmpty (Fin (k0_t7_loop v13 v17).trips) from ⟨fun k => t7_none v13 v17 k⟩)]

end

end Cert.Proof.Seg
-- ==== Proof.Setup.lean ====
/-
  The program as the launch theorem sees it, the resource algebra, and the buffers of a tile by name.
-/
module

public import proofs.«01_k».proof.Proof.Word
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the TensorCore region's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## A tile's memrefs, as the body table passes them -/

abbrev hvM : Memref sig .scVector .hbm S50000x256 .f32 := Memref.whole main_arg0_scv
abbrev idM : Memref sig .scVector .hbm S50000 .i32 := Memref.whole main_arg1_scv
abbrev wgM : Memref sig .scVector .hbm S256 .f32 := Memref.whole main_v1_scv
abbrev bgM : Memref sig .scVector .hbm S16 .f32 := Memref.whole main_v2_scv
abbrev pwM : Memref sig .scVector .hbm S1024x256 .f32 := Memref.whole main_v3_0_scv
abbrev pcM : Memref sig .scVector .hbm S1024x16 .f32 := Memref.whole main_v3_1_scv
abbrev bufM : Memref sig .scVector .vmem S2x80x256 .f32 := Memref.whole cc0_scratch0
abbrev idsM : Memref sig .scVector .vmem S50176 .i32 := Memref.whole cc0_scratch1
abbrev wM : Memref sig .scVector .vmem S256 .f32 := Memref.whole cc0_scratch2
abbrev bM : Memref sig .scVector .vmem S16 .f32 := Memref.whole cc0_scratch3
abbrev accM : Memref sig .scVector .vmem S32x256 .f32 := Memref.whole cc0_scratch4
abbrev caccM : Memref sig .scVector .vmem S32x16 .f32 := Memref.whole cc0_scratch5

abbrev cV (L : grid0.Coords) : Fin τ.nSC := (L 0).castLE hcore0
abbrev jV (L : grid0.Coords) : Fin τ.nSub := (L 1).castLE hsub0
/-- The thread of the tile at coordinates `L`. -/
abbrev tile (d : Dev nD) (L : grid0.Coords) : Thread nD τ := V d (cV L) (jV L)

end Cert.Proof.Seg
-- ==== Proof.Model.lean ====
/-
  What a tile computes, row by row: the sixteen column groups and the gate of the running segment, and the two tables
  the running sums are added into when the segment ends.
-/
module

public import proofs.«01_k».proof.Proof.Setup

@[expose] public section

noncomputable section

namespace Cert.Proof.Seg

open Cert.KernelIdeal Cert.KernelIdeal.Gen
open Idealize.ShloMosaic

variable {F : FTy → Type} [FloatOps F]

/-- Lane `n` of a vector of sixteen. -/
def ln (n : ℕ) : S16.Idx := Shape.ofLane (d := ![16]) ⟨n % 16, Nat.mod_lt _ (by decide)⟩

/-- Row `p`, column `j` of the features. -/
def at2 (p j : ℕ) : S50000x256.Idx := fun a => match a with
  | 0 => (⟨p % 50000, Nat.mod_lt _ (by decide)⟩ : Fin 50000)
  | 1 => (⟨j % 256, Nat.mod_lt _ (by decide)⟩ : Fin 256)

/-- Sixteen columns of row `p`, as a tile loads them. -/
def rawC (hv : Vec F S50000x256 .f32) (p c : ℕ) : Vec F S1x1x16 .f32 := fun y => hv (at2 p (c + (y 2).val))
abbrev raw (hv : Vec F S50000x256 .f32) (p k : ℕ) : Vec F S1x1x16 .f32 := rawC hv p (16 * k)

/-- The same, as a vector. -/
def rowv (hv : Vec F S50000x256 .f32) (p k : ℕ) : Vec F S16 .f32 := k0_pay1 (raw hv p k)

/-- What a slot of the double buffer holds when it holds the chunk whose first row is `b`. -/
def chunkF (hv : Vec F S50000x256 .f32) (b : ℕ) : Vec F S2x80x256 .f32 := fun x => hv (at2 (b + (x 1).val) (x 2).val)

/-- Weight `j` of the gate's. -/
def at1 (j : ℕ) : S256.Idx := fun a => match a with
  | 0 => (⟨j % 256, Nat.mod_lt _ (by decide)⟩ : Fin 256)

/-- Sixteen of the gate's weights. -/
def wgv (w : Vec F S256 .f32) (k : ℕ) : Vec F S16 .f32 :=
  fun y => w (at1 (16 * k + (y 0).val))

/-- Position `p` of the ids. -/
def atI (p : ℕ) : S50000.Idx := fun a => match a with
  | 0 => (⟨p % 50000, Nat.mod_lt _ (by decide)⟩ : Fin 50000)

/-- The id at position `p`, the sentinel past the last row. -/
def idAt (ids : Vec F S50000 .i32) (p : ℕ) : BitVec 32 := if p < 50000 then ids (atI p) else 1024#32

/-- What the tile's copy of the ids holds. -/
def idsBuf (ids : Vec F S50000 .i32) : Vec F S50176 .i32 := fun x => idAt ids (x 0).val

/-- The products' sum of a row, lane by lane, and its first two lanes' sum: as the kernel names them. -/
def gsum (R : ℕ → Vec F S1x1x16 .f32) (wg : ℕ → Vec F S16 .f32) : FVec F S16 .f32 :=
  k0_pay17 (wg 0) (wg 1) (wg 2) (wg 3) (wg 4) (wg 5) (wg 6) (wg 7) (wg 8) (wg 9) (wg 10) (wg 11) (wg 12) (wg 13) (wg 14) (wg 15)
    (k0_pay1 (R 0)) (k0_pay2 (R 1)) (k0_pay3 (R 2)) (k0_pay4 (R 3)) (k0_pay5 (R 4)) (k0_pay6 (R 5)) (k0_pay7 (R 6)) (k0_pay8 (R 7))
    (k0_pay9 (R 8)) (k0_pay10 (R 9)) (k0_pay11 (R 10)) (R 11) (R 12) (R 13) (R 14) (R 15)
def gsum2 (R : ℕ → Vec F S1x1x16 .f32) (wg : ℕ → Vec F S16 .f32) : F .f32 :=
  k0_pay18 (wg 0) (wg 1) (wg 2) (wg 3) (wg 4) (wg 5) (wg 6) (wg 7) (wg 8) (wg 9) (wg 10) (wg 11) (wg 12) (wg 13) (wg 14) (wg 15)
    (k0_pay1 (R 0)) (k0_pay2 (R 1)) (k0_pay3 (R 2)) (k0_pay4 (R 3)) (k0_pay5 (R 4)) (k0_pay6 (R 5)) (k0_pay7 (R 6)) (k0_pay8 (R 7))
    (k0_pay9 (R 8)) (k0_pay10 (R 9)) (k0_pay11 (R 10)) (R 11) (R 12) (R 13) (R 14) (R 15)

/-- What the tiles of one call read: the features, the ids, the gate's weights and bias. -/
structure Data (F : FTy → Type) where
  hv : Vec F S50000x256 .f32
  ids : Vec F S50000 .i32
  w : Vec F S256 .f32
  b : Vec F S16 .f32

/-- The gate of row `p`, the same number in every lane. -/
def gate (A : Data F) (p : ℕ) : FVec F S16 .f32 :=
  k0_pay19 A.b (gsum (raw A.hv p) (wgv A.w)) (gsum2 (raw A.hv p) (wgv A.w))

/-- A tile's running sums and its two tables. -/
structure St (F : FTy → Type) where
  regs : ℕ → FVec F S16 .f32
  acc : Vec F S32x256 .f32
  cacc : Vec F S32x16 .f32

/-- Whether the id changes after position `p`. -/
abbrev chg (a b : BitVec 32) : Prop := a ≠ b
/-- Whether the segment that ends is one of the tile's thirty-two, the first being `v6`. -/
abbrev fl (v6 a b : BitVec 32) : Prop := a ≠ b ∧ 0 ≤ (a - v6).toInt ∧ (a - v6).toInt < 32
/-- The table row of the segment that ends. -/
def loc (v6 a b : BitVec 32) : ℕ := if fl v6 a b then (a - v6).toNat else 0

/-- A table after the columns below `c` of row `s` have had `r` added. -/
def accB (acc : Vec F S32x256 .f32) (P : Prop) [Decidable P] (s : ℕ) (r : ℕ → FVec F S16 .f32) (c : ℕ) : Vec F S32x256 .f32 :=
  fun j => if P ∧ (j 0).val = s ∧ (j 1).val < c then Elt.idxAdd .f32 (acc j) (r ((j 1).val / 16) (ln (j 1).val)) else acc j
def caccB (cacc : Vec F S32x16 .f32) (P : Prop) [Decidable P] (s : ℕ) (r : FVec F S16 .f32) : Vec F S32x16 .f32 :=
  fun j => if P ∧ (j 0).val = s then Elt.idxAdd .f32 (cacc j) (r (ln (j 1).val)) else cacc j

/-- The running sums with row `p` added. -/
def addRow (A : Data F) (p : ℕ) (r : ℕ → FVec F S16 .f32) : ℕ → FVec F S16 .f32 := fun k =>
  if k < 16 then addf (r k) (mulf (rowv A.hv p k) (gate A p)) else addf (r k) (gate A p)

/-- One row. -/
def step (A : Data F) (v6 : BitVec 32) (p : ℕ) (s : St F) : St F :=
  let a := idAt A.ids p
  let b := idAt A.ids (p + 1)
  let r := addRow A p s.regs
  { regs := fun k => if chg a b then k0_pay125 else r k
    acc := accB s.acc (fl v6 a b) (loc v6 a b) r 256
    cacc := caccB s.cacc (fl v6 a b) (loc v6 a b) (r 16) }

/-- Everything at zero. -/
def St.zero : St F := { regs := fun _ => k0_pay125, acc := fun _ => k0_pay125 (ln 0), cacc := fun _ => k0_pay125 (ln 0) }

/-- The first `n` rows from row `p₀`. -/
def run (A : Data F) (v6 : BitVec 32) (p₀ : ℕ) : ℕ → St F
  | 0 => St.zero
  | n + 1 => step A v6 (p₀ + n) (run A v6 p₀ n)

/-- The seventeen sums as the loops carry them. -/
def tup (r : ℕ → FVec F S16 .f32) :=
  (r 0, r 1, r 2, r 3, r 4, r 5, r 6, r 7, r 8, r 9, r 10, r 11, r 12, r 13, r 14, r 15, r 16)

end Cert.Proof.Seg
-- ==== Proof.LaneOps.lean ====
/-
  One row's operations: the loads of its columns, the loads of the ids around it, and the additions into the tables.
-/
module

public import proofs.«01_k».proof.Proof.Model

@[expose] public section

noncomputable section

namespace Cert.Proof.Seg

open Cert.KernelIdeal Cert.KernelIdeal.Gen
open Idealize.ShloMosaic
open Idealize.ShloMosaic.SparseCore (S V T vectorLoadIdx vectorStoreIdx)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Affine (IsInt)

variable {F : FTy → Type} [FloatOps F]

local notation "𝕄" => MT nD τ sig (HIx 1) (Elt F) ℕ UU ℕ

/-! ## A scatter whose lanes name one row and sixteen neighbouring columns -/

section Scatter
variable {n0 n1 : ℕ}

theorem foldl_miss {ι β κ : Type} (st : (ι → β) → κ → ι → β) (q : κ → Prop) (j : ι) (h0 : ∀ g k, ¬ q k → st g k j = g j) (l : List κ)
    (hl : ∀ k ∈ l, ¬ q k) (f : ι → β) : l.foldl st f j = f j := by
  induction l generalizing f with
  | nil => rfl
  | cons k l ih =>
    rw [List.foldl_cons, ih (fun k' hk' => hl k' (List.mem_cons_of_mem _ hk')), h0 f k (hl k List.mem_cons_self)]

theorem foldl_hit {ι β κ : Type} (st : (ι → β) → κ → ι → β) (q : κ → Prop) (u : β → β) (j : ι) (h0 : ∀ g k, ¬ q k → st g k j = g j)
    (h1 : ∀ g k, q k → st g k j = u (g j)) (hq : ∀ k k', q k → q k' → k = k') (l : List κ) (hn : l.Nodup)
    (hl : ∃ k ∈ l, q k) (f : ι → β) : l.foldl st f j = u (f j) := by
  induction l generalizing f with
  | nil => obtain ⟨k, hk, -⟩ := hl; cases hk
  | cons k l ih =>
    rw [List.foldl_cons]
    by_cases hk : q k
    · rw [foldl_miss st q j h0 l (fun k' hk' h' => (List.nodup_cons.mp hn).1 (hq k k' hk h' ▸ hk')), h1 f k hk]
    · obtain ⟨k', hk', h'⟩ := hl
      rcases List.mem_cons.mp hk' with rfl | hk'
      · exact absurd h' hk
      · rw [ih (List.nodup_cons.mp hn).2 ⟨k', hk', h'⟩, h0 f k hk]

theorem storeIdx_lanes (f : Vec F (⟨2, ![n0, n1]⟩ : Shape) .f32) (idxs : Fin 2 → IVec S16 32) (v : Vec F S16 .f32) (mask : IVec S16 1)
    (h : ∀ a x, (idxs a x).toNat < (⟨2, ![n0, n1]⟩ : Shape).size a) (P : Prop) [Decidable P] (s c : ℕ)
    (hm : ∀ x, mask x = 1 ↔ P) (h0 : ∀ x, (idxs 0 x).toNat = s) (h1 : ∀ x, (idxs 1 x).toNat = c + (x 0).val) :
    storeIdx (F := F) (s := ⟨2, ![n0, n1]⟩) (d := ![16]) f idxs v mask true h
    = fun j => if P ∧ (j 0).val = s ∧ c ≤ (j 1).val ∧ (j 1).val < c + 16 then Elt.idxAdd .f32 (f j) (v (ln ((j 1).val - c))) else f j := by
  funext j
  have hh : ∀ k, (∀ a, (j a).val = (idxAt (s := ⟨2, ![n0, n1]⟩) idxs h (Shape.ofLane (d := ![16]) k) a).val) ↔ (j 0).val = s ∧ (j 1).val = c + k.val := by
    intro k
    refine Iff.trans Fin.forall_fin_two (and_congr ?_ ?_)
    · show (j 0).val = (idxs 0 (Shape.ofLane (d := ![16]) k)).toNat ↔ _
      rw [h0]
    · show (j 1).val = (idxs 1 (Shape.ofLane (d := ![16]) k)).toNat ↔ _
      rw [h1]; rfl
  have hmiss : ∀ (g : Vec F (⟨2, ![n0, n1]⟩ : Shape) .f32) (k : Fin ((![16] : Fin 1 → ℕ) 0)), ¬ (P ∧ (j 0).val = s ∧ (j 1).val = c + k.val) →
      (if mask (Shape.ofLane (d := ![16]) k) = 1 then
        fun j' => if (∀ a, (j' a).val = (idxAt (s := ⟨2, ![n0, n1]⟩) idxs h (Shape.ofLane (d := ![16]) k) a).val)
          then Elt.idxAdd .f32 (g (idxAt (s := ⟨2, ![n0, n1]⟩) idxs h (Shape.ofLane (d := ![16]) k))) (v (Shape.ofLane (d := ![16]) k)) else g j'
      else g : Vec F (⟨2, ![n0, n1]⟩ : Shape) .f32) j = g j := by
    intro g k hn
    by_cases hmk : mask (Shape.ofLane (d := ![16]) k) = 1
    · rw [if_pos hmk]
      exact if_neg fun hq => hn ⟨(hm _).mp hmk, (hh k).mp hq⟩
    · rw [if_neg hmk]
  have hhit : ∀ (g : Vec F (⟨2, ![n0, n1]⟩ : Shape) .f32) (k : Fin ((![16] : Fin 1 → ℕ) 0)), (P ∧ (j 0).val = s ∧ (j 1).val = c + k.val) →
      (if mask (Shape.ofLane (d := ![16]) k) = 1 then
        fun j' => if (∀ a, (j' a).val = (idxAt (s := ⟨2, ![n0, n1]⟩) idxs h (Shape.ofLane (d := ![16]) k) a).val)
          then Elt.idxAdd .f32 (g (idxAt (s := ⟨2, ![n0, n1]⟩) idxs h (Shape.ofLane (d := ![16]) k))) (v (Shape.ofLane (d := ![16]) k)) else g j'
      else g : Vec F (⟨2, ![n0, n1]⟩ : Shape) .f32) j = (fun y => Elt.idxAdd (F := F) .f32 y (v (ln ((j 1).val - c)))) (g j) := by
    intro g k hn
    have hi : idxAt (s := ⟨2, ![n0, n1]⟩) idxs h (Shape.ofLane (d := ![16]) k) = j :=
      funext fun a => Fin.ext ((hh k).mpr hn.2 a).symm
    have hx : ln ((j 1).val - c) = (Shape.ofLane (d := ![16]) k : S16.Idx) := by
      rw [hn.2.2, Nat.add_sub_cancel_left]
      unfold ln; congr 1; exact Fin.ext (Nat.mod_eq_of_lt k.isLt)
    rw [if_pos ((hm _).mpr hn.1)]
    refine (if_pos ((hh k).mpr hn.2)).trans ?_
    rw [hi, hx]
  let st : Vec F (⟨2, ![n0, n1]⟩ : Shape) .f32 → Fin ((![16] : Fin 1 → ℕ) 0) → Vec F (⟨2, ![n0, n1]⟩ : Shape) .f32 := fun g k =>
    if mask (Shape.ofLane (d := ![16]) k) = 1 then
        fun j' => if (∀ a, (j' a).val = (idxAt (s := ⟨2, ![n0, n1]⟩) idxs h (Shape.ofLane (d := ![16]) k) a).val)
          then Elt.idxAdd .f32 (g (idxAt (s := ⟨2, ![n0, n1]⟩) idxs h (Shape.ofLane (d := ![16]) k))) (v (Shape.ofLane (d := ![16]) k)) else g j'
      else g
  have est : storeIdx (F := F) (s := ⟨2, ![n0, n1]⟩) (d := ![16]) f idxs v mask true h = (List.finRange ((![16] : Fin 1 → ℕ) 0)).foldl st f := by
    unfold storeIdx
    congr 1
    funext g k
    by_cases hmk : mask (Shape.ofLane (d := ![16]) k) = 1
    · simp only [st, hmk, if_true]
    · simp only [st, hmk, if_false]
  rw [est]
  by_cases hj : P ∧ (j 0).val = s ∧ c ≤ (j 1).val ∧ (j 1).val < c + 16
  · refine (foldl_hit st (fun k => P ∧ (j 0).val = s ∧ (j 1).val = c + k.val) (fun y => Elt.idxAdd (F := F) .f32 y (v (ln ((j 1).val - c)))) j hmiss hhit
      (fun k k' hk hk' => Fin.ext (by have := hk.2.2; have := hk'.2.2; omega)) (List.finRange _) (List.nodup_finRange _)
      ⟨⟨(j 1).val - c, by show _ < 16; omega⟩, List.mem_finRange _, hj.1, hj.2.1, by show _ = c + (_ - c); omega⟩ f).trans (if_pos hj).symm
  · refine (foldl_miss st (fun k => P ∧ (j 0).val = s ∧ (j 1).val = c + k.val) j hmiss (List.finRange _)
      (fun k _ hk => hj ⟨hk.1, hk.2.1, by have := hk.2.2; omega, by have := hk.2.2; have : k.val < 16 := k.isLt; omega⟩) f).trans (if_neg hj).symm

end Scatter

/-! ## The columns of a row -/

/-- The elements of one slot of the double buffer. -/
def slotSet (s : ℕ) : Finset S2x80x256.Idx := Finset.univ.filter fun x => (x 0).val = s

section Ops

variable (d : Dev nD) (L : grid0.Coords)

theorem access_row_subset {off : Fin 3 → ℕ} (inb : ∀ a, off a + S1x1x16.size a ≤ S2x80x256.size a) {s r c : ℕ} (ho : off = ![s, r, c]) :
    (bufM.access (Rect.unit (s := S2x80x256) off S1x1x16.size inb)).set ⊆ slotSet s := by
  subst ho
  intro x hx
  have hx' : x ∈ (Rect.unit (s := S2x80x256) ![s, r, c] S1x1x16.size inb).set := by
    have := View.set_slice_whole (κ := .scVector) cc0_scratch0 (Rect.unit (s := S2x80x256) ![s, r, c] S1x1x16.size inb)
    exact this ▸ hx
  have h0 := (Rect.mem_set_unit.mp hx') 0
  have h1 : s ≤ (x 0).val ∧ (x 0).val < s + 1 := h0
  exact Finset.mem_filter.mpr ⟨Finset.mem_univ _, by omega⟩

theorem read_row (hv : Vec F S50000x256 .f32) (b : ℕ) {off : Fin 3 → ℕ} (inb : ∀ a, off a + S1x1x16.size a ≤ S2x80x256.size a) {s r c : ℕ}
    (ho : off = ![s, r, c]) :
    (bufM.access (Rect.unit (s := S2x80x256) off S1x1x16.size inb)).read (Elt F) (chunkF hv b) = rawC hv (b + r) c := by
  subst ho
  funext y
  have h1 : (y 1).val < 1 := (y 1).isLt
  show hv (at2 (b + (r + 1 * (y 1).val)) (c + 1 * (y 2).val)) = hv (at2 (b + r) (c + (y 2).val))
  rw [Nat.one_mul, Nat.one_mul, Nat.lt_one_iff.mp h1, Nat.add_zero]

/-- A load of sixteen columns of a row out of the slot that holds its chunk. -/
theorem wp_row {α : Type} {Q : α → sProp 𝕄} {q : PosShare TreeShare} (hv : Vec F S50000x256 .f32) (b : ℕ) {s r c : ℕ} {off : Fin 3 → ℕ}
    {inb : ∀ a, off a + S1x1x16.size a ≤ S2x80x256.size a} {hl} (ho : off = ![s, r, c])
    {kk : Vec F S1x1x16 .f32 → Prog (TpuEff nD τ sig (Elt F) Λ₀ (tile d L).2) α} :
    (bufM.view.loc (tile d L) ↦[slotSet s]{q} chunkF hv b : sProp 𝕄)
      ⊢ iprop(((bufM.view.loc (tile d L) ↦[slotSet s]{q} chunkF hv b) -∗ wp frame (wpE (defs₀ (F := F)) 𝒱₀ (tile d L) none) Set.univ (kk (rawC hv (b + r) c)) Q)
        -∗ wp frame (wpE (defs₀ (F := F)) 𝒱₀ (tile d L) none) Set.univ
            (.op (.load bufM (Rect.unit (s := S2x80x256) off S1x1x16.size inb).toLoadRect hl) kk) Q) := by
  rw [← read_row hv b inb ho]
  exact wp_load_rect (defs := defs₀ (F := F)) (Q := Q) 𝒱₀ (tile d L) none Set.univ (m := bufM) (r := Rect.unit (s := S2x80x256) off S1x1x16.size inb)
    (hl := hl) (k := kk) (S := slotSet s) (q := q) (f := chunkF hv b) (access_row_subset inb ho)

/-! ## The ids around a row -/

/-- The check that every lane of a splat position is inside the ids' buffer. -/
theorem chk_ids {w : BitVec 32} {p : ℕ} (hw : IsInt w p) (hp : p < 50176) : ∀ a x, ((![broadcast S16 w] : Fin 1 → IVec S16 32) a x).toNat < S50176.size a := by
  intro a x
  have e : w.toNat = p := by have := Affine.toNat_of hw (by omega); omega
  match a with
  | 0 => exact (show w.toNat < 50176 by omega)

theorem loadIdx_ids (ids : Vec F S50000 .i32) {w : BitVec 32} {p : ℕ} (hw : IsInt w p) (h) :
    loadIdx ((idsM.access (.whole S50176)).read (Elt F) (idsBuf ids)) ![broadcast S16 w] h = fun _ => idAt ids p := by
  have e : w.toNat = p := by have := Affine.toNat_of hw (by omega); omega
  have hr : (idsM.access (.whole S50176)).read (Elt F) (idsBuf ids) = idsBuf ids := by
    funext x
    show idAt ids (0 + 1 * (x 0).val) = idAt ids (x 0).val
    rw [Nat.zero_add, Nat.one_mul]
  rw [hr]
  funext x
  show idAt ids w.toNat = _
  rw [e]

/-- A load of the id at one position, into every lane. -/
theorem wp_id {α : Type} {Q : α → sProp 𝕄} {q : PosShare TreeShare} (ids : Vec F S50000 .i32) {w : BitVec 32} {p : ℕ} (hw : IsInt w p) {h} {hl}
    {kk : Vec F S16 .i32 → Prog (TpuEff nD τ sig (Elt F) Λ₀ (tile d L).2) α} :
    (idsM.view.loc (tile d L) ↦{q} idsBuf ids : sProp 𝕄)
      ⊢ iprop(((idsM.view.loc (tile d L) ↦{q} idsBuf ids) -∗ wp frame (wpE (defs₀ (F := F)) 𝒱₀ (tile d L) none) Set.univ (kk (fun _ => idAt ids p)) Q)
        -∗ wp frame (wpE (defs₀ (F := F)) 𝒱₀ (tile d L) none) Set.univ
            (vectorLoadIdx idsM ![broadcast S16 w] h hl >>= kk) Q) := by
  have hh := SparseCore.wp_vectorLoadIdx (defs := defs₀ (F := F)) (Q := Q) 𝒱₀ (tile d L) none Set.univ (base := idsM) (idxs := ![broadcast S16 w]) (h := h) (hl := hl)
    (k := kk) (S := Finset.univ) (q := q) (f := idsBuf ids) (Finset.subset_univ _)
  rw [loadIdx_ids ids hw h] at hh
  exact hh

/-! ## The additions into the tables -/

/-- An addition of sixteen lanes into a row of the first table, with its check. -/
theorem wp_flush {α : Type} {Q : α → sProp 𝕄} {C : Prop} {dC : Decidable C} (hC : C) {acc : Vec F S32x256 .f32} {P : Prop} [Decidable P] {s k : ℕ}
    {r : ℕ → FVec F S16 .f32} {idxs : Fin 2 → IVec S16 32} {v : Vec F S16 .f32} {mask : IVec S16 1}
    {h : PLift C → ∀ a x, (idxs a x).toNat < S32x256.size a} {hs}
    (hm : ∀ x, mask x = 1 ↔ P) (h0 : ∀ x, (idxs 0 x).toNat = s) (h1 : ∀ x, (idxs 1 x).toNat = 16 * k + (x 0).val) (hv : v = r k)
    {kk : PUnit → Prog (TpuEff nD τ sig (Elt F) Λ₀ (tile d L).2) α} :
    (accM.view.loc (tile d L) ↦{fullShare} accB acc P s r (16 * k) : sProp 𝕄)
      ⊢ iprop(((accM.view.loc (tile d L) ↦{fullShare} accB acc P s r (16 * (k + 1))) -∗ wp frame (wpE (defs₀ (F := F)) 𝒱₀ (tile d L) none) Set.univ (kk ⟨⟩) Q)
        -∗ wp frame (wpE (defs₀ (F := F)) 𝒱₀ (tile d L) none) Set.univ
            (.op (.assume C dC) fun hw => vectorStoreIdx accM idxs v mask true (h hw) hs >>= kk) Q) := by
  subst hv
  rw [wp_assume_of _ _ _ _ hC]
  have hh := SparseCore.wp_vectorStoreIdx (defs := defs₀ (F := F)) (Q := Q) 𝒱₀ (tile d L) none Set.univ (d := ![16]) (base := accM) (idxs := idxs) (v := r k) (mask := mask)
    (add := true) (h := h ⟨hC⟩) (hs := hs) (k := kk) (f := accB acc P s r (16 * k))
  have e1 : (accM.access (.whole S32x256)).set = Finset.univ := Memref.set_access_whole cc0_scratch4
  have e2 : storeIdx (F := F) (s := S32x256) (d := ![16]) ((accM.access (.whole S32x256)).read (Elt F) (accB acc P s r (16 * k))) idxs (r k) mask true (h ⟨hC⟩)
      = accB acc P s r (16 * (k + 1)) := by
    rw [show (accM.access (.whole S32x256)).read (Elt F) (accB acc P s r (16 * k)) = accB acc P s r (16 * k) from Memref.read_access_whole (Elt F) cc0_scratch4 _]
    refine (storeIdx_lanes (n0 := 32) (n1 := 256) _ idxs (r k) mask (h ⟨hC⟩) P s (16 * k) hm h0 h1).trans ?_
    funext j
    have hj : (j 1).val < 256 := (j 1).isLt
    unfold accB
    by_cases hP : P ∧ (j 0).val = s
    · by_cases h1 : (j 1).val < 16 * k
      · rw [if_neg (by omega), if_pos ⟨hP.1, hP.2, h1⟩, if_pos ⟨hP.1, hP.2, by omega⟩]
      · by_cases h2 : (j 1).val < 16 * k + 16
        · have e3 : (j 1).val / 16 = k := by omega
          have e4 : ln ((j 1).val - 16 * k) = ln (j 1).val := by
            unfold ln; congr 1; exact Fin.ext (by show ((j 1).val - 16 * k) % 16 = (j 1).val % 16; omega)
          rw [if_pos ⟨hP.1, hP.2, by omega, h2⟩, if_neg (by omega), if_pos ⟨hP.1, hP.2, by omega⟩, e3, e4]
        · rw [if_neg (by omega), if_neg (by omega), if_neg (by omega)]
    · rw [if_neg (fun hq => hP ⟨hq.1, hq.2.1⟩), if_neg (fun hq => hP ⟨hq.1, hq.2.1⟩), if_neg (fun hq => hP ⟨hq.1, hq.2.1⟩)]
  have e3 : (accM.access (.whole S32x256)).write (Elt F) (accB acc P s r (16 * k)) (storeIdx (F := F) (s := S32x256) (d := ![16]) ((accM.access (.whole S32x256)).read (Elt F) (accB acc P s r (16 * k))) idxs (r k) mask true (h ⟨hC⟩)) Finset.univ
      = accB acc P s r (16 * (k + 1)) :=
    (Memref.write_access_whole_univ (Elt F) cc0_scratch4 _ _).trans e2
  rw [e1, e3] at hh
  exact hh

/-- The addition of the gates' sum into a row of the second table. -/
theorem wp_flushC {α : Type} {Q : α → sProp 𝕄} {cacc : Vec F S32x16 .f32} {P : Prop} [Decidable P] {s : ℕ}
    {r : FVec F S16 .f32} {idxs : Fin 2 → IVec S16 32} {mask : IVec S16 1} {h : ∀ a x, (idxs a x).toNat < S32x16.size a} {hs}
    (hm : ∀ x, mask x = 1 ↔ P) (h0 : ∀ x, (idxs 0 x).toNat = s) (h1 : ∀ x, (idxs 1 x).toNat = (x 0).val)
    {kk : PUnit → Prog (TpuEff nD τ sig (Elt F) Λ₀ (tile d L).2) α} :
    (caccM.view.loc (tile d L) ↦{fullShare} cacc : sProp 𝕄)
      ⊢ iprop(((caccM.view.loc (tile d L) ↦{fullShare} caccB cacc P s r) -∗ wp frame (wpE (defs₀ (F := F)) 𝒱₀ (tile d L) none) Set.univ (kk ⟨⟩) Q)
        -∗ wp frame (wpE (defs₀ (F := F)) 𝒱₀ (tile d L) none) Set.univ
            (vectorStoreIdx caccM idxs r mask true h hs >>= kk) Q) := by
  have hh := SparseCore.wp_vectorStoreIdx (defs := defs₀ (F := F)) (Q := Q) 𝒱₀ (tile d L) none Set.univ (d := ![16]) (base := caccM) (idxs := idxs) (v := r) (mask := mask)
    (add := true) (h := h) (hs := hs) (k := kk) (f := cacc)
  have e1 : (caccM.access (.whole S32x16)).set = Finset.univ := Memref.set_access_whole cc0_scratch5
  have e2 : storeIdx (F := F) (s := S32x16) (d := ![16]) ((caccM.access (.whole S32x16)).read (Elt F) cacc) idxs r mask true h
      = caccB cacc P s r := by
    rw [show (caccM.access (.whole S32x16)).read (Elt F) cacc = cacc from Memref.read_access_whole (Elt F) cc0_scratch5 _]
    refine (storeIdx_lanes (n0 := 32) (n1 := 16) _ idxs r mask h P s 0 hm h0 (fun x => by rw [h1]; omega)).trans ?_
    funext j
    have hj : (j 1).val < 16 := (j 1).isLt
    unfold caccB
    by_cases hP : P ∧ (j 0).val = s
    · rw [if_pos ⟨hP.1, hP.2, by omega, by omega⟩, if_pos hP, Nat.sub_zero]
    · rw [if_neg (fun hq => hP ⟨hq.1, hq.2.1⟩), if_neg hP]
  have e3 : (caccM.access (.whole S32x16)).write (Elt F) cacc (storeIdx (F := F) (s := S32x16) (d := ![16]) ((caccM.access (.whole S32x16)).read (Elt F) cacc) idxs r mask true h) Finset.univ
      = caccB cacc P s r :=
    (Memref.write_access_whole_univ (Elt F) cc0_scratch5 _ _).trans e2
  rw [e1, e3] at hh
  exact hh

/-- The check that every lane's row and column are inside the first table. -/
theorem chk_acc {idxs : Fin 2 → IVec S16 32} {s k : ℕ} (h0 : ∀ x, (idxs 0 x).toNat = s) (h1 : ∀ x, (idxs 1 x).toNat = 16 * k + (x 0).val)
    (hs : s < 32) (hk : k < 16) : ∀ a x, (idxs a x).toNat < S32x256.size a := by
  intro a x
  have hx : (x 0).val < 16 := (x 0).isLt
  match a with
  | 0 => rw [h0]; exact hs
  | 1 => rw [h1]; show _ < 256; omega

theorem chk_cacc {idxs : Fin 2 → IVec S16 32} {s : ℕ} (h0 : ∀ x, (idxs 0 x).toNat = s) (h1 : ∀ x, (idxs 1 x).toNat = (x 0).val)
    (hs : s < 32) : ∀ a x, (idxs a x).toNat < S32x16.size a := by
  intro a x
  have hx : (x 0).val < 16 := (x 0).isLt
  match a with
  | 0 => rw [h0]; exact hs
  | 1 => rw [h1]; exact hx

end Ops

/-! ## The masks and the row of the segment that ends -/

section Words

variable (v6 a b : BitVec 32)

theorem ofBool_one (c : Bool) : BitVec.ofBool c = 1#1 ↔ c = true := by cases c <;> decide
theorem and_one (x y : BitVec 1) : x &&& y = 1#1 ↔ x = 1#1 ∧ y = 1#1 := by
  rcases BitVec.eq_zero_or_eq_one x with h | h <;> rcases BitVec.eq_zero_or_eq_one y with h' | h' <;> subst h <;> subst h' <;> decide

theorem chg_iff (x : S16.Idx) : k0_pay20 (F := F) (fun _ => a) (fun _ => b) x = 1#1 ↔ chg a b := by
  show BitVec.ofBool (a != b) = 1#1 ↔ _
  rw [ofBool_one, bne_iff_ne]
theorem mask_iff (x : S16.Idx) : k0_pay22 (F := F) v6 (fun _ => a) (fun _ => b) x = 1#1 ↔ fl v6 a b := by
  show (k0_pay20 (F := F) (fun _ => a) (fun _ => b) x &&& BitVec.ofBool (BitVec.sle 0#32 (a - v6))) &&& BitVec.ofBool (BitVec.slt (a - v6) 32#32) = 1#1 ↔ _
  rw [and_one, and_one, chg_iff, ofBool_one, ofBool_one, BitVec.sle_iff_toInt_le, BitVec.slt_iff_toInt_lt]
  exact and_assoc
theorem loc_toNat (x : S16.Idx) : (k0_pay23 (F := F) v6 (fun _ => a) (fun _ => b) x).toNat = loc v6 a b := by
  show (if k0_pay22 (F := F) v6 (fun _ => a) (fun _ => b) x = 1#1 then a - v6 else 0#32).toNat = _
  unfold loc
  by_cases h : fl v6 a b
  · rw [if_pos ((mask_iff v6 a b x).mpr h), if_pos h]
  · rw [if_neg (fun hq => h ((mask_iff v6 a b x).mp hq)), if_neg h]; rfl
theorem loc_lt : loc v6 a b < 32 := by
  unfold loc
  by_cases h : fl v6 a b
  · rw [if_pos h]
    obtain ⟨-, h1, h2⟩ := h
    rw [BitVec.toInt_eq_toNat_cond] at h1 h2
    split at h1 <;> omega
  · rw [if_neg h]; omega
theorem sel_chg (z r : FVec F S16 .f32) : select (k0_pay20 (F := F) (fun _ => a) (fun _ => b)) z r = if chg a b then z else r := by
  funext x
  show (if k0_pay20 (F := F) (fun _ => a) (fun _ => b) x = 1#1 then z x else r x) = _
  by_cases h : chg a b
  · rw [if_pos ((chg_iff a b x).mpr h), if_pos h]
  · rw [if_neg (fun hq => h ((chg_iff a b x).mp hq)), if_neg h]

end Words

end Cert.Proof.Seg
-- ==== Proof.Lane.lean ====
/-
  One row of a tile: the loop body over the sixteen rows of a group.
-/
module

public import proofs.«01_k».proof.Proof.LaneOps

@[expose] public section

noncomputable section

namespace Cert.Proof.Seg

open Cert.KernelIdeal Cert.KernelIdeal.Gen
open Idealize.ShloMosaic
open Idealize.ShloMosaic.SparseCore (S V T vectorLoadIdx vectorStoreIdx)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Affine (IsInt)

variable {F : FTy → Type} [FloatOps F]

local notation "𝕄" => MT nD τ sig (HIx 1) (Elt F) ℕ UU ℕ

/-- What the rows' loops hold: the slot of the chunk, the ids, and the two tables. -/
def rowSt (d : Dev nD) (L : grid0.Coords) (A : Data F) (sl b : ℕ) (s : St F) : sProp 𝕄 :=
  iprop((bufM.view.loc (tile d L) ↦[slotSet sl]{fullShare} chunkF A.hv b)
    ∗ (idsM.view.loc (tile d L) ↦{fullShare} idsBuf A.ids)
    ∗ (accM.view.loc (tile d L) ↦{fullShare} s.acc)
    ∗ (caccM.view.loc (tile d L) ↦{fullShare} s.cacc))

/-- The gate of a row, as the row's operations spell it. -/
theorem gate_eq (A : Data F) (p : ℕ) :
    k0_pay19 A.b
      (k0_pay17 (wgv A.w 0) (wgv A.w 1) (wgv A.w 2) (wgv A.w 3) (wgv A.w 4) (wgv A.w 5) (wgv A.w 6) (wgv A.w 7) (wgv A.w 8) (wgv A.w 9) (wgv A.w 10) (wgv A.w 11) (wgv A.w 12) (wgv A.w 13) (wgv A.w 14) (wgv A.w 15)
        (k0_pay1 (rawC A.hv p 0)) (k0_pay2 (rawC A.hv p 16)) (k0_pay3 (rawC A.hv p 32)) (k0_pay4 (rawC A.hv p 48)) (k0_pay5 (rawC A.hv p 64)) (k0_pay6 (rawC A.hv p 80)) (k0_pay7 (rawC A.hv p 96)) (k0_pay8 (rawC A.hv p 112)) (k0_pay9 (rawC A.hv p 128)) (k0_pay10 (rawC A.hv p 144)) (k0_pay11 (rawC A.hv p 160)) (rawC A.hv p 176) (rawC A.hv p 192) (rawC A.hv p 208) (rawC A.hv p 224) (rawC A.hv p 240))
      (k0_pay18 (wgv A.w 0) (wgv A.w 1) (wgv A.w 2) (wgv A.w 3) (wgv A.w 4) (wgv A.w 5) (wgv A.w 6) (wgv A.w 7) (wgv A.w 8) (wgv A.w 9) (wgv A.w 10) (wgv A.w 11) (wgv A.w 12) (wgv A.w 13) (wgv A.w 14) (wgv A.w 15)
        (k0_pay1 (rawC A.hv p 0)) (k0_pay2 (rawC A.hv p 16)) (k0_pay3 (rawC A.hv p 32)) (k0_pay4 (rawC A.hv p 48)) (k0_pay5 (rawC A.hv p 64)) (k0_pay6 (rawC A.hv p 80)) (k0_pay7 (rawC A.hv p 96)) (k0_pay8 (rawC A.hv p 112)) (k0_pay9 (rawC A.hv p 128)) (k0_pay10 (rawC A.hv p 144)) (k0_pay11 (rawC A.hv p 160)) (rawC A.hv p 176) (rawC A.hv p 192) (rawC A.hv p 208) (rawC A.hv p 224) (rawC A.hv p 240))
      = gate A p := rfl

/-- A table with no column added yet, and with all of them. -/
theorem accB_zero (acc : Vec F S32x256 .f32) (P : Prop) [Decidable P] (s : ℕ) (r : ℕ → FVec F S16 .f32) : accB acc P s r (16 * 0) = acc := by
  funext j; unfold accB; exact if_neg fun h => Nat.not_lt_zero _ h.2.2

/-- The lanes' columns. -/
theorem col_toNat {v2 : IVec S16 32} (hv2 : ∀ x, (v2 x).toNat = (x 0).val) (c : ℕ) (hc : c ≤ 240) (x : S16.Idx) :
    (addi v2 (broadcast S16 (BitVec.ofNat 32 c)) x).toNat = c + (x 0).val := by
  have hx : (x 0).val < 16 := (x 0).isLt
  show (v2 x + BitVec.ofNat 32 c).toNat = _
  rw [BitVec.toNat_add, hv2, BitVec.toNat_ofNat]; omega

section

variable {v13 v17 : BitVec 32} {lo hi : ℕ} (H : Counted v13 v17 lo hi)
include H

theorem lane_off (i : Fin (k0_t4_loop v13 v17).trips) (m : Fin k0_t5_loop.trips) (l : Fin k0_t6_loop.trips) {off : Fin 3 → ℕ} {c : ℕ}
    (h : off = ![(slotw v13 i).toNat, (roww m l).toNat, c]) : off = ![i.val % 2, 16 * m.val + l.val, c] := by
  rw [h, slotw_toNat H (t4_lt H i), roww_toNat (t5_lt m) (t6_lt l)]

set_option maxHeartbeats 4000000 in
theorem lane_spec (d : Dev nD) (L : grid0.Coords) (A : Data F) (hw1 : k0_chk1 v13 v17) (v1 v6 v51 v53 c80 v94 v110 : BitVec 32) (v2 : IVec S16 32)
    (hv2 : ∀ x, (v2 x).toNat = (x 0).val) (i : Fin (k0_t4_loop v13 v17).trips) (m : Fin k0_t5_loop.trips) (l : Fin k0_t6_loop.trips)
    (b : ℕ) (hpos : IsInt (Scalar.addi v110 (Scf.iv 0#32 1#32 l.val)) (b + (16 * m.val + l.val) : ℕ)) (hb : b + (16 * m.val + l.val) < 50000) (s : St F) :
    rowSt d L A (i.val % 2) b s
      ⊢ wp frame (wpE (defs₀ (F := F)) 𝒱₀ (tile d L) none) Set.univ
          (k0_t6_body L hvM (Memref.isWhole_whole _) idM (Memref.isWhole_whole _) wgM (Memref.isWhole_whole _) bgM (Memref.isWhole_whole _)
            pwM (Memref.isWhole_whole _) pcM (Memref.isWhole_whole _) bufM (Memref.isWhole_whole _) idsM (Memref.isWhole_whole _) wM (Memref.isWhole_whole _)
            bM (Memref.isWhole_whole _) accM (Memref.isWhole_whole _) caccM (Memref.isWhole_whole _) cc0_scratch6 cc0_scoped0 cc0_scoped1 cc0_scoped2 cc0_scoped3 cc0_scoped4
            v1 v2 k0_pay125 v6 v13 v17 hw1 (wgv A.w 0) (wgv A.w 1) (wgv A.w 2) (wgv A.w 3) (wgv A.w 4) (wgv A.w 5) (wgv A.w 6) (wgv A.w 7)
            (wgv A.w 8) (wgv A.w 9) (wgv A.w 10) (wgv A.w 11) (wgv A.w 12) (wgv A.w 13) (wgv A.w 14) (wgv A.w 15) A.b v51 v53 c80 i v94 m
            (Scf.iv 0#32 1#32 m.val) v110 l (tup s.regs))
          fun r => iprop(⌜r = tup (step A v6 (b + (16 * m.val + l.val)) s).regs⌝ ∗ rowSt d L A (i.val % 2) b (step A v6 (b + (16 * m.val + l.val)) s)) := by
  unfold rowSt k0_t6_body tup
  simp only [k0_part2_eq_skeleton, k0_part3_eq_skeleton, k0_part4_eq_skeleton, k0_part5_eq_skeleton, k0_part6_eq_skeleton]
  unfold k0_part2_skel k0_part3_skel k0_part4_skel k0_part5_skel k0_part6_skel
  simp only [Prog.lift, Prog.bind_op, Prog.bind_ret, Prog.pure_eq_ret, Prog.bind_assoc]
  iintro ⟨Hb, Hi, Ha, Hc⟩
  iterate 16 (iapply (wp_row d L A.hv b (lane_off H i m l rfl)) $$ Hb; iintro Hb)
  rw [gate_eq A (b + (16 * m.val + l.val))]
  generalize hp : b + (16 * m.val + l.val) = p at *
  rw [wp_assume_of _ _ _ _ (show k0_chk2 (broadcast S16 (Scalar.addi v110 (Scf.iv 0#32 1#32 l.val))) from chk_ids hpos (by omega))]
  iapply (wp_id d L A.ids hpos) $$ Hi; iintro Hi
  have hpos' : IsInt (Scalar.addi (Scalar.addi v110 (Scf.iv 0#32 1#32 l.val)) 1#32) ((p + 1 : ℕ) : Int) := by
    have h1 : IsInt 1#32 1 := Affine.ofNat _ (by omega)
    exact Affine.addi hpos h1 (by omega)
  rw [wp_assume_of _ _ _ _ (show k0_chk3 (broadcast S16 (Scalar.addi (Scalar.addi v110 (Scf.iv 0#32 1#32 l.val)) 1#32)) from chk_ids hpos' (by omega))]
  iapply (wp_id d L A.ids hpos') $$ Hi; iintro Hi
  generalize ha : idAt A.ids p = a
  generalize he : idAt A.ids (p + 1) = e
  have hrow : ∀ x, (k0_pay23 (F := F) v6 (fun _ => a) (fun _ => e) x).toNat = loc v6 a e := loc_toNat v6 _ _
  generalize hw : k0_pay23 (F := F) v6 (fun _ => a) (fun _ => e) = row at *
  rw [wp_assume_of _ _ _ _ (show k0_chk20 v2 row from chk_cacc (idxs := ![row, v2]) hrow hv2 (loc_lt _ _ _))]
  ihave Ha := (Entails.of_eq (congrArg (fun f => (accM.view.loc (tile d L) ↦{fullShare} f : sProp 𝕄))
    (accB_zero s.acc (fl v6 a e) (loc v6 a e) (addRow A p s.regs)).symm)) $$ Ha
  have hcol := fun k (hk : k < 16) => col_toNat hv2 (16 * k) (by omega)
  have hchk := fun k (hk : k < 16) => chk_acc (k := k) (idxs := ![row, addi v2 (broadcast S16 (BitVec.ofNat 32 (16 * k)))]) hrow (hcol k hk) (loc_lt v6 a e) hk
  iapply (wp_flush d L (k := 0) (r := addRow A p s.regs) (idxs := ![row, addi v2 (broadcast S16 (BitVec.ofNat 32 (16 * 0)))]) (hchk 0 (by omega)) (mask_iff v6 a e) hrow (hcol 0 (by omega)) rfl) $$ Ha; iintro Ha
  iapply (wp_flush d L (k := 1) (r := addRow A p s.regs) (idxs := ![row, addi v2 (broadcast S16 (BitVec.ofNat 32 (16 * 1)))]) (hchk 1 (by omega)) (mask_iff v6 a e) hrow (hcol 1 (by omega)) rfl) $$ Ha; iintro Ha
  iapply (wp_flush d L (k := 2) (r := addRow A p s.regs) (idxs := ![row, addi v2 (broadcast S16 (BitVec.ofNat 32 (16 * 2)))]) (hchk 2 (by omega)) (mask_iff v6 a e) hrow (hcol 2 (by omega)) rfl) $$ Ha; iintro Ha
  iapply (wp_flush d L (k := 3) (r := addRow A p s.regs) (idxs := ![row, addi v2 (broadcast S16 (BitVec.ofNat 32 (16 * 3)))]) (hchk 3 (by omega)) (mask_iff v6 a e) hrow (hcol 3 (by omega)) rfl) $$ Ha; iintro Ha
  iapply (wp_flush d L (k := 4) (r := addRow A p s.regs) (idxs := ![row, addi v2 (broadcast S16 (BitVec.ofNat 32 (16 * 4)))]) (hchk 4 (by omega)) (mask_iff v6 a e) hrow (hcol 4 (by omega)) rfl) $$ Ha; iintro Ha
  iapply (wp_flush d L (k := 5) (r := addRow A p s.regs) (idxs := ![row, addi v2 (broadcast S16 (BitVec.ofNat 32 (16 * 5)))]) (hchk 5 (by omega)) (mask_iff v6 a e) hrow (hcol 5 (by omega)) rfl) $$ Ha; iintro Ha
  iapply (wp_flush d L (k := 6) (r := addRow A p s.regs) (idxs := ![row, addi v2 (broadcast S16 (BitVec.ofNat 32 (16 * 6)))]) (hchk 6 (by omega)) (mask_iff v6 a e) hrow (hcol 6 (by omega)) rfl) $$ Ha; iintro Ha
  iapply (wp_flush d L (k := 7) (r := addRow A p s.regs) (idxs := ![row, addi v2 (broadcast S16 (BitVec.ofNat 32 (16 * 7)))]) (hchk 7 (by omega)) (mask_iff v6 a e) hrow (hcol 7 (by omega)) rfl) $$ Ha; iintro Ha
  iapply (wp_flush d L (k := 8) (r := addRow A p s.regs) (idxs := ![row, addi v2 (broadcast S16 (BitVec.ofNat 32 (16 * 8)))]) (hchk 8 (by omega)) (mask_iff v6 a e) hrow (hcol 8 (by omega)) rfl) $$ Ha; iintro Ha
  iapply (wp_flush d L (k := 9) (r := addRow A p s.regs) (idxs := ![row, addi v2 (broadcast S16 (BitVec.ofNat 32 (16 * 9)))]) (hchk 9 (by omega)) (mask_iff v6 a e) hrow (hcol 9 (by omega)) rfl) $$ Ha; iintro Ha
  iapply (wp_flush d L (k := 10) (r := addRow A p s.regs) (idxs := ![row, addi v2 (broadcast S16 (BitVec.ofNat 32 (16 * 10)))]) (hchk 10 (by omega)) (mask_iff v6 a e) hrow (hcol 10 (by omega)) rfl) $$ Ha; iintro Ha
  iapply (wp_flush d L (k := 11) (r := addRow A p s.regs) (idxs := ![row, addi v2 (broadcast S16 (BitVec.ofNat 32 (16 * 11)))]) (hchk 11 (by omega)) (mask_iff v6 a e) hrow (hcol 11 (by omega)) rfl) $$ Ha; iintro Ha
  iapply (wp_flush d L (k := 12) (r := addRow A p s.regs) (idxs := ![row, addi v2 (broadcast S16 (BitVec.ofNat 32 (16 * 12)))]) (hchk 12 (by omega)) (mask_iff v6 a e) hrow (hcol 12 (by omega)) rfl) $$ Ha; iintro Ha
  iapply (wp_flush d L (k := 13) (r := addRow A p s.regs) (idxs := ![row, addi v2 (broadcast S16 (BitVec.ofNat 32 (16 * 13)))]) (hchk 13 (by omega)) (mask_iff v6 a e) hrow (hcol 13 (by omega)) rfl) $$ Ha; iintro Ha
  iapply (wp_flush d L (k := 14) (r := addRow A p s.regs) (idxs := ![row, addi v2 (broadcast S16 (BitVec.ofNat 32 (16 * 14)))]) (hchk 14 (by omega)) (mask_iff v6 a e) hrow (hcol 14 (by omega)) rfl) $$ Ha; iintro Ha
  iapply (wp_flush d L (k := 15) (r := addRow A p s.regs) (idxs := ![row, addi v2 (broadcast S16 (BitVec.ofNat 32 (16 * 15)))]) (hchk 15 (by omega)) (mask_iff v6 a e) hrow (hcol 15 (by omega)) rfl) $$ Ha; iintro Ha
  iapply (wp_flushC d L (idxs := ![row, v2]) (mask_iff v6 a e) hrow hv2) $$ Hc; iintro Hc
  rw [wp_ret]; imodintro
  isplitr
  · ipureintro
    have hr : ∀ k, (step A v6 p s).regs k = select (k0_pay20 (F := F) (fun _ => a) (fun _ => e)) k0_pay125 (addRow A p s.regs k) := fun k => by
      subst ha he; exact (sel_chg _ _ k0_pay125 (addRow A p s.regs k)).symm
    simp only [hr]; rfl
  · subst ha he
    isplitl [Hb]; · iexact Hb
    isplitl [Hi]; · iexact Hi
    isplitl [Ha]; · iexact Ha
    iexact Hc

end

end Cert.Proof.Seg
-- ==== Proof.Fetch.lean ====
/-
  A chunk's copy into a slot of the double buffer: its start and its wait.
-/
module

public import proofs.«01_k».proof.Proof.Lane
public import Idealize.ShloMosaic.Lib.ValueLayout

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight wp_dmaLocal wp_waitLocalO Flight_mono)

variable {F : FTy → Type} [FloatOps F]

local notation "𝕄" => MT nD τ sig (HIx 1) (Elt F) ℕ UU ℕ

/-! ## The three ends of a copy -/

/-- A slot of the double buffer as the copies name it. -/
abbrev slotV (off : Fin 3 → ℕ) (inb : ∀ a, off a + S1x80x256.size a ≤ S2x80x256.size a) : Memref sig .scVector .vmem S80x256 .f32 :=
  (bufM.slice (Rect.unit (s := S2x80x256) off S1x80x256.size inb) (fun _ => rfl)).squeeze S80x256 squeezes_S1x80x256_S80x256
/-- The rows of a chunk. -/
abbrev rowsV (off : Fin 2 → ℕ) (inb : ∀ a, off a + S80x256.size a ≤ S50000x256.size a) : Memref sig .scVector .hbm S80x256 .f32 :=
  hvM.slice (Rect.unit (s := S50000x256) off S80x256.size inb) (fun _ => rfl)
/-- A slot's semaphore. -/
abbrev semV (off : Fin 1 → ℕ) (inb : ∀ a, off a + S1.size a ≤ S2.size a) : DmaSem sig :=
  ((cc0_scratch6.slice (Rect.unit (s := S2) off S1.size inb)).squeeze S_ squeezes_S1_S_).sem

/-- A slot's semaphore by the slot's number. -/
abbrev slotSem (s : ℕ) : DmaSem sig := semV ![s % 2] (by intro a; match a with | 0 => exact Nat.mod_lt s (by decide))

theorem semV_eq {off : Fin 1 → ℕ} (inb : ∀ a, off a + S1.size a ≤ S2.size a) {s : ℕ} (ho : off = ![s % 2]) : semV off inb = slotSem s := by
  subst ho; rfl

theorem slotV_set {off : Fin 3 → ℕ} (inb : ∀ a, off a + S1x80x256.size a ≤ S2x80x256.size a) {s : ℕ} (ho : off = ![s, 0, 0]) :
    (slotV off inb).view.set = slotSet s := by
  subst ho
  refine (View.set_reshape _ _).trans ?_
  refine (View.set_slice_whole (κ := .scVector) cc0_scratch0 (Rect.unit (s := S2x80x256) ![s, 0, 0] S1x80x256.size inb)).trans ?_
  ext x
  have h1 : (x 1).val < 80 := (x 1).isLt
  have h2 : (x 2).val < 256 := (x 2).isLt
  refine Rect.mem_set_unit.trans ⟨fun h => Finset.mem_filter.mpr ⟨Finset.mem_univ _, ?_⟩, fun h a => ?_⟩
  · have h0 : s ≤ (x 0).val ∧ (x 0).val < s + 1 := h 0
    omega
  · have h0 := (Finset.mem_filter.mp h).2
    match a with
    | 0 => exact (show s ≤ (x 0).val ∧ (x 0).val < s + 1 by omega)
    | 1 => exact (show 0 ≤ (x 1).val ∧ (x 1).val < 0 + 80 by omega)
    | 2 => exact (show 0 ≤ (x 2).val ∧ (x 2).val < 0 + 256 by omega)

/-- What a chunk's slot holds is what its rows read. -/
theorem slotV_read (hv : Vec F S50000x256 .f32) {off : Fin 3 → ℕ} (inb : ∀ a, off a + S1x80x256.size a ≤ S2x80x256.size a)
    {off' : Fin 2 → ℕ} (inb' : ∀ a, off' a + S80x256.size a ≤ S50000x256.size a) {s r : ℕ} (ho : off = ![s, 0, 0]) (ho' : off' = ![r, 0]) :
    (slotV off inb).view.read (Elt F) (chunkF hv r) = (rowsV off' inb').view.read (Elt F) hv := by
  subst ho ho'
  funext y
  have hr : r + 80 ≤ 50000 := inb' 0
  have h0 : (y 0).val < 80 := (y 0).isLt
  have h1 : (y 1).val < 256 := (y 1).isLt
  have hc : (⟨3, ![1, 80, 256]⟩ : Shape).ShapeCasts ⟨2, ![80, 256]⟩ := by decide
  have hy : y = ValueIdx.ix2 (n0 := 80) (n1 := 256) (y 0) (y 1) := by
    funext a; match a with | 0 => rfl | 1 => rfl
  refine (congrFun (Memref.read_squeeze_slice bufM (Rect.unit (s := S2x80x256) ![s, 0, 0] S1x80x256.size inb) (fun _ => rfl)
    squeezes_S1x80x256_S80x256 hc (chunkF hv r)) y).trans ?_
  rw [hy]
  refine (ValueIdx.shapeCast_1ab_ab_apply _ hc _ _).trans ?_
  show hv (at2 _ _) = hv _
  congr 1
  funext a
  match a with
  | 0 => exact Fin.ext (show (r + (0 + 1 * (y 0).val)) % 50000 = r + 1 * (y 0).val by omega)
  | 1 => exact Fin.ext (show (0 + 1 * (y 1).val) % 256 = 0 + 1 * (y 1).val by omega)

/-! ## A chunk under way -/

/-- The amount a chunk's copy credits its slot's semaphore with. -/
abbrev chunkN : ℕ := (slotV ![0, 0, 0] (by decide)).view.dmaCredit

/-- Chunk at row `r` on its way into slot `s`: the rows' share and the slot come back at the wait. -/
def pend (d : Dev nD) (L : grid0.Coords) (hv : Vec F S50000x256 .f32) (q : PosShare TreeShare) (s r : ℕ) : sProp 𝕄 :=
  iprop(∃ J : Finset S50000x256.Idx, Flight EC (tile d L) (.dma (slotSem s)) none chunkN
      iprop((bufM.view.loc (tile d L) ↦[slotSet s]{fullShare} (chunkF hv r : Vec F S2x80x256 .f32)) ∗ (hvM.view.loc (tile d L) ↦[J]{q} hv))
    ∗ (hvM.view.loc (tile d L) ↦[Finset.univ \ J]{q} hv))

/-- The start of a chunk's copy: into slot `s`, from row `r`. -/
theorem wp_fetch {α : Type} {Q : α → sProp 𝕄} (d : Dev nD) (L : grid0.Coords) (hv : Vec F S50000x256 .f32) (q : PosShare TreeShare) {s r : ℕ} (hs : s < 2)
    {o3 : Fin 3 → ℕ} {i3 : ∀ a, o3 a + S1x80x256.size a ≤ S2x80x256.size a} (h3 : o3 = ![s, 0, 0])
    {o2 : Fin 2 → ℕ} {i2 : ∀ a, o2 a + S80x256.size a ≤ S50000x256.size a} (h2 : o2 = ![r, 0])
    {o1 : Fin 1 → ℕ} {i1 : ∀ a, o1 a + S1.size a ≤ S2.size a} (h1 : o1 = ![s]) {f : Vec F S2x80x256 .f32} {hsrc hdst hsem}
    {kk : PUnit → Prog (TpuEff nD τ sig (Elt F) Λ₀ (tile d L).2) α} :
    iprop((hvM.view.loc (tile d L) ↦{q} hv) ∗ (bufM.view.loc (tile d L) ↦[slotSet s]{fullShare} f) ∗ semVal (tile d L, .dma (slotSem s)) 0)
      ⊢ iprop((pend d L hv q s r -∗ wp frame (wpE (defs₀ (F := F)) 𝒱₀ (tile d L) none) Set.univ (kk ⟨⟩) Q)
        -∗ wp frame (wpE (defs₀ (F := F)) 𝒱₀ (tile d L) none) Set.univ
            (.op (.enqueueDma (rowsV o2 i2) (.here (slotV o3 i3)) (.dma (semV o1 i1)) hsrc hdst hsem) kk) Q) := by
  have hse : semV o1 i1 = slotSem s := semV_eq i1 (by rw [h1, Nat.mod_eq_of_lt hs])
  revert hsem
  rw [hse]
  intro hsem
  have hset := slotV_set i3 h3
  have hw : (bufM.view.loc (tile d L) ↦[slotSet s]{fullShare} (chunkF hv r : Vec F S2x80x256 .f32) : sProp 𝕄)
      = (bufM.view.loc (tile d L) ↦[slotSet s]{fullShare} ((slotV o3 i3).view.write (Elt F) f ((rowsV o2 i2).view.read (Elt F) hv) Finset.univ)) := by
    refine pointsTo_congr fun x hx => ?_
    rw [← slotV_read hv i3 i2 h3 h2, View.write_read_eq_piecewise, View.setOn_univ, hset]
    exact (Finset.piecewise_eq_of_mem _ _ _ hx).symm
  iintro ⟨Hhv, Hb, Hsem⟩ Hk
  ihave Hhv := (pointsTo_split_subset (Finset.subset_univ (rowsV o2 i2).view.set)).1 $$ Hhv
  icases Hhv with ⟨Hs, Hrest⟩
  iapply (wp_dmaLocal EC 𝒱₀ (tile d L) none (src := rowsV o2 i2) (dst := slotV o3 i3) (Sd := slotSet s) (fd := f) (q := q) (fs := hv)
    none chunkN rfl (View.dmaCredit_pos _ (by decide)) (by rw [hset])) $$ [Hs Hb Hsem]
  · isplitl [Hs]; · iexact Hs
    isplitl [Hb]; · iexact Hb
    iexact Hsem
  iintro Hf
  iapply Hk
  unfold pend
  iexists (rowsV o2 i2).view.set
  isplitl [Hf]
  · iapply (Flight_mono EC (tile d L) (D' := iprop((bufM.view.loc (tile d L) ↦[slotSet s]{fullShare} (chunkF hv r : Vec F S2x80x256 .f32)) ∗ (hvM.view.loc (tile d L) ↦[(rowsV o2 i2).view.set]{q} hv))) ?_) $$ Hf
    iintro ⟨H1, H2⟩
    isplitl [H1]
    · rw [hw]; iexact H1
    iexact H2
  iexact Hrest

/-- The wait for a chunk. -/
theorem wp_land {α : Type} {Q : α → sProp 𝕄} (d : Dev nD) (L : grid0.Coords) (hv : Vec F S50000x256 .f32) (q : PosShare TreeShare) {s r : ℕ} (hs : s < 2)
    {o3 : Fin 3 → ℕ} {i3 : ∀ a, o3 a + S1x80x256.size a ≤ S2x80x256.size a}
    {o2 : Fin 2 → ℕ} {i2 : ∀ a, o2 a + S80x256.size a ≤ S50000x256.size a}
    {o1 : Fin 1 → ℕ} {i1 : ∀ a, o1 a + S1.size a ≤ S2.size a} (h1 : o1 = ![s]) {hsrc hdst}
    {O : CellTallies nD τ sig (HIx 1)} {W : Waits sig (HIx 1)}
    {kk : PUnit → Prog (TpuEff nD τ sig (Elt F) Λ₀ (tile d L).2) α} :
    iprop(pend d L hv q s r ∗ owes (tile d L) O W ∗ MayWait (tile d L) (.dma (slotSem s)) none O)
      ⊢ iprop((iprop((bufM.view.loc (tile d L) ↦[slotSet s]{fullShare} (chunkF hv r : Vec F S2x80x256 .f32)) ∗ (hvM.view.loc (tile d L) ↦{q} hv)
              ∗ semVal (tile d L, .dma (slotSem s)) 0 ∗ owes (tile d L) O (insert (SemLoc.dma (slotSem s), none) W))
            -∗ wp frame (wpE (defs₀ (F := F)) 𝒱₀ (tile d L) none) Set.univ (kk ⟨⟩) Q)
        -∗ wp frame (wpE (defs₀ (F := F)) 𝒱₀ (tile d L) none) Set.univ
            (.op (.waitDma2 (semV o1 i1) (rowsV o2 i2) (slotV o3 i3) hsrc hdst) kk) Q) := by
  have hse : semV o1 i1 = slotSem s := semV_eq i1 (by rw [h1, Nat.mod_eq_of_lt hs])
  rw [hse]
  unfold pend
  iintro ⟨⟨%J, Hf, Hrest⟩, HO, Hmw⟩ Hk
  iapply (wp_waitLocalO EC 𝒱₀ (tile d L) none (dstw := slotV o3 i3) (srcw := rowsV o2 i2) none (N := chunkN) rfl) $$ [Hf HO Hmw]
  · isplitl [Hf]; · iexact Hf
    isplitl [HO]; · iexact HO
    iexact Hmw
  iintro ⟨⟨Hb, Hs⟩, Hsem, HO⟩
  iapply Hk
  isplitl [Hb]; · iexact Hb
  isplitl [Hs Hrest]
  · iapply (pointsTo_split_subset (Finset.subset_univ J)).2
    isplitl [Hs]; · iexact Hs
    iexact Hrest
  isplitl [Hsem]; · iexact Hsem
  iexact HO

end Cert.Proof.Seg
-- ==== Proof.Loops.lean ====
/-
  The loops over a tile's rows: a group's lanes, a chunk's groups, and the chunks.
-/
module

public import proofs.«01_k».proof.Proof.Fetch

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Affine (IsInt)

variable {F : FTy → Type} [FloatOps F]

local notation "𝕄" => MT nD τ sig (HIx 1) (Elt F) ℕ UU ℕ

section

variable {v13 v17 : BitVec 32} (L : grid0.Coords) (A : Data F) (v1 v6 v51 v53 c80 v83 v94 v110 : BitVec 32) (v2 : IVec S16 32) (hw1 : k0_chk1 v13 v17)

/-- A lane's operations, over a tile's own buffers. -/
abbrev body6 (i : Fin (k0_t4_loop v13 v17).trips) (m : Fin k0_t5_loop.trips) :=
  k0_t6_body (F := F) L hvM (Memref.isWhole_whole _) idM (Memref.isWhole_whole _) wgM (Memref.isWhole_whole _) bgM (Memref.isWhole_whole _)
    pwM (Memref.isWhole_whole _) pcM (Memref.isWhole_whole _) bufM (Memref.isWhole_whole _) idsM (Memref.isWhole_whole _) wM (Memref.isWhole_whole _)
    bM (Memref.isWhole_whole _) accM (Memref.isWhole_whole _) caccM (Memref.isWhole_whole _) cc0_scratch6 cc0_scoped0 cc0_scoped1 cc0_scoped2 cc0_scoped3 cc0_scoped4
    v1 v2 k0_pay125 v6 v13 v17 hw1 (wgv A.w 0) (wgv A.w 1) (wgv A.w 2) (wgv A.w 3) (wgv A.w 4) (wgv A.w 5) (wgv A.w 6) (wgv A.w 7)
    (wgv A.w 8) (wgv A.w 9) (wgv A.w 10) (wgv A.w 11) (wgv A.w 12) (wgv A.w 13) (wgv A.w 14) (wgv A.w 15) A.b v51 v53 c80 i v94 m
    (Scf.iv 0#32 1#32 m.val) v110

/-- A group's operations. -/
abbrev body5 (i : Fin (k0_t4_loop v13 v17).trips) :=
  k0_t5_body (F := F) L hvM (Memref.isWhole_whole _) idM (Memref.isWhole_whole _) wgM (Memref.isWhole_whole _) bgM (Memref.isWhole_whole _)
    pwM (Memref.isWhole_whole _) pcM (Memref.isWhole_whole _) bufM (Memref.isWhole_whole _) idsM (Memref.isWhole_whole _) wM (Memref.isWhole_whole _)
    bM (Memref.isWhole_whole _) accM (Memref.isWhole_whole _) caccM (Memref.isWhole_whole _) cc0_scratch6 cc0_scoped0 cc0_scoped1 cc0_scoped2 cc0_scoped3 cc0_scoped4
    v1 v2 k0_pay125 v6 v13 v17 hw1 (wgv A.w 0) (wgv A.w 1) (wgv A.w 2) (wgv A.w 3) (wgv A.w 4) (wgv A.w 5) (wgv A.w 6) (wgv A.w 7)
    (wgv A.w 8) (wgv A.w 9) (wgv A.w 10) (wgv A.w 11) (wgv A.w 12) (wgv A.w 13) (wgv A.w 14) (wgv A.w 15) A.b v51 v53 c80 i v83 v94

/-- A chunk's operations. -/
abbrev body4 :=
  k0_t4_body (F := F) L hvM (Memref.isWhole_whole _) idM (Memref.isWhole_whole _) wgM (Memref.isWhole_whole _) bgM (Memref.isWhole_whole _)
    pwM (Memref.isWhole_whole _) pcM (Memref.isWhole_whole _) bufM (Memref.isWhole_whole _) idsM (Memref.isWhole_whole _) wM (Memref.isWhole_whole _)
    bM (Memref.isWhole_whole _) accM (Memref.isWhole_whole _) caccM (Memref.isWhole_whole _) cc0_scratch6 cc0_scoped0 cc0_scoped1 cc0_scoped2 cc0_scoped3 cc0_scoped4
    v1 v2 k0_pay125 v6 v13 v17 hw1 (wgv A.w 0) (wgv A.w 1) (wgv A.w 2) (wgv A.w 3) (wgv A.w 4) (wgv A.w 5) (wgv A.w 6) (wgv A.w 7)
    (wgv A.w 8) (wgv A.w 9) (wgv A.w 10) (wgv A.w 11) (wgv A.w 12) (wgv A.w 13) (wgv A.w 14) (wgv A.w 15) A.b v51 v53 c80

theorem t5_trips : Scf.trips 0#32 5#32 1#32 = 5 := by decide
theorem t6_trips : Scf.trips 0#32 16#32 1#32 = 16 := by decide

end

section

variable {v13 v17 : BitVec 32} {lo hi : ℕ} (H : Counted v13 v17 lo hi)
include H

/-- A group: sixteen rows from row `b + 16 m`. -/
theorem group_spec (d : Dev nD) (L : grid0.Coords) (A : Data F) (hw1 : k0_chk1 v13 v17) (v1 v6 v51 v53 c80 v94 v110 : BitVec 32) (v2 : IVec S16 32)
    (hv2 : ∀ x, (v2 x).toNat = (x 0).val) (i : Fin (k0_t4_loop v13 v17).trips) (m : Fin k0_t5_loop.trips) (b p₀ n : ℕ) (hn : p₀ + n = b + 16 * m.val)
    (hpos : ∀ l < 16, IsInt (Scalar.addi v110 (Scf.iv 0#32 1#32 l)) (b + (16 * m.val + l) : ℕ)) (hb : ∀ l < 16, b + (16 * m.val + l) < 50000) :
    rowSt d L A (i.val % 2) b (run A v6 p₀ n)
      ⊢ wp frame (wpE (defs₀ (F := F)) 𝒱₀ (tile d L) none) Set.univ
          (Scf.Loop.for k0_t6_loop k0_t6_ok (tup (run A v6 p₀ n).regs) (body6 L A v1 v6 v51 v53 c80 v94 v110 v2 hw1 i m))
          fun r => iprop(⌜r = tup (run A v6 p₀ (n + 16)).regs⌝ ∗ rowSt d L A (i.val % 2) b (run A v6 p₀ (n + 16))) := by
  iintro HS
  iapply (Scf.wp_for frame (wpE (defs₀ (F := F)) 𝒱₀ (tile d L) none) Set.univ _ _ _ k0_t6_ok _ _
    (fun k r => iprop(⌜r = tup (run A v6 p₀ (n + k)).regs⌝ ∗ rowSt d L A (i.val % 2) b (run A v6 p₀ (n + k)))) ?_)
  · intro l acc
    have hl := t6_lt l
    iintro ⟨%e, HS⟩
    subst e
    have hrow : p₀ + (n + l.val) = b + (16 * m.val + l.val) := by omega
    have hs := lane_spec H d L A hw1 v1 v6 v51 v53 c80 v94 v110 v2 hv2 i m l b (hpos _ hl) (hb _ hl) (run A v6 p₀ (n + l.val))
    rw [← hrow] at hs
    iapply hs
    iexact HS
  · isplitl [HS]
    · isplitr; · ipureintro; rfl
      iexact HS
    iintro %acc HI
    rw [show Scf.trips k0_t6_loop.lb k0_t6_loop.ub k0_t6_loop.st = 16 from t6_trips]
    iexact HI

/-- A chunk: eighty rows from row `b`. -/
theorem chunk_spec (d : Dev nD) (L : grid0.Coords) (A : Data F) (hw1 : k0_chk1 v13 v17) (v1 v6 v51 v53 c80 v83 v94 : BitVec 32) (v2 : IVec S16 32)
    (hv2 : ∀ x, (v2 x).toNat = (x 0).val) (i : Fin (k0_t4_loop v13 v17).trips) (b p₀ n : ℕ) (hn : p₀ + n = b)
    (hpos : ∀ m < 5, ∀ l < 16, IsInt (Scalar.addi (Scalar.addi v83 (Scalar.muli (Scf.iv 0#32 1#32 m) 16#32)) (Scf.iv 0#32 1#32 l)) (b + (16 * m + l) : ℕ))
    (hb : b + 80 ≤ 50000) :
    rowSt d L A (i.val % 2) b (run A v6 p₀ n)
      ⊢ wp frame (wpE (defs₀ (F := F)) 𝒱₀ (tile d L) none) Set.univ
          (Scf.Loop.for k0_t5_loop k0_t5_ok (tup (run A v6 p₀ n).regs) (body5 L A v1 v6 v51 v53 c80 v83 v94 v2 hw1 i))
          fun r => iprop(⌜r = tup (run A v6 p₀ (n + 80)).regs⌝ ∗ rowSt d L A (i.val % 2) b (run A v6 p₀ (n + 80))) := by
  iintro HS
  iapply (Scf.wp_for frame (wpE (defs₀ (F := F)) 𝒱₀ (tile d L) none) Set.univ _ _ _ k0_t5_ok _ _
    (fun k r => iprop(⌜r = tup (run A v6 p₀ (n + 16 * k)).regs⌝ ∗ rowSt d L A (i.val % 2) b (run A v6 p₀ (n + 16 * k)))) ?_)
  · intro m acc
    have hm := t5_lt m
    iintro ⟨%e, HS⟩
    subst e
    have hg := group_spec H d L A hw1 v1 v6 v51 v53 c80 v94 (Scalar.addi v83 (Scalar.muli (Scf.iv 0#32 1#32 m.val) 16#32)) v2 hv2 i m b p₀
      (n + 16 * m.val) (by omega) (fun l hl => hpos _ hm l hl) (fun l hl => by omega)
    unfold body5 k0_t5_body tup
    dsimp only
    rw [wp_bind]
    iapply (wp_wand_r frame (wpE (defs₀ (F := F)) 𝒱₀ (tile d L) none) Set.univ)
    isplitl [HS]
    · iapply hg; iexact HS
    iintro %r ⟨%e, HS⟩
    subst e
    unfold tup
    rw [show n + 16 * (m.val + 1) = n + 16 * m.val + 16 by omega]
    simp only [Prog.pure_eq_ret]
    rw [wp_ret]
    imodintro
    isplitr; · ipureintro; rfl
    iexact HS
  · isplitl [HS]
    · isplitr; · ipureintro; rfl
      iexact HS
    iintro %acc HI
    rw [show Scf.trips k0_t5_loop.lb k0_t5_loop.ub k0_t5_loop.st = 5 from t5_trips]
    iexact HI

end

end Cert.Proof.Seg
-- ==== Proof.Chunks.lean ====
/-
  The loop over a tile's chunks: each waited for in its slot, the next one started into the other.
-/
module

public import proofs.«01_k».proof.Proof.Loops

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Affine (IsInt)

variable {F : FTy → Type} [FloatOps F]

local notation "𝕄" => MT nD τ sig (HIx 1) (Elt F) ℕ UU ℕ

/-- The chunk a trip waits for, or, past the last, the slot at rest. -/
def slotSt (d : Dev nD) (L : grid0.Coords) (hv : Vec F S50000x256 .f32) (q : PosShare TreeShare) (n p₀ i : ℕ) : sProp 𝕄 :=
  if i < n then pend d L hv q (i % 2) (p₀ + 80 * i)
  else iprop((hvM.view.loc (tile d L) ↦{q} hv) ∗ (∃ f : Vec F S2x80x256 .f32, bufM.view.loc (tile d L) ↦[slotSet (i % 2)]{fullShare} f)
    ∗ semVal (tile d L, .dma (slotSem (i % 2))) 0)

/-- What a tile holds before trip `i` of its chunks. -/
def chunkSt (d : Dev nD) (L : grid0.Coords) (A : Data F) (v6 : BitVec 32) (q : PosShare TreeShare) (O : CellTallies nD τ sig (HIx 1)) (W : Waits sig (HIx 1))
    (n p₀ i : ℕ) : sProp 𝕄 :=
  iprop(slotSt d L A.hv q n p₀ i
    ∗ (∃ f : Vec F S2x80x256 .f32, bufM.view.loc (tile d L) ↦[slotSet ((i + 1) % 2)]{fullShare} f)
    ∗ semVal (tile d L, .dma (slotSem ((i + 1) % 2))) 0
    ∗ (idsM.view.loc (tile d L) ↦{fullShare} idsBuf A.ids)
    ∗ (accM.view.loc (tile d L) ↦{fullShare} (run A v6 p₀ (80 * i)).acc)
    ∗ (caccM.view.loc (tile d L) ↦{fullShare} (run A v6 p₀ (80 * i)).cacc)
    ∗ ∃ W', ⌜∀ p ∈ W', p ∈ W ∨ p.2 = none⌝ ∗ owes (tile d L) O W')

section

variable {v13 v17 : BitVec 32} {lo hi : ℕ} (H : Counted v13 v17 lo hi)
include H

set_option maxHeartbeats 4000000 in
theorem trip_spec (d : Dev nD) (L : grid0.Coords) (A : Data F) (hw1 : k0_chk1 v13 v17) (v1 v6 v53 c80 : BitVec 32) (v2 : IVec S16 32)
    (hv2 : ∀ x, (v2 x).toNat = (x 0).val) (q : PosShare TreeShare) (O : CellTallies nD τ sig (HIx 1)) (W : Waits sig (HIx 1)) (hO : ∀ g, O g none = 0)
    (i : Fin (k0_t4_loop v13 v17).trips) (p₀ : ℕ) (hp : p₀ = 80 * (lo / 80)) :
    iprop(levAts (K (F := F)).L (K (F := F)).lev ∗ chunkSt d L A v6 q O W (nChunks lo hi) p₀ i.val)
      ⊢ wp frame (wpE (defs₀ (F := F)) 𝒱₀ (tile d L) none) Set.univ
          (body4 L A v1 v6 (q0w v13) v53 c80 v2 hw1 i (tup (run A v6 p₀ (80 * i.val)).regs))
          fun r => iprop(⌜r = tup (run A v6 p₀ (80 * (i.val + 1))).regs⌝ ∗ chunkSt d L A v6 q O W (nChunks lo hi) p₀ (i.val + 1)) := by
  have hlt := t4_lt H i
  have hle := H.le
  have hhi := H.hi_le
  have hb : p₀ + 80 * i.val + 80 ≤ 50000 := by unfold nChunks at hlt; omega
  have hm2 : (i.val + 1 + 1) % 2 = i.val % 2 := by omega
  have hch := chunk_spec H d L A hw1 v1 v6 (q0w v13) v53 c80 (Scalar.muli (qw v13 i.val) 80#32) (slotw v13 i.val) v2 hv2 i (p₀ + 80 * i.val) p₀ (80 * i.val) rfl
    (fun m hm l hl => by
      have h := posw_isInt H hlt hm hl
      rwa [show rowAt lo i.val m l = p₀ + 80 * i.val + (16 * m + l) by unfold rowAt; omega] at h) hb
  unfold body4 k0_t4_body tup
  unfold chunkSt
  rw [slotSt, if_pos hlt]
  dsimp only
  iintro ⟨#Hlv, Hp, ⟨%f, Hb⟩, Hsm, Hids, Hacc, Hcacc, %W', %hW', HO⟩
  simp only [wp_bind, Prog.lift]
  ihave Hmw := ((K (F := F)).mayWait_none (thr := tile d L) (SemLoc.dma (slotSem (i.val % 2))) hO) $$ Hlv
  iapply (wp_land d L A.hv q (s := i.val % 2) (r := p₀ + 80 * i.val) (Nat.mod_lt _ (by decide)) (off22_val H i)) $$ [Hp HO Hmw]
  · isplitl [Hp]; · iexact Hp
    isplitl [HO]; · iexact HO
    iexact Hmw
  iintro ⟨Hslot, Hhv, Hsem, HO⟩
  rw [wp_ret]
  imodintro
  have hW2 : ∀ p ∈ insert (SemLoc.dma (slotSem (i.val % 2)), (none : HIx 1)) W', p ∈ W ∨ p.2 = none := by
    intro p hp'
    rcases Finset.mem_insert.mp hp' with h | h
    · right; rw [h]
    · exact hW' p h
  by_cases hc : k0_cond2 v13 v17 i = 1#1
  · have hn : i.val + 1 < nChunks lo hi := (cond2_iff H i).mp hc
    rw [dif_pos hc]
    simp only [wp_bind, Prog.lift]
    iapply (wp_fetch d L A.hv q (s := (i.val + 1) % 2) (r := p₀ + 80 * (i.val + 1)) (f := f) (Nat.mod_lt _ (by decide)) (off23_val H i) (hp ▸ off24_val H i) (off25_val H i)) $$ [Hhv Hb Hsm]
    · isplitl [Hhv]; · iexact Hhv
      isplitl [Hb]; · iexact Hb
      iexact Hsm
    iintro Hp
    rw [wp_ret]
    imodintro
    iapply (wp_wand_r frame (wpE (defs₀ (F := F)) 𝒱₀ (tile d L) none) Set.univ)
    isplitl [Hslot Hids Hacc Hcacc]
    · iapply hch
      unfold rowSt
      isplitl [Hslot]; · iexact Hslot
      isplitl [Hids]; · iexact Hids
      isplitl [Hacc]; · iexact Hacc
      iexact Hcacc
    iintro %r ⟨%e, Hrow⟩
    subst e
    unfold tup rowSt
    icases Hrow with ⟨Hslot, Hids, Hacc, Hcacc⟩
    simp only [Prog.pure_eq_ret]
    rw [wp_ret, show 80 * (i.val + 1) = 80 * i.val + 80 by omega]
    imodintro
    isplitr; · ipureintro; rfl
    rw [slotSt, if_pos hn, hm2]
    isplitl [Hp]
    · rw [show 80 * i.val + 80 = 80 * (i.val + 1) by omega]; iexact Hp
    isplitl [Hslot]; · iexists _; iexact Hslot
    isplitl [Hsem]; · iexact Hsem
    isplitl [Hids]; · iexact Hids
    isplitl [Hacc]; · iexact Hacc
    isplitl [Hcacc]; · iexact Hcacc
    iexists _
    isplitr; · ipureintro; exact hW2
    iexact HO
  · have hn : ¬ i.val + 1 < nChunks lo hi := fun h => hc ((cond2_iff H i).mpr h)
    rw [dif_neg hc]
    simp only [wp_bind]
    iapply (wp_wand_r frame (wpE (defs₀ (F := F)) 𝒱₀ (tile d L) none) Set.univ)
    isplitl [Hslot Hids Hacc Hcacc]
    · iapply hch
      unfold rowSt
      isplitl [Hslot]; · iexact Hslot
      isplitl [Hids]; · iexact Hids
      isplitl [Hacc]; · iexact Hacc
      iexact Hcacc
    iintro %r ⟨%e, Hrow⟩
    subst e
    unfold tup rowSt
    icases Hrow with ⟨Hslot, Hids, Hacc, Hcacc⟩
    simp only [Prog.pure_eq_ret]
    rw [wp_ret, show 80 * (i.val + 1) = 80 * i.val + 80 by omega]
    imodintro
    isplitr; · ipureintro; rfl
    rw [slotSt, if_neg hn, hm2]
    isplitl [Hhv Hb Hsm]
    · isplitl [Hhv]; · iexact Hhv
      isplitl [Hb]; · iexists _; iexact Hb
      iexact Hsm
    isplitl [Hslot]; · iexists _; iexact Hslot
    isplitl [Hsem]; · iexact Hsem
    isplitl [Hids]; · iexact Hids
    isplitl [Hacc]; · iexact Hacc
    isplitl [Hcacc]; · iexact Hcacc
    iexists _
    isplitr; · ipureintro; exact hW2
    iexact HO

end

end Cert.Proof.Seg
-- ==== Proof.Tables.lean ====
/-
  The loops before a tile's rows: the tables cleared, the ids' tail filled, the ids counted.
-/
module

public import proofs.«01_k».proof.Proof.Chunks

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Affine (IsInt)

variable {F : FTy → Type} [FloatOps F]

local notation "𝕄" => MT nD τ sig (HIx 1) (Elt F) ℕ UU ℕ

theorem iv_toNat {k : ℕ} (h : k < 50000) : (Scf.iv 0#32 1#32 k).toNat = k := by
  have h1 := Affine.iv (e := (k : Int)) (Affine.ofNat (e := 0) 0 (by omega)) (Affine.ofNat (e := 1) 1 (by omega)) k (by omega)
  have := Affine.toNat_of h1 (by omega); omega

theorem t1_lt (k : Fin k0_t1_loop.trips) : k.val < 32 := lt_of_lt_of_le k.isLt k0_t1_abs.2.1
theorem t2_lt (k : Fin k0_t2_loop.trips) : k.val < 11 := lt_of_lt_of_le k.isLt k0_t2_abs.2.1
theorem t3_lt (k : Fin k0_t3_loop.trips) : k.val < 3136 := lt_of_lt_of_le k.isLt k0_t3_abs.2.1

theorem t1_off {k : Fin k0_t1_loop.trips} {off : Fin 2 → ℕ} {c : ℕ} (h : off = ![(Scf.iv 0#32 1#32 k.val).toNat, c]) : off = ![k.val, c] := by
  rw [h, iv_toNat (by have := t1_lt k; omega)]

theorem off18_val (k : Fin k0_t2_loop.trips) : k0_off18 k = ![50000 + 16 * k.val] := by
  have hk := t2_lt k
  have h1 := Affine.iv (e := (k.val : Int)) (Affine.ofNat (e := 0) 0 (by omega)) (Affine.ofNat (e := 1) 1 (by omega)) k.val (by omega)
  have h2 := Affine.muli (e := (k.val : Int) * 16) h1 (Affine.ofNat (e := 16) 16 (by omega)) ⟨rfl, by omega, by omega⟩
  have h3 := Affine.addi (e := 50000 + (k.val : Int) * 16) (Affine.ofNat (e := 50000) 50000 (by omega)) h2 ⟨rfl, by omega, by omega⟩
  have h4 := Affine.toNat_of h3 (by omega)
  have h5 : k0_off18 k = ![(Scalar.addi 50000#32 (Scalar.muli (Scf.iv 0#32 1#32 k.val) 16#32)).toNat] := rfl
  rw [h5]; congr 1; omega

theorem off19_val (k : Fin k0_t3_loop.trips) : k0_off19 k = ![16 * k.val] := by
  have hk := t3_lt k
  have h1 := Affine.iv (e := (k.val : Int)) (Affine.ofNat (e := 0) 0 (by omega)) (Affine.ofNat (e := 1) 1 (by omega)) k.val (by omega)
  have h2 := Affine.muli (e := (k.val : Int) * 16) h1 (Affine.ofNat (e := 16) 16 (by omega)) ⟨rfl, by omega, by omega⟩
  have h4 := Affine.toNat_of h2 (by omega)
  have h5 : k0_off19 k = ![(Scalar.muli (Scf.iv 0#32 1#32 k.val) 16#32).toNat] := rfl
  rw [h5]; congr 1; omega

section

variable (d : Dev nD) (L : grid0.Coords)

/-- The table is clear in its first `t` rows and in the first `c` columns of the next. -/
def Clear {n1 : ℕ} (t c : ℕ) (f : Vec F (⟨2, ![32, n1]⟩ : Shape) .f32) : Prop :=
  ∀ x, ((x 0).val < t ∨ ((x 0).val = t ∧ (x 1).val < c)) → f x = k0_pay125 (ln 0)

/-- A load from a buffer held whole. -/
theorem wp_ld {α : Type} {Q : α → sProp 𝕄} {cs : CoreSpace} {s : Shape} {e : EltTy} (M : Memref sig .scVector cs s e) (r : Rect s)
    {q : PosShare TreeShare} (f : Buf (Elt F) (M.view.loc (tile d L))) {hl}
    {kk : (r.shape.Idx → Elt F e) → Prog (TpuEff nD τ sig (Elt F) Λ₀ (tile d L).2) α} :
    (M.view.loc (tile d L) ↦{q} f : sProp 𝕄)
      ⊢ iprop(((M.view.loc (tile d L) ↦{q} f) -∗ wp frame (wpE (defs₀ (F := F)) 𝒱₀ (tile d L) none) Set.univ (kk ((M.access r).read (Elt F) f)) Q)
        -∗ wp frame (wpE (defs₀ (F := F)) 𝒱₀ (tile d L) none) Set.univ (.op (.load M r.toLoadRect hl) kk) Q) :=
  wp_load_rect (defs := defs₀ (F := F)) (Q := Q) 𝒱₀ (tile d L) none Set.univ (m := M) (r := r) (hl := hl) (k := kk) (S := Finset.univ) (q := q) (f := f)
    (Finset.subset_univ _)

/-- A store into a buffer held whole. -/
theorem wp_st {α : Type} {Q : α → sProp 𝕄} {cs : CoreSpace} {s : Shape} {e : EltTy} (M : Memref sig .scVector cs s e) (r : Rect s)
    (f : Buf (Elt F) (M.view.loc (tile d L))) (w : r.shape.Idx → Elt F e) {hx hm}
    {kk : PUnit → Prog (TpuEff nD τ sig (Elt F) Λ₀ (tile d L).2) α} :
    (M.view.loc (tile d L) ↦{fullShare} f : sProp 𝕄)
      ⊢ iprop(((M.view.loc (tile d L) ↦{fullShare} ((M.access r).write (Elt F) f w Finset.univ))
          -∗ wp frame (wpE (defs₀ (F := F)) 𝒱₀ (tile d L) none) Set.univ (kk ⟨⟩) Q)
        -∗ wp frame (wpE (defs₀ (F := F)) 𝒱₀ (tile d L) none) Set.univ (.op (.store M r w Finset.univ hx hm) kk) Q) :=
  wp_store (defs := defs₀ (F := F)) (Q := Q) 𝒱₀ (tile d L) none Set.univ (m := M) (r := r) (w := w) (Mk := Finset.univ) (hx := hx) (hm := hm) (k := kk)
    (S := Finset.univ) (f := f) (Finset.subset_univ _)

/-- Sixteen columns of a row read and then cleared. -/
theorem wp_clear {α : Type} {Q : α → sProp 𝕄} {t c : ℕ} {off : Fin 2 → ℕ} {inb : ∀ a, off a + S1x16.size a ≤ S32x256.size a} (ho : off = ![t, c])
    {f : Vec F S32x256 .f32} (hf : Clear t c f) {hl hx hm} {w : Vec F S1x16 .f32} (hw : ∀ y, w y = k0_pay125 (ln 0))
    {kk : PUnit → Prog (TpuEff nD τ sig (Elt F) Λ₀ (tile d L).2) α} :
    (accM.view.loc (tile d L) ↦{fullShare} f : sProp 𝕄)
      ⊢ iprop((∀ f' : Vec F S32x256 .f32, ⌜Clear t (c + 16) f'⌝ -∗ (accM.view.loc (tile d L) ↦{fullShare} f') -∗ wp frame (wpE (defs₀ (F := F)) 𝒱₀ (tile d L) none) Set.univ (kk ⟨⟩) Q)
        -∗ wp frame (wpE (defs₀ (F := F)) 𝒱₀ (tile d L) none) Set.univ
            (.op (.load accM (Rect.unit (s := S32x256) off S1x16.size inb).toLoadRect hl) fun _ =>
              .op (.store accM (Rect.unit (s := S32x256) off S1x16.size inb) w Finset.univ hx hm) kk) Q) := by
  have hc : Clear t (c + 16) ((accM.access (Rect.unit (s := S32x256) off S1x16.size inb)).write (Elt F) f w Finset.univ) := by
    subst ho
    intro x hx
    by_cases hm : x ∈ (accM.access (Rect.unit (s := S32x256) ![t, c] S1x16.size inb)).setOn Finset.univ
    · obtain ⟨y, hy, e⟩ := Finset.mem_map.mp hm
      rw [← e, View.write_emb_of_mem _ _ (Finset.mem_univ _)]
      exact hw y
    · rw [View.write_of_not_mem _ _ _ hm]
      apply hf
      by_contra hn
      apply hm
      rw [View.setOn_univ]
      refine (Finset.ext_iff.mp (View.set_slice_whole (κ := .scVector) cc0_scratch4 (Rect.unit (s := S32x256) ![t, c] S1x16.size inb)) x).mpr (Rect.mem_set_unit.mpr fun a => ?_)
      match a with
      | 0 => exact (show t ≤ (x 0).val ∧ (x 0).val < t + 1 by omega)
      | 1 => exact (show c ≤ (x 1).val ∧ (x 1).val < c + 16 by omega)
  iintro H Hk
  iapply (wp_ld d L accM (Rect.unit (s := S32x256) off S1x16.size inb) f) $$ H
  iintro H
  iapply (wp_st d L accM (Rect.unit (s := S32x256) off S1x16.size inb) f w) $$ H
  iintro H
  iapply Hk $$ %_ %hc H

/-- The same of the small table. -/
theorem wp_clearC {α : Type} {Q : α → sProp 𝕄} {t c : ℕ} {off : Fin 2 → ℕ} {inb : ∀ a, off a + S1x16.size a ≤ S32x16.size a} (ho : off = ![t, c])
    {f : Vec F S32x16 .f32} (hf : Clear t c f) {hl hx hm} {w : Vec F S1x16 .f32} (hw : ∀ y, w y = k0_pay125 (ln 0))
    {kk : PUnit → Prog (TpuEff nD τ sig (Elt F) Λ₀ (tile d L).2) α} :
    (caccM.view.loc (tile d L) ↦{fullShare} f : sProp 𝕄)
      ⊢ iprop((∀ f' : Vec F S32x16 .f32, ⌜Clear t (c + 16) f'⌝ -∗ (caccM.view.loc (tile d L) ↦{fullShare} f') -∗ wp frame (wpE (defs₀ (F := F)) 𝒱₀ (tile d L) none) Set.univ (kk ⟨⟩) Q)
        -∗ wp frame (wpE (defs₀ (F := F)) 𝒱₀ (tile d L) none) Set.univ
            (.op (.load caccM (Rect.unit (s := S32x16) off S1x16.size inb).toLoadRect hl) fun _ =>
              .op (.store caccM (Rect.unit (s := S32x16) off S1x16.size inb) w Finset.univ hx hm) kk) Q) := by
  have hc : Clear t (c + 16) ((caccM.access (Rect.unit (s := S32x16) off S1x16.size inb)).write (Elt F) f w Finset.univ) := by
    subst ho
    intro x hx
    by_cases hm : x ∈ (caccM.access (Rect.unit (s := S32x16) ![t, c] S1x16.size inb)).setOn Finset.univ
    · obtain ⟨y, hy, e⟩ := Finset.mem_map.mp hm
      rw [← e, View.write_emb_of_mem _ _ (Finset.mem_univ _)]
      exact hw y
    · rw [View.write_of_not_mem _ _ _ hm]
      apply hf
      by_contra hn
      apply hm
      rw [View.setOn_univ]
      refine (Finset.ext_iff.mp (View.set_slice_whole (κ := .scVector) cc0_scratch5 (Rect.unit (s := S32x16) ![t, c] S1x16.size inb)) x).mpr (Rect.mem_set_unit.mpr fun a => ?_)
      match a with
      | 0 => exact (show t ≤ (x 0).val ∧ (x 0).val < t + 1 by omega)
      | 1 => exact (show c ≤ (x 1).val ∧ (x 1).val < c + 16 by omega)
  iintro H Hk
  iapply (wp_ld d L caccM (Rect.unit (s := S32x16) off S1x16.size inb) f) $$ H
  iintro H
  iapply (wp_st d L caccM (Rect.unit (s := S32x16) off S1x16.size inb) f w) $$ H
  iintro H
  iapply Hk $$ %_ %hc H

/-- The tables cleared. -/
theorem zero_spec (f : Vec F S32x256 .f32) (g : Vec F S32x16 .f32) :
    iprop((accM.view.loc (tile d L) ↦{fullShare} f) ∗ (caccM.view.loc (tile d L) ↦{fullShare} g) : sProp 𝕄)
      ⊢ wp frame (wpE (defs₀ (F := F)) 𝒱₀ (tile d L) none) Set.univ
          (Scf.Loop.for k0_t1_loop k0_t1_ok ⟨⟩ (k0_t1_body (F := F) L hvM (Memref.isWhole_whole _) idM (Memref.isWhole_whole _) wgM (Memref.isWhole_whole _) bgM (Memref.isWhole_whole _)
            pwM (Memref.isWhole_whole _) pcM (Memref.isWhole_whole _) bufM (Memref.isWhole_whole _) idsM (Memref.isWhole_whole _) wM (Memref.isWhole_whole _)
            bM (Memref.isWhole_whole _) accM (Memref.isWhole_whole _) caccM (Memref.isWhole_whole _) cc0_scratch6 cc0_scoped0 cc0_scoped1 cc0_scoped2 cc0_scoped3 cc0_scoped4))
          fun _ => iprop((accM.view.loc (tile d L) ↦{fullShare} (fun _ => k0_pay125 (ln 0) : Vec F S32x256 .f32)) ∗ (caccM.view.loc (tile d L) ↦{fullShare} (fun _ => k0_pay125 (ln 0) : Vec F S32x16 .f32))) := by
  iintro ⟨Ha, Hc⟩
  iapply (Scf.wp_for frame (wpE (defs₀ (F := F)) 𝒱₀ (tile d L) none) Set.univ _ _ _ k0_t1_ok _ _
    (fun k _ => iprop((∃ f : Vec F S32x256 .f32, ⌜Clear k 0 f⌝ ∗ (accM.view.loc (tile d L) ↦{fullShare} f))
      ∗ (∃ g : Vec F S32x16 .f32, ⌜Clear k 0 g⌝ ∗ (caccM.view.loc (tile d L) ↦{fullShare} g)))) ?_)
  · intro k _
    have hk := t1_lt k
    iintro ⟨⟨%f, %hf, Ha⟩, ⟨%g, %hg, Hc⟩⟩
    unfold k0_t1_body
    rw [k0_part1_eq_skeleton]
    unfold k0_part1_skel
    simp only [Prog.lift, Prog.bind_op, Prog.bind_ret, Prog.pure_eq_ret, Prog.bind_assoc]
    iterate 16
      iapply (wp_clear d L (t1_off (k := k) rfl) hf (fun _ => rfl)) $$ Ha
      iintro %f %hf Ha
    iapply (wp_clearC d L (t1_off (k := k) rfl) hg (fun _ => rfl)) $$ Hc
    iintro %g %hg Hc
    rw [wp_ret]
    imodintro
    isplitl [Ha]
    · iexists f; isplitr
      · ipureintro; exact fun x hx => hf x (by have h1 : (x 1).val < 256 := (x 1).isLt; omega)
      iexact Ha
    · iexists g; isplitr
      · ipureintro; exact fun x hx => hg x (by have h1 : (x 1).val < 16 := (x 1).isLt; omega)
      iexact Hc
  · isplitl [Ha Hc]
    · isplitl [Ha]
      · iexists f; isplitr; · ipureintro; intro x hx; omega
        iexact Ha
      · iexists g; isplitr; · ipureintro; intro x hx; omega
        iexact Hc
    iintro %_ ⟨⟨%f, %hf, Ha⟩, ⟨%g, %hg, Hc⟩⟩
    rw [show Scf.trips k0_t1_loop.lb k0_t1_loop.ub k0_t1_loop.st = 32 from by decide] at hf hg
    have ef : f = fun _ => k0_pay125 (ln 0) := funext fun x => hf x (.inl (x 0).isLt)
    have eg : g = fun _ => k0_pay125 (ln 0) := funext fun x => hg x (.inl (x 0).isLt)
    subst ef eg
    isplitl [Ha]; · iexact Ha
    iexact Hc

/-- The ids' buffer with `k` groups of its tail filled. -/
def fillI (ids : Vec F S50000 .i32) (f : Vec F S50176 .i32) (k : ℕ) : Vec F S50176 .i32 :=
  fun x => if (x 0).val < 50000 + 16 * k then idAt ids (x 0).val else f x

theorem fillI_all (ids : Vec F S50000 .i32) (f : Vec F S50176 .i32) : fillI ids f 11 = idsBuf ids := by
  funext x
  exact if_pos (by have h : (x 0).val < 50176 := (x 0).isLt; omega)

theorem fillI_step (ids : Vec F S50000 .i32) (f : Vec F S50176 .i32) {k : ℕ} {off : Fin 1 → ℕ} {inb : ∀ a, off a + S16.size a ≤ S50176.size a}
    (ho : off = ![50000 + 16 * k]) {w : Vec F S16 .i32} (hw : ∀ y, w y = 1024#32) :
    (idsM.access (Rect.unit (s := S50176) off S16.size inb)).write (Elt F) (fillI ids f k) w Finset.univ = fillI ids f (k + 1) := by
  subst ho
  funext x
  have hset := Finset.ext_iff.mp (View.set_slice_whole (κ := .scVector) cc0_scratch1 (Rect.unit (s := S50176) ![50000 + 16 * k] S16.size inb)) x
  by_cases hm : x ∈ (idsM.access (Rect.unit (s := S50176) ![50000 + 16 * k] S16.size inb)).setOn Finset.univ
  · have hx : 50000 + 16 * k ≤ (x 0).val ∧ (x 0).val < 50000 + 16 * k + 16 := Rect.mem_set_unit.mp (hset.mp (by rwa [View.setOn_univ] at hm)) 0
    obtain ⟨y, hy, e⟩ := Finset.mem_map.mp hm
    rw [← e, View.write_emb_of_mem _ _ (Finset.mem_univ _), e]
    refine (hw y).trans ?_
    unfold fillI idAt
    rw [if_pos (by omega), if_neg (by omega)]
  · rw [View.write_of_not_mem _ _ _ hm]
    have hx : ¬ (50000 + 16 * k ≤ (x 0).val ∧ (x 0).val < 50000 + 16 * k + 16) := fun h => hm (by
      rw [View.setOn_univ]
      exact hset.mpr (Rect.mem_set_unit.mpr fun a => match a with | 0 => h))
    unfold fillI
    by_cases h : (x 0).val < 50000 + 16 * k
    · rw [if_pos h, if_pos (by omega)]
    · rw [if_neg h, if_neg (by omega)]

/-- The ids' tail filled with the sentinel. -/
theorem tail_spec (ids : Vec F S50000 .i32) (f : Vec F S50176 .i32) :
    (idsM.view.loc (tile d L) ↦{fullShare} fillI ids f 0 : sProp 𝕄)
      ⊢ wp frame (wpE (defs₀ (F := F)) 𝒱₀ (tile d L) none) Set.univ
          (Scf.Loop.for k0_t2_loop k0_t2_ok ⟨⟩ (k0_t2_body (F := F) L hvM (Memref.isWhole_whole _) idM (Memref.isWhole_whole _) wgM (Memref.isWhole_whole _) bgM (Memref.isWhole_whole _)
            pwM (Memref.isWhole_whole _) pcM (Memref.isWhole_whole _) bufM (Memref.isWhole_whole _) idsM (Memref.isWhole_whole _) wM (Memref.isWhole_whole _)
            bM (Memref.isWhole_whole _) accM (Memref.isWhole_whole _) caccM (Memref.isWhole_whole _) cc0_scratch6 cc0_scoped0 cc0_scoped1 cc0_scoped2 cc0_scoped3 cc0_scoped4))
          fun _ => iprop(idsM.view.loc (tile d L) ↦{fullShare} idsBuf ids) := by
  iintro H
  iapply (Scf.wp_for frame (wpE (defs₀ (F := F)) 𝒱₀ (tile d L) none) Set.univ _ _ _ k0_t2_ok _ _
    (fun k _ => iprop(idsM.view.loc (tile d L) ↦{fullShare} fillI ids f k)) ?_)
  · intro k _
    have hk := t2_lt k
    iintro H
    unfold k0_t2_body
    simp only [Prog.lift, Prog.bind_op, Prog.bind_ret, Prog.pure_eq_ret, Prog.bind_assoc]
    iapply (wp_ld d L idsM (Rect.unit (s := S50176) (k0_off18 k) S16.size (k0_off18_inb k)) (fillI ids f k.val)) $$ H
    iintro H
    iapply (wp_st d L idsM (Rect.unit (s := S50176) (k0_off18 k) S16.size (k0_off18_inb k)) (fillI ids f k.val) k0_pay126) $$ H
    rw [fillI_step ids f (off18_val k) (w := k0_pay126) (fun _ => rfl)]
    iintro H
    rw [wp_ret]
    imodintro
    iexact H
  · isplitl [H]; · iexact H
    iintro %_ H
    rw [show Scf.trips k0_t2_loop.lb k0_t2_loop.ub k0_t2_loop.st = 11 from by decide, fillI_all]
    iexact H

/-- Sixteen ids. -/
def idv (ids : Vec F S50000 .i32) (k : ℕ) : Vec F S16 .i32 := fun y => idAt ids (16 * k + (y 0).val)

/-- The two counts, lane by lane, after `k` groups. -/
def cnt (L : grid0.Coords) (ids : Vec F S50000 .i32) : ℕ → FVec F S16 .f32 × FVec F S16 .f32
  | 0 => (k0_pay125, k0_pay125)
  | k + 1 => (k0_pay127 L (cnt L ids k).1 (idv ids k), k0_pay128 L (cnt L ids k).2 (idv ids k))

/-- The ids counted. -/
theorem count_spec (ids : Vec F S50000 .i32) :
    (idsM.view.loc (tile d L) ↦{fullShare} idsBuf ids : sProp 𝕄)
      ⊢ wp frame (wpE (defs₀ (F := F)) 𝒱₀ (tile d L) none) Set.univ
          (Scf.Loop.for k0_t3_loop k0_t3_ok (k0_pay125 (F := F), k0_pay125 (F := F)) (k0_t3_body (F := F) L hvM (Memref.isWhole_whole _) idM (Memref.isWhole_whole _) wgM (Memref.isWhole_whole _) bgM (Memref.isWhole_whole _)
            pwM (Memref.isWhole_whole _) pcM (Memref.isWhole_whole _) bufM (Memref.isWhole_whole _) idsM (Memref.isWhole_whole _) wM (Memref.isWhole_whole _)
            bM (Memref.isWhole_whole _) accM (Memref.isWhole_whole _) caccM (Memref.isWhole_whole _) cc0_scratch6 cc0_scoped0 cc0_scoped1 cc0_scoped2 cc0_scoped3 cc0_scoped4))
          fun r => iprop(⌜r = cnt L ids 3136⌝ ∗ (idsM.view.loc (tile d L) ↦{fullShare} idsBuf ids)) := by
  iintro H
  iapply (Scf.wp_for frame (wpE (defs₀ (F := F)) 𝒱₀ (tile d L) none) Set.univ _ _ _ k0_t3_ok _ _
    (fun k r => iprop(⌜r = cnt L ids k⌝ ∗ (idsM.view.loc (tile d L) ↦{fullShare} idsBuf ids))) ?_)
  · intro k acc
    have hk := t3_lt k
    iintro ⟨%e, H⟩
    subst e
    unfold k0_t3_body
    simp only [Prog.lift, Prog.bind_op, Prog.bind_ret, Prog.pure_eq_ret, Prog.bind_assoc]
    iapply (wp_ld d L idsM (Rect.unit (s := S50176) (k0_off19 k) S16.size (k0_off19_inb k)) (idsBuf ids)) $$ H
    have hr : (idsM.access (Rect.unit (s := S50176) (k0_off19 k) S16.size (k0_off19_inb k))).read (Elt F) (idsBuf ids) = idv ids k.val := by
      have ho : k0_off19 k 0 = 16 * k.val := congrFun (off19_val k) 0
      funext y
      show idAt ids (k0_off19 k 0 + 1 * (y 0).val) = idAt ids (16 * k.val + (y 0).val)
      congr 1; omega
    rw [hr]
    iintro H
    rw [wp_ret]
    imodintro
    isplitr; · ipureintro; rfl
    iexact H
  · isplitl [H]
    · isplitr; · ipureintro; rfl
      iexact H
    iintro %_ H
    rw [show Scf.trips k0_t3_loop.lb k0_t3_loop.ub k0_t3_loop.st = 3136 from by decide]
    iexact H

end

end Cert.Proof.Seg
-- ==== Proof.Body.lean ====
/-
  A tile's run: what it reads, what it leaves in its rows of the two results.
-/
module

public import proofs.«01_k».proof.Proof.Tables

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Affine (IsInt)
open Idealize.ShloMosaic.Transfers (Flight wp_dmaLocal wp_waitLocalO)

variable {F : FTy → Type} [FloatOps F]

local notation "𝕄" => MT nD τ sig (HIx 1) (Elt F) ℕ UU ℕ

/-! ## What a tile computes -/

/-- How many ids are below group `32 t`: the row at which tile `t` starts when the ids ascend. -/
def loOf (ids : Vec F S50000 .i32) (t : ℕ) : ℕ := ((Finset.range 50000).filter fun p => (idAt ids p).toInt < 32 * (t : ℤ)).card

/-- Tile `t`'s sums when it is done. -/
def tileFin (A : Data F) (t : ℕ) : St F :=
  run A (BitVec.ofNat 32 (32 * t)) (80 * (loOf A.ids t / 80)) (80 * nChunks (loOf A.ids t) (loOf A.ids (t + 1)))

/-- Row `r` of a tile's table, column `c`. -/
def cellA (r c : ℕ) : S32x256.Idx := fun a => match a with
  | 0 => (⟨r % 32, Nat.mod_lt _ (by decide)⟩ : Fin 32)
  | 1 => (⟨c % 256, Nat.mod_lt _ (by decide)⟩ : Fin 256)
def cellC (r c : ℕ) : S32x16.Idx := fun a => match a with
  | 0 => (⟨r % 32, Nat.mod_lt _ (by decide)⟩ : Fin 32)
  | 1 => (⟨c % 16, Nat.mod_lt _ (by decide)⟩ : Fin 16)

/-- The two results, each tile's rows the tile's table. -/
def PW (A : Data F) : Vec F S1024x256 .f32 := fun x => (tileFin A ((x 0).val / 32)).acc (cellA (x 0).val (x 1).val)
def PC (A : Data F) : Vec F S1024x16 .f32 := fun x => (tileFin A ((x 0).val / 32)).cacc (cellC (x 0).val (x 1).val)

/-- A tile's number, and the number of its first group as a word. -/
def tn (L : grid0.Coords) : ℕ := (L 1).val * 2 + (L 0).val
abbrev segw (L : grid0.Coords) : BitVec 32 :=
  Scalar.muli (Scalar.addi (Scalar.muli (BitVec.ofNat 32 (L 1).val) 2#32) (BitVec.ofNat 32 (L 0).val)) 32#32

theorem tn_lt (L : grid0.Coords) : tn L < 32 := by
  have h0 : (L 0).val < 2 := (L 0).isLt
  have h1 : (L 1).val < 16 := (L 1).isLt
  unfold tn; omega

theorem segw_isInt (L : grid0.Coords) : IsInt (segw L) ((32 * tn L : ℕ) : Int) := by
  have h0 : (L 0).val < 2 := (L 0).isLt
  have h1 : (L 1).val < 16 := (L 1).isLt
  have a1 : IsInt (BitVec.ofNat 32 (L 1).val) ((L 1).val : Int) := Affine.ofNat _ (by omega)
  have a0 : IsInt (BitVec.ofNat 32 (L 0).val) ((L 0).val : Int) := Affine.ofNat _ (by omega)
  have a2 := Affine.muli (e := ((L 1).val : Int) * 2) a1 (Affine.ofNat (e := 2) 2 (by omega)) ⟨rfl, by omega, by omega⟩
  have a3 := Affine.addi (e := ((L 1).val : Int) * 2 + (L 0).val) a2 a0 ⟨rfl, by omega, by omega⟩
  have a4 := Affine.muli (e := (((L 1).val : Int) * 2 + (L 0).val) * 32) a3 (Affine.ofNat (e := 32) 32 (by omega)) ⟨rfl, by omega, by omega⟩
  rwa [show ((((L 1).val : Int) * 2 + (L 0).val) * 32) = ((32 * tn L : ℕ) : Int) by unfold tn; omega] at a4

theorem segw_toNat (L : grid0.Coords) : (segw L).toNat = 32 * tn L := by
  have := tn_lt L
  have := Affine.toNat_of (segw_isInt L) (by omega); omega

theorem segw_eq (L : grid0.Coords) : segw L = BitVec.ofNat 32 (32 * tn L) := by
  have := tn_lt L
  apply BitVec.eq_of_toNat_eq
  rw [segw_toNat, BitVec.toNat_ofNat, Nat.mod_eq_of_lt (by omega)]

theorem off63_val (L : grid0.Coords) : k0_off63 L = ![32 * tn L, 0] := by
  rw [← segw_toNat]; rfl
theorem off64_val (L : grid0.Coords) : k0_off64 L = ![32 * tn L, 0] := by
  rw [← segw_toNat]; rfl

/-- A tile's rows of the two results. -/
abbrev pwV (L : grid0.Coords) : Memref sig .scVector .hbm S32x256 .f32 :=
  pwM.slice (Rect.unit (s := S1024x256) (k0_off63 L) S32x256.size (k0_off63_inb L)) (fun _ => rfl)
abbrev pcV (L : grid0.Coords) : Memref sig .scVector .hbm S32x16 .f32 :=
  pcM.slice (Rect.unit (s := S1024x16) (k0_off64 L) S32x16.size (k0_off64_inb L)) (fun _ => rfl)
def pwSet (t : ℕ) : Finset S1024x256.Idx := Finset.univ.filter fun x => (x 0).val / 32 = t
def pcSet (t : ℕ) : Finset S1024x16.Idx := Finset.univ.filter fun x => (x 0).val / 32 = t

theorem pwV_set (L : grid0.Coords) : (pwV L).view.set = pwSet (tn L) := by
  refine (View.set_slice_whole (κ := .scVector) main_v3_0_scv (Rect.unit (s := S1024x256) (k0_off63 L) S32x256.size (k0_off63_inb L))).trans ?_
  have h0 : k0_off63 L 0 = 32 * tn L := congrFun (off63_val L) 0
  have h1 : k0_off63 L 1 = 0 := congrFun (off63_val L) 1
  ext x
  have hx : (x 1).val < 256 := (x 1).isLt
  refine Rect.mem_set_unit.trans ⟨fun h => Finset.mem_filter.mpr ⟨Finset.mem_univ _, ?_⟩, fun h a => ?_⟩
  · have h2 : k0_off63 L 0 ≤ (x 0).val ∧ (x 0).val < k0_off63 L 0 + 32 := h 0
    omega
  · have h2 := (Finset.mem_filter.mp h).2
    match a with
    | 0 => exact (show k0_off63 L 0 ≤ (x 0).val ∧ (x 0).val < k0_off63 L 0 + 32 by omega)
    | 1 => exact (show k0_off63 L 1 ≤ (x 1).val ∧ (x 1).val < k0_off63 L 1 + 256 by omega)

theorem pcV_set (L : grid0.Coords) : (pcV L).view.set = pcSet (tn L) := by
  refine (View.set_slice_whole (κ := .scVector) main_v3_1_scv (Rect.unit (s := S1024x16) (k0_off64 L) S32x16.size (k0_off64_inb L))).trans ?_
  have h0 : k0_off64 L 0 = 32 * tn L := congrFun (off64_val L) 0
  have h1 : k0_off64 L 1 = 0 := congrFun (off64_val L) 1
  ext x
  have hx : (x 1).val < 16 := (x 1).isLt
  refine Rect.mem_set_unit.trans ⟨fun h => Finset.mem_filter.mpr ⟨Finset.mem_univ _, ?_⟩, fun h a => ?_⟩
  · have h2 : k0_off64 L 0 ≤ (x 0).val ∧ (x 0).val < k0_off64 L 0 + 32 := h 0
    omega
  · have h2 := (Finset.mem_filter.mp h).2
    match a with
    | 0 => exact (show k0_off64 L 0 ≤ (x 0).val ∧ (x 0).val < k0_off64 L 0 + 32 by omega)
    | 1 => exact (show k0_off64 L 1 ≤ (x 1).val ∧ (x 1).val < k0_off64 L 1 + 16 by omega)

/-- What the copy out of a tile's table leaves in its rows. -/
theorem pw_write (L : grid0.Coords) (A : Data F) (f : Vec F S1024x256 .f32) (x : S1024x256.Idx) (hx : x ∈ pwSet (tn L)) :
    (pwV L).view.write (Elt F) f (accM.view.read (Elt F) (tileFin A (tn L)).acc) Finset.univ x = PW A x := by
  rw [← pwV_set] at hx
  obtain ⟨y, hy, e⟩ := Finset.mem_map.mp hx
  have h0 : k0_off63 L 0 = 32 * tn L := congrFun (off63_val L) 0
  have h1 : k0_off63 L 1 = 0 := congrFun (off63_val L) 1
  have y0 : (y 0).val < 32 := (y 0).isLt
  have y1 : (y 1).val < 256 := (y 1).isLt
  have e0 : (x 0).val = 32 * tn L + (y 0).val := by
    rw [← e]; show k0_off63 L 0 + 1 * (y 0).val = _; omega
  have e1 : (x 1).val = (y 1).val := by
    rw [← e]; show k0_off63 L 1 + 1 * (y 1).val = _; omega
  rw [← e, View.write_emb_of_mem _ _ (Finset.mem_univ _), e]
  refine Eq.trans (b := (tileFin A (tn L)).acc y) rfl ?_
  unfold PW
  rw [show (x 0).val / 32 = tn L by omega]
  congr 1
  funext a
  match a with
  | 0 => exact Fin.ext (show (y 0).val = (x 0).val % 32 by omega)
  | 1 => exact Fin.ext (show (y 1).val = (x 1).val % 256 by omega)

theorem pc_write (L : grid0.Coords) (A : Data F) (f : Vec F S1024x16 .f32) (x : S1024x16.Idx) (hx : x ∈ pcSet (tn L)) :
    (pcV L).view.write (Elt F) f (caccM.view.read (Elt F) (tileFin A (tn L)).cacc) Finset.univ x = PC A x := by
  rw [← pcV_set] at hx
  obtain ⟨y, hy, e⟩ := Finset.mem_map.mp hx
  have h0 : k0_off64 L 0 = 32 * tn L := congrFun (off64_val L) 0
  have h1 : k0_off64 L 1 = 0 := congrFun (off64_val L) 1
  have y0 : (y 0).val < 32 := (y 0).isLt
  have y1 : (y 1).val < 16 := (y 1).isLt
  have e0 : (x 0).val = 32 * tn L + (y 0).val := by
    rw [← e]; show k0_off64 L 0 + 1 * (y 0).val = _; omega
  have e1 : (x 1).val = (y 1).val := by
    rw [← e]; show k0_off64 L 1 + 1 * (y 1).val = _; omega
  rw [← e, View.write_emb_of_mem _ _ (Finset.mem_univ _), e]
  refine Eq.trans (b := (tileFin A (tn L)).cacc y) rfl ?_
  unfold PC
  rw [show (x 0).val / 32 = tn L by omega]
  congr 1
  funext a
  match a with
  | 0 => exact Fin.ext (show (y 0).val = (x 0).val % 32 by omega)
  | 1 => exact Fin.ext (show (y 1).val = (x 1).val % 16 by omega)

/-! ## Copies started and waited for -/

section

variable (d : Dev nD) (L : grid0.Coords)

/-- A copy started and waited for at once. -/
theorem wp_copy {α : Type} {Q : α → sProp 𝕄} {sp sp' : Space} {s : Shape} {e : EltTy} (src : Memref sig .scVector sp s e) (dst : Memref sig .scVector sp' s e)
    (sem : DmaSem sig) (q : PosShare TreeShare) (fs : Buf (Elt F) (src.view.loc (tile d L))) (fd : Buf (Elt F) (dst.view.loc (tile d L)))
    {Sd : Finset (Idx (dst.view.loc (tile d L)))} (hSd : dst.view.set ⊆ Sd) (hN : 0 < dst.view.dmaCredit) {h1 h2 h3 h4 h5}
    {O : CellTallies nD τ sig (HIx 1)} {W W0 : Waits sig (HIx 1)} (hW : ∀ p ∈ W0, p ∈ W ∨ p.2 = none)
    {kk : PUnit → Prog (TpuEff nD τ sig (Elt F) Λ₀ (tile d L).2) α} :
    iprop((src.view.loc (tile d L) ↦{q} fs) ∗ (dst.view.loc (tile d L) ↦[Sd]{fullShare} fd) ∗ semVal (tile d L, .dma sem) 0 ∗ owes (tile d L) O W0 ∗ MayWait (tile d L) (.dma sem) none O : sProp 𝕄)
      ⊢ iprop((∀ W1, ⌜∀ p ∈ W1, p ∈ W ∨ p.2 = none⌝ -∗ (src.view.loc (tile d L) ↦{q} fs)
            -∗ (dst.view.loc (tile d L) ↦[Sd]{fullShare} (dst.view.write (Elt F) fd (src.view.read (Elt F) fs) Finset.univ))
            -∗ semVal (tile d L, .dma sem) 0 -∗ owes (tile d L) O W1
            -∗ wp frame (wpE (defs₀ (F := F)) 𝒱₀ (tile d L) none) Set.univ (kk ⟨⟩) Q)
        -∗ wp frame (wpE (defs₀ (F := F)) 𝒱₀ (tile d L) none) Set.univ
            (.op (.enqueueDma src (.here dst) (.dma sem) h1 h2 h3) fun _ => .op (.waitDma2 sem src dst h4 h5) kk) Q) := by
  have hsp := pointsTo_split_subset (nD := nD) (τ := τ) (sig := sig) (Ix := HIx 1) (Val := Elt F) (Name := ℕ) (U := UU) (Lvl := ℕ) (ℓ := src.view.loc (tile d L)) (q := q) (f := fs) (I := src.view.set) (S := Finset.univ) (Finset.subset_univ _)
  iintro ⟨Hs, Hd, Hsem, HO, Hmw⟩ Hk
  ihave Hs := hsp.1 $$ Hs
  icases Hs with ⟨Hs, Hrest⟩
  iapply (wp_dmaLocal EC 𝒱₀ (tile d L) none (src := src) (dst := dst) (Sd := Sd) (fd := fd) (q := q) (fs := fs)
    none dst.view.dmaCredit rfl hN hSd) $$ [Hs Hd Hsem]
  · isplitl [Hs]; · iexact Hs
    isplitl [Hd]; · iexact Hd
    iexact Hsem
  iintro Hf
  iapply (wp_waitLocalO EC 𝒱₀ (tile d L) none (dstw := dst) (srcw := src) none (N := dst.view.dmaCredit) rfl) $$ [Hf HO Hmw]
  · isplitl [Hf]; · iexact Hf
    isplitl [HO]; · iexact HO
    iexact Hmw
  iintro ⟨⟨Hd, Hs⟩, Hsem, HO⟩
  ihave Hs := hsp.2 $$ [Hs Hrest]
  · isplitl [Hs]; · iexact Hs
    iexact Hrest
  have hW' : ∀ p ∈ insert (SemLoc.dma sem, (none : HIx 1)) W0, p ∈ W ∨ p.2 = none := by
    intro p hp
    rcases Finset.mem_insert.mp hp with h | h
    · right; rw [h]
    · exact hW p h
  iapply Hk $$ %_ %hW' Hs Hd Hsem HO

end

end Cert.Proof.Seg
-- ==== Proof.Tile.lean ====
/-
  A tile's run from its start to its end.
-/
module

public import proofs.«01_k».proof.Proof.Body

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Affine (IsInt)
open Idealize.ShloMosaic.Transfers (Flight wp_dmaLocal wp_waitLocalO)

variable {F : FTy → Type} [FloatOps F]

local notation "𝕄" => MT nD τ sig (HIx 1) (Elt F) ℕ UU ℕ

theorem slotSet_one : (Finset.univ : Finset S2x80x256.Idx) \ slotSet 0 = slotSet 1 := by
  ext x
  have h : (x 0).val < 2 := (x 0).isLt
  simp only [slotSet, Finset.mem_sdiff, Finset.mem_filter, Finset.mem_univ, true_and]
  omega

section

/-- The two slots of the row buffer, whichever is which, make the whole again. -/
theorem slots_join (d : Dev nD) (L : grid0.Coords) (n : ℕ) (g0 g1 : Vec F S2x80x256 .f32) :
    iprop((bufM.view.loc (tile d L) ↦[slotSet (n % 2)]{fullShare} g0) ∗ (bufM.view.loc (tile d L) ↦[slotSet ((n + 1) % 2)]{fullShare} g1)
        ∗ semVal (tile d L, .dma (slotSem (n % 2))) 0 ∗ semVal (tile d L, .dma (slotSem ((n + 1) % 2))) 0)
      ⊢ (iprop((∃ f : Vec F S2x80x256 .f32, bufM.view.loc (tile d L) ↦{fullShare} f)
        ∗ semVal (tile d L, .dma (slotSem 0)) 0 ∗ semVal (tile d L, .dma (slotSem 1)) 0) : sProp 𝕄) := by
  have key : ∀ a b : Vec F S2x80x256 .f32, iprop((bufM.view.loc (tile d L) ↦[slotSet 0]{fullShare} a) ∗ (bufM.view.loc (tile d L) ↦[slotSet 1]{fullShare} b))
      ⊢ (iprop(∃ f : Vec F S2x80x256 .f32, bufM.view.loc (tile d L) ↦{fullShare} f) : sProp 𝕄) := fun a b => by
    have hj := pointsTo_join_subset (nD := nD) (τ := τ) (sig := sig) (Ix := HIx 1) (Val := Elt F) (Name := ℕ) (U := UU) (Lvl := ℕ) (ℓ := bufM.view.loc (tile d L)) (q := fullShare) (f := b) (g := a) (I := slotSet 0) (S := Finset.univ) (Finset.subset_univ _)
    rw [show (Finset.univ : Finset (Idx (bufM.view.loc (tile d L)))) \ slotSet 0 = slotSet 1 from slotSet_one] at hj
    iintro H
    iexists _
    iapply hj
    iexact H
  rcases Nat.mod_two_eq_zero_or_one n with h | h
  · rw [h, show (n + 1) % 2 = 1 by omega]
    iintro ⟨H0, H1, Hs0, Hs1⟩
    isplitl [H0 H1]
    · iapply (key g0 g1)
      isplitl [H0]; · iexact H0
      iexact H1
    isplitl [Hs0]; · iexact Hs0
    iexact Hs1
  · rw [h, show (n + 1) % 2 = 0 by omega]
    iintro ⟨H0, H1, Hs0, Hs1⟩
    isplitl [H0 H1]
    · iapply (key g1 g0)
      isplitl [H1]; · iexact H1
      iexact H0
    isplitl [Hs1]; · iexact Hs1
    iexact Hs0

variable {v13 v17 : BitVec 32} {lo hi : ℕ} (H : Counted v13 v17 lo hi)
include H

theorem loop4_spec (d : Dev nD) (L : grid0.Coords) (A : Data F) (hw1 : k0_chk1 v13 v17) (v1 v6 v53 c80 : BitVec 32) (v2 : IVec S16 32)
    (hv2 : ∀ x, (v2 x).toNat = (x 0).val) (q : PosShare TreeShare) (O : CellTallies nD τ sig (HIx 1)) (W : Waits sig (HIx 1)) (hO : ∀ g, O g none = 0)
    (hok) (p₀ : ℕ) (hp : p₀ = 80 * (lo / 80)) :
    iprop(levAts (K (F := F)).L (K (F := F)).lev ∗ chunkSt d L A v6 q O W (nChunks lo hi) p₀ 0)
      ⊢ wp frame (wpE (defs₀ (F := F)) 𝒱₀ (tile d L) none) Set.univ
          (Scf.Loop.for (k0_t4_loop v13 v17) hok (tup (run A v6 p₀ 0).regs) (body4 L A v1 v6 (q0w v13) v53 c80 v2 hw1))
          fun r => iprop(⌜r = tup (run A v6 p₀ (80 * nChunks lo hi)).regs⌝ ∗ chunkSt d L A v6 q O W (nChunks lo hi) p₀ (nChunks lo hi)) := by
  iintro ⟨#Hlv, HS⟩
  iapply (Scf.wp_for frame (wpE (defs₀ (F := F)) 𝒱₀ (tile d L) none) Set.univ _ _ _ hok _ _
    (fun k r => iprop(levAts (K (F := F)).L (K (F := F)).lev ∗ ⌜r = tup (run A v6 p₀ (80 * k)).regs⌝ ∗ chunkSt d L A v6 q O W (nChunks lo hi) p₀ k)) ?_)
  · intro i acc
    iintro ⟨#Hlv, %e, HS⟩
    subst e
    iapply (wp_wand_r frame (wpE (defs₀ (F := F)) 𝒱₀ (tile d L) none) Set.univ)
    isplitl [HS]
    · iapply (trip_spec H d L A hw1 v1 v6 v53 c80 v2 hv2 q O W hO i p₀ hp)
      isplitr; · iexact Hlv
      iexact HS
    iintro %r HS
    isplitr; · iexact Hlv
    iexact HS
  · isplitl [HS]
    · isplitr; · iexact Hlv
      isplitr; · ipureintro; rfl
      iexact HS
    iintro %acc ⟨-, HI⟩
    rw [show Scf.trips (k0_t4_loop v13 v17).lb (k0_t4_loop v13 v17).ub (k0_t4_loop v13 v17).st = nChunks lo hi from t4_trips H]
    iexact HI

/-- The first chunk started, when there is one. -/
theorem prime_spec {α : Type} {Q : α → sProp 𝕄} (d : Dev nD) (L : grid0.Coords) (hv : Vec F S50000x256 .f32) (q : PosShare TreeShare) (f : Vec F S2x80x256 .f32)
    {i3 i1} {i2 : k0_cond1 v13 v17 = 1#1 → ∀ a, k0_off20 v13 a + S80x256.size a ≤ S50000x256.size a} {hsrc : ∀ h, _} {hdst : ∀ h, _} {hsem : ∀ h, _}
    (P : Prog (TpuEff nD τ sig (Elt F) Λ₀ (tile d L).2) α) :
    iprop((hvM.view.loc (tile d L) ↦{q} hv) ∗ (bufM.view.loc (tile d L) ↦[slotSet 0]{fullShare} f) ∗ semVal (tile d L, .dma (slotSem 0)) 0)
      ⊢ iprop((slotSt d L hv q (nChunks lo hi) (80 * (lo / 80)) 0 -∗ wp frame (wpE (defs₀ (F := F)) 𝒱₀ (tile d L) none) Set.univ P Q)
        -∗ wp frame (wpE (defs₀ (F := F)) 𝒱₀ (tile d L) none) Set.univ
            (if h : k0_cond1 v13 v17 = 1#1 then
              .op (.enqueueDma (rowsV (k0_off20 v13) (i2 h)) (.here (slotV ![0, 0, 0] i3)) (.dma (semV ![0] i1)) (hsrc h) (hdst h) (hsem h)) fun _ => P
             else P) Q) := by
  unfold slotSt
  iintro ⟨Hhv, Hb0, Hs0⟩ Hk
  by_cases hc : k0_cond1 v13 v17 = 1#1
  · have hn : 0 < nChunks lo hi := (cond1_iff H).mp hc
    rw [dif_pos hc, if_pos hn]
    iapply (wp_fetch d L hv q (s := 0) (r := 80 * (lo / 80)) (f := f) (by decide) rfl (off20_val H) rfl) $$ [Hhv Hb0 Hs0]
    · isplitl [Hhv]; · iexact Hhv
      isplitl [Hb0]; · iexact Hb0
      iexact Hs0
    iintro Hp
    iapply Hk
    iexact Hp
  · have hn : ¬ 0 < nChunks lo hi := fun h => hc ((cond1_iff H).mpr h)
    rw [dif_neg hc, if_neg hn]
    iapply Hk
    isplitl [Hhv]; · iexact Hhv
    isplitl [Hb0]; · iexists f; iexact Hb0
    iexact Hs0

set_option maxHeartbeats 4000000 in
/-- From the tables cleared to the tile's rows copied out. -/
theorem rows_spec (d : Dev nD) (L : grid0.Coords) (A : Data F) (hw1 : k0_chk1 v13 v17) (v1 v6 v53 c80 : BitVec 32) (v2 : IVec S16 32)
    (hv2 : ∀ x, (v2 x).toNat = (x 0).val) (q : PosShare TreeShare) (O : CellTallies nD τ sig (HIx 1)) (W W0 : Waits sig (HIx 1)) (hO : ∀ g, O g none = 0)
    (hW0 : ∀ p ∈ W0, p ∈ W ∨ p.2 = none)
    (hfin : run A v6 (80 * (lo / 80)) (80 * nChunks lo hi) = tileFin A (tn L))
    (f : Vec F S2x80x256 .f32) (f1 : Vec F S1024x256 .f32) (f2 : Vec F S1024x16 .f32) (Q : PUnit → sProp 𝕄) :
    iprop(levAts (K (F := F)).L (K (F := F)).lev ∗ (hvM.view.loc (tile d L) ↦{q} A.hv) ∗ (bufM.view.loc (tile d L) ↦{fullShare} f)
        ∗ semVal (tile d L, .dma (slotSem 0)) 0 ∗ semVal (tile d L, .dma (slotSem 1)) 0
        ∗ (idsM.view.loc (tile d L) ↦{fullShare} idsBuf A.ids)
        ∗ (accM.view.loc (tile d L) ↦{fullShare} (fun _ => k0_pay125 (ln 0) : Vec F S32x256 .f32))
        ∗ (caccM.view.loc (tile d L) ↦{fullShare} (fun _ => k0_pay125 (ln 0) : Vec F S32x16 .f32))
        ∗ (pwM.view.loc (tile d L) ↦[pwSet (tn L)]{fullShare} f1) ∗ (pcM.view.loc (tile d L) ↦[pcSet (tn L)]{fullShare} f2)
        ∗ semVal (tile d L, .dma cc0_scoped3.sem) 0 ∗ semVal (tile d L, .dma cc0_scoped4.sem) 0 ∗ owes (tile d L) O W0)
      ⊢ iprop((∀ W1, ⌜∀ p ∈ W1, p ∈ W ∨ p.2 = none⌝ -∗ (hvM.view.loc (tile d L) ↦{q} A.hv) -∗ (∃ f : Vec F S2x80x256 .f32, bufM.view.loc (tile d L) ↦{fullShare} f)
            -∗ semVal (tile d L, .dma (slotSem 0)) 0 -∗ semVal (tile d L, .dma (slotSem 1)) 0
            -∗ (idsM.view.loc (tile d L) ↦{fullShare} idsBuf A.ids)
            -∗ (∃ g : Vec F S32x256 .f32, accM.view.loc (tile d L) ↦{fullShare} g) -∗ (∃ g : Vec F S32x16 .f32, caccM.view.loc (tile d L) ↦{fullShare} g)
            -∗ (pwM.view.loc (tile d L) ↦[pwSet (tn L)]{fullShare} PW A) -∗ (pcM.view.loc (tile d L) ↦[pcSet (tn L)]{fullShare} PC A)
            -∗ semVal (tile d L, .dma cc0_scoped3.sem) 0 -∗ semVal (tile d L, .dma cc0_scoped4.sem) 0 -∗ owes (tile d L) O W1 -∗ Q ⟨⟩)
        -∗ wp frame (wpE (defs₀ (F := F)) 𝒱₀ (tile d L) none) Set.univ (do
            k0_part14 (F := F) L hvM (Memref.isWhole_whole _) idM (Memref.isWhole_whole _) wgM (Memref.isWhole_whole _) bgM (Memref.isWhole_whole _)
              pwM (Memref.isWhole_whole _) pcM (Memref.isWhole_whole _) bufM (Memref.isWhole_whole _) idsM (Memref.isWhole_whole _) wM (Memref.isWhole_whole _)
              bM (Memref.isWhole_whole _) accM (Memref.isWhole_whole _) caccM (Memref.isWhole_whole _) cc0_scratch6 cc0_scoped0 cc0_scoped1 cc0_scoped2 cc0_scoped3 cc0_scoped4
              v1 v2 k0_pay125 v6 v13 v17 hw1 (wgv A.w 0) (wgv A.w 1) (wgv A.w 2) (wgv A.w 3) (wgv A.w 4) (wgv A.w 5) (wgv A.w 6) (wgv A.w 7)
              (wgv A.w 8) (wgv A.w 9) (wgv A.w 10) (wgv A.w 11) (wgv A.w 12) (wgv A.w 13) (wgv A.w 14) (wgv A.w 15) A.b (q0w v13) v53 c80
            Prog.lift (.waitDma2 cc0_scoped4.sem caccM (pcV L) (Memref.isWhole_whole _).wordExact (View.wordExact_bits rfl))
            pure ⟨⟩) Q) := by
  rw [k0_part14_eq_skeleton]
  unfold k0_part14_skel
  dsimp only
  iintro ⟨#Hlv, Hhv, Hbuf, Hs0, Hs1, Hids, Hacc, Hcacc, Hpw, Hpc, Hr3, Hr4, HO⟩ Hk
  have hspl := pointsTo_split_subset (nD := nD) (τ := τ) (sig := sig) (Ix := HIx 1) (Val := Elt F) (Name := ℕ) (U := UU) (Lvl := ℕ) (ℓ := bufM.view.loc (tile d L)) (q := fullShare) (f := f) (I := slotSet 0) (S := Finset.univ) (Finset.subset_univ _)
  ihave Hb := hspl.1 $$ Hbuf
  icases Hb with ⟨Hb0, Hb1⟩
  rw [show (Finset.univ : Finset (Idx (bufM.view.loc (tile d L)))) \ slotSet 0 = slotSet 1 from slotSet_one]
  simp only [wp_bind, Prog.lift]
  simp only [Prog.bind_op, Prog.bind_ret, Prog.pure_eq_ret]
  iapply (prime_spec H d L A.hv q f) $$ [Hhv Hb0 Hs0]
  · isplitl [Hhv]; · iexact Hhv
    isplitl [Hb0]; · iexact Hb0
    iexact Hs0
  iintro Hslot
  simp only [wp_bind]
  iapply (wp_wand_r frame (wpE (defs₀ (F := F)) 𝒱₀ (tile d L) none) Set.univ)
  isplitl [Hslot Hb1 Hs1 Hids Hacc Hcacc HO]
  · iapply (loop4_spec H d L A hw1 v1 v6 v53 c80 v2 hv2 q O W hO (k0_t4_ok v13 v17 hw1) (80 * (lo / 80)) rfl)
    isplitr; · iexact Hlv
    unfold chunkSt
    isplitl [Hslot]; · iexact Hslot
    isplitl [Hb1]; · iexists f; iexact Hb1
    isplitl [Hs1]; · iexact Hs1
    isplitl [Hids]; · iexact Hids
    isplitl [Hacc]; · iexact Hacc
    isplitl [Hcacc]; · iexact Hcacc
    iexists W0
    isplitr; · ipureintro; exact hW0
    iexact HO
  iintro %r ⟨%e, HS⟩
  subst e
  unfold chunkSt slotSt tup
  rw [if_neg (lt_irrefl _), hfin]
  dsimp only
  icases HS with ⟨⟨Hhv, ⟨%g0, Hb0⟩, Hs0⟩, ⟨%g1, Hb1⟩, Hs1, Hids, Hacc, Hcacc, %W1, %hW1, HO⟩
  iapply (wp_wand_r frame (wpE (defs₀ (F := F)) 𝒱₀ (tile d L) none) Set.univ (Q := fun _ => iprop(emp)))
  isplitr
  · iapply (Scf.wp_for frame (wpE (defs₀ (F := F)) 𝒱₀ (tile d L) none) Set.univ _ _ _ (k0_t7_ok v13 v17 hw1) _ _ (fun _ _ => iprop(emp)) ?_)
    · intro k _; exact (t7_none v13 v17 k).elim
    · isplitr; · iempintro
      iintro %_ -
      iempintro
  iintro %_ -
  rw [← wp_bind]
  simp only [Prog.bind_op, Prog.bind_ret, Prog.pure_eq_ret]
  iapply (wp_copy d L accM (pwV L) cc0_scoped3.sem fullShare (tileFin A (tn L)).acc f1 (Sd := pwSet (tn L)) (le_of_eq (pwV_set L)) (View.dmaCredit_pos _ (by decide)) hW1) $$ [Hacc Hpw Hr3 HO]
  · isplitl [Hacc]; · iexact Hacc
    isplitl [Hpw]; · iexact Hpw
    isplitl [Hr3]; · iexact Hr3
    isplitl [HO]; · iexact HO
    iapply ((K (F := F)).mayWait_none (thr := tile d L) (SemLoc.dma cc0_scoped3.sem) hO)
    iexact Hlv
  iintro %W2 %hW2 Hacc Hpw Hr3 HO
  iapply (wp_copy d L caccM (pcV L) cc0_scoped4.sem fullShare (tileFin A (tn L)).cacc f2 (Sd := pcSet (tn L)) (le_of_eq (pcV_set L)) (View.dmaCredit_pos _ (by decide)) hW2) $$ [Hcacc Hpc Hr4 HO]
  · isplitl [Hcacc]; · iexact Hcacc
    isplitl [Hpc]; · iexact Hpc
    isplitl [Hr4]; · iexact Hr4
    isplitl [HO]; · iexact HO
    iapply ((K (F := F)).mayWait_none (thr := tile d L) (SemLoc.dma cc0_scoped4.sem) hO)
    iexact Hlv
  iintro %W3 %hW3 Hcacc Hpc Hr4 HO
  rw [wp_ret]
  imodintro
  rw [wp_ret]
  imodintro
  have hpw : (pwM.view.loc (tile d L) ↦[pwSet (tn L)]{fullShare} ((pwV L).view.write (Elt F) f1 (accM.view.read (Elt F) (tileFin A (tn L)).acc) Finset.univ) : sProp 𝕄)
      = (pwM.view.loc (tile d L) ↦[pwSet (tn L)]{fullShare} PW A) := pointsTo_congr fun x hx => pw_write L A f1 x hx
  have hpc : (pcM.view.loc (tile d L) ↦[pcSet (tn L)]{fullShare} ((pcV L).view.write (Elt F) f2 (caccM.view.read (Elt F) (tileFin A (tn L)).cacc) Finset.univ) : sProp 𝕄)
      = (pcM.view.loc (tile d L) ↦[pcSet (tn L)]{fullShare} PC A) := pointsTo_congr fun x hx => pc_write L A f2 x hx
  ihave Hpw := (Entails.of_eq hpw) $$ Hpw
  ihave Hpc := (Entails.of_eq hpc) $$ Hpc
  ihave HJ := (slots_join d L (nChunks lo hi) g0 g1) $$ [Hb0 Hb1 Hs0 Hs1]
  · isplitl [Hb0]; · iexact Hb0
    isplitl [Hb1]; · iexact Hb1
    isplitl [Hs0]; · iexact Hs0
    iexact Hs1
  icases HJ with ⟨Hbuf, Hs0, Hs1⟩
  iapply Hk $$ %W3 %hW3 Hhv Hbuf Hs0 Hs1 Hids [Hacc] [Hcacc] Hpw Hpc Hr3 Hr4 HO
  · iexists _; iexact Hacc
  · iexists _; iexact Hcacc

end

end Cert.Proof.Seg
-- ==== Proof.Whole.lean ====
/-
  A tile's whole task.
-/
module

public import proofs.«01_k».proof.Proof.Tile

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Affine (IsInt)
open Idealize.ShloMosaic.Transfers (Flight wp_dmaLocal wp_waitLocalO)

variable {F : FTy → Type} [FloatOps F]

local notation "𝕄" => MT nD τ sig (HIx 1) (Elt F) ℕ UU ℕ

/-- The start of the ids' buffer, which the ids are copied to. -/
abbrev idsV : Memref sig .scVector .vmem S50000 .i32 := idsM.slice (Rect.unit (s := S50176) ![0] S50000.size inb_S50176_S50000_0) (fun _ => rfl)

theorem ids_write (ids : Vec F S50000 .i32) (f : Vec F S50176 .i32) :
    idsV.view.write (Elt F) f (idM.view.read (Elt F) ids) Finset.univ = fillI ids f 0 := by
  have hset : idsV.view.set = Finset.univ.filter fun x : S50176.Idx => (x 0).val < 50000 := by
    refine (View.set_slice_whole (κ := .scVector) cc0_scratch1 (Rect.unit (s := S50176) ![0] S50000.size inb_S50176_S50000_0)).trans ?_
    ext x
    rw [Rect.mem_set_unit, Finset.mem_filter]
    constructor
    · intro h; exact ⟨Finset.mem_univ _, by have := (h 0).2; simpa using this⟩
    · rintro ⟨-, h⟩ a
      match a with
      | 0 => exact ⟨Nat.zero_le _, by simpa using h⟩
  funext x
  unfold fillI
  by_cases hx : (x 0).val < 50000
  · have hm : x ∈ idsV.view.set := by rw [hset]; exact Finset.mem_filter.mpr ⟨Finset.mem_univ _, hx⟩
    obtain ⟨y, -, e⟩ := Finset.mem_map.mp hm
    have hy : (x 0).val = (y 0).val := by
      rw [← e]
      show 0 + 1 * (y 0).val = _
      omega
    rw [← e]
    rw [View.write_emb_of_mem _ _ (Finset.mem_univ y)]
    rw [e, if_pos (by omega)]
    unfold idAt
    rw [if_pos hx, show (idM.view.read (Elt F) ids) = ids from View.read_whole _ _]
    refine congrArg ids ?_
    funext a
    match a with
    | 0 => exact Fin.ext (by show (y 0).val = (x 0).val % 50000; omega)
  · rw [if_neg (by omega)]
    refine View.write_of_not_mem _ _ _ ?_
    rw [View.setOn_univ, hset]
    intro h
    exact hx (Finset.mem_filter.mp h).2

/-- A load of sixteen of the gate's weights. -/
theorem wp_ldW {α : Type} {Q : α → sProp 𝕄} (d : Dev nD) (L : grid0.Coords) {o : Fin 1 → ℕ} {inb : ∀ a, o a + S16.size a ≤ S256.size a} {q : PosShare TreeShare} (w : Vec F S256 .f32)
    {hl} {kk : (S16.Idx → Elt F .f32) → Prog (TpuEff nD τ sig (Elt F) Λ₀ (tile d L).2) α} (k : ℕ) (ho : o = ![16 * k]) :
    (wM.view.loc (tile d L) ↦{q} w : sProp 𝕄)
      ⊢ iprop(((wM.view.loc (tile d L) ↦{q} w) -∗ wp frame (wpE (defs₀ (F := F)) 𝒱₀ (tile d L) none) Set.univ (kk (wgv w k)) Q)
        -∗ wp frame (wpE (defs₀ (F := F)) 𝒱₀ (tile d L) none) Set.univ (.op (.load wM (Rect.unit (s := S256) o S16.size inb).toLoadRect hl) kk) Q) := by
  have h0 : o 0 = 16 * k := congrFun ho 0
  have hb : o 0 + 16 ≤ 256 := inb 0
  have hv : (wM.access (Rect.unit (s := S256) o S16.size inb)).read (Elt F) w = wgv w k := by
    funext y
    have hy : (y 0).val < 16 := (y 0).isLt
    refine congrArg w ?_
    funext a
    match a with
    | 0 => exact Fin.ext (by show o 0 + 1 * (y 0).val = (16 * k + (y 0).val) % 256; omega)
  have h := wp_ld d L wM (Rect.unit (s := S256) o S16.size inb) (q := q) w (hl := hl) (kk := kk) (Q := Q)
  rw [hv] at h
  exact h

/-- A load of the gate's bias. -/
theorem wp_ldB {α : Type} {Q : α → sProp 𝕄} (d : Dev nD) (L : grid0.Coords) {q : PosShare TreeShare} (b : Vec F S16 .f32) {inb : ∀ a, (![0] : Fin 1 → ℕ) a + S16.size a ≤ S16.size a}
    {hl} {kk : (S16.Idx → Elt F .f32) → Prog (TpuEff nD τ sig (Elt F) Λ₀ (tile d L).2) α} :
    (bM.view.loc (tile d L) ↦{q} b : sProp 𝕄)
      ⊢ iprop(((bM.view.loc (tile d L) ↦{q} b) -∗ wp frame (wpE (defs₀ (F := F)) 𝒱₀ (tile d L) none) Set.univ (kk b) Q)
        -∗ wp frame (wpE (defs₀ (F := F)) 𝒱₀ (tile d L) none) Set.univ (.op (.load bM (Rect.unit (s := S16) ![0] S16.size inb).toLoadRect hl) kk) Q) := by
  have hv : (bM.access (Rect.unit (s := S16) ![0] S16.size inb)).read (Elt F) b = b := by
    funext y
    refine congrArg b ?_
    funext a
    match a with
    | 0 => exact Fin.ext (by show 0 + 1 * (y 0).val = (y 0).val; omega)
  have h := wp_ld d L bM (Rect.unit (s := S16) ![0] S16.size inb) (q := q) b (hl := hl) (kk := kk) (Q := Q)
  rw [hv] at h
  exact h

/-- What the counting loop has to come to at a tile: the numbers of ids below its segments and below the next tile's. -/
def Counts (F : FTy → Type) [FloatOps F] : Prop :=
  ∀ (L : grid0.Coords) (ids : Vec F S50000 .i32),
    Counted (extractAt ![15] (k0_pay129 (cnt L ids 3136).1) inpos_S16_p15) (extractAt ![15] (k0_pay130 (cnt L ids 3136).2) inpos_S16_p15)
      (loOf ids (tn L)) (loOf ids (tn L + 1))

/-- What a tile holds of its own: its buffers, whatever they hold. -/
def scratch (d : Dev nD) (L : grid0.Coords) : sProp 𝕄 :=
  iprop((∃ f : Vec F S2x80x256 .f32, bufM.view.loc (tile d L) ↦{fullShare} f) ∗ (∃ f : Vec F S50176 .i32, idsM.view.loc (tile d L) ↦{fullShare} f)
    ∗ (∃ f : Vec F S256 .f32, wM.view.loc (tile d L) ↦{fullShare} f) ∗ (∃ f : Vec F S16 .f32, bM.view.loc (tile d L) ↦{fullShare} f)
    ∗ (∃ f : Vec F S32x256 .f32, accM.view.loc (tile d L) ↦{fullShare} f) ∗ (∃ f : Vec F S32x16 .f32, caccM.view.loc (tile d L) ↦{fullShare} f))

/-- A tile's counters, all at zero. -/
def zeros (d : Dev nD) (L : grid0.Coords) : sProp 𝕄 :=
  iprop(semVal (tile d L, .dma (slotSem 0)) 0 ∗ semVal (tile d L, .dma (slotSem 1)) 0 ∗ semVal (tile d L, .dma cc0_scoped0.sem) 0 ∗ semVal (tile d L, .dma cc0_scoped1.sem) 0
    ∗ semVal (tile d L, .dma cc0_scoped2.sem) 0 ∗ semVal (tile d L, .dma cc0_scoped3.sem) 0 ∗ semVal (tile d L, .dma cc0_scoped4.sem) 0)

/-- The arrays a tile reads. -/
def inputs (d : Dev nD) (L : grid0.Coords) (A : Data F) (q : PosShare TreeShare) : sProp 𝕄 :=
  iprop((hvM.view.loc (tile d L) ↦{q} A.hv) ∗ (idM.view.loc (tile d L) ↦{q} A.ids) ∗ (wgM.view.loc (tile d L) ↦{q} A.w) ∗ (bgM.view.loc (tile d L) ↦{q} A.b))

/-- A tile's rows of the two results. -/
def rowsOf (d : Dev nD) (L : grid0.Coords) (f1 : Vec F S1024x256 .f32) (f2 : Vec F S1024x16 .f32) : sProp 𝕄 :=
  iprop((pwM.view.loc (tile d L) ↦[pwSet (tn L)]{fullShare} f1) ∗ (pcM.view.loc (tile d L) ↦[pcSet (tn L)]{fullShare} f2))

set_option maxHeartbeats 8000000 in
/-- A tile's task: its rows of the results hold its segments' sums. -/
theorem task_spec (hC : Counts F) (d : Dev nD) (L : grid0.Coords) (A : Data F) (q : PosShare TreeShare) (O : CellTallies nD τ sig (HIx 1)) (W : Waits sig (HIx 1))
    (hO : ∀ g, O g none = 0) (f1 : Vec F S1024x256 .f32) (f2 : Vec F S1024x16 .f32) :
    iprop(levAts (K (F := F)).L (K (F := F)).lev ∗ inputs d L A q ∗ rowsOf d L f1 f2 ∗ scratch d L ∗ zeros d L ∗ owes (tile d L) O W)
      ⊢ wp frame (wpE (defs₀ (F := F)) 𝒱₀ (tile d L) none) Set.univ
        (cc0__sc_body (F := F) L hvM (Memref.isWhole_whole _) idM (Memref.isWhole_whole _) wgM (Memref.isWhole_whole _) bgM (Memref.isWhole_whole _)
          pwM (Memref.isWhole_whole _) pcM (Memref.isWhole_whole _) bufM (Memref.isWhole_whole _) idsM (Memref.isWhole_whole _) wM (Memref.isWhole_whole _)
          bM (Memref.isWhole_whole _) accM (Memref.isWhole_whole _) caccM (Memref.isWhole_whole _) cc0_scratch6 cc0_scoped0 cc0_scoped1 cc0_scoped2 cc0_scoped3 cc0_scoped4)
        fun _ => (iprop(inputs d L A q ∗ rowsOf d L (PW A) (PC A) ∗ scratch d L ∗ zeros d L
          ∗ ∃ W', ⌜∀ p ∈ W', p ∈ W ∨ p.2 = none⌝ ∗ owes (tile d L) O W') : sProp 𝕄) := by
  rw [cc0__sc_body_eq_skeleton]
  unfold cc0__sc_body_skel
  rw [k0_part12_eq_skeleton, k0_part13_eq_skeleton]
  unfold k0_part12_skel k0_part13_skel inputs rowsOf scratch zeros
  dsimp only
  iintro ⟨#Hlv, ⟨Hhv, Hid, Hwg, Hbg⟩, ⟨Hpw, Hpc⟩, ⟨⟨%fb, Hbuf⟩, ⟨%fi, Hids⟩, ⟨%fw, Hw⟩, ⟨%fB, Hb⟩, ⟨%fa, Hacc⟩, ⟨%fc, Hcacc⟩⟩, ⟨Hs0, Hs1, Hr0, Hr1, Hr2, Hr3, Hr4⟩, HO⟩
  have hW : ∀ p ∈ W, p ∈ W ∨ p.2 = none := fun p h => Or.inl h
  simp only [Prog.lift, Prog.bind_op, Prog.bind_ret, Prog.pure_eq_ret, Prog.bind_assoc]
  rw [wp_bind]
  iapply (wp_wand_r frame (wpE (defs₀ (F := F)) 𝒱₀ (tile d L) none) Set.univ)
  isplitl [Hacc Hcacc]
  · iapply (zero_spec d L fa fc)
    isplitl [Hacc]; · iexact Hacc
    iexact Hcacc
  iintro %_ ⟨Hacc, Hcacc⟩
  iapply (wp_copy d L idM idsV cc0_scoped0.sem q A.ids fi (Sd := Finset.univ) (Finset.subset_univ _) (View.dmaCredit_pos _ (by decide)) hW) $$ [Hid Hids Hr0 HO]
  · isplitl [Hid]; · iexact Hid
    isplitl [Hids]; · iexact Hids
    isplitl [Hr0]; · iexact Hr0
    isplitl [HO]; · iexact HO
    iapply ((K (F := F)).mayWait_none (thr := tile d L) (SemLoc.dma cc0_scoped0.sem) hO)
    iexact Hlv
  iintro %W1 %hW1 Hid Hids Hr0 HO
  have e0 : (idsV.view.loc (tile d L) ↦{fullShare} (idsV.view.write (Elt F) fi (idM.view.read (Elt F) A.ids) Finset.univ) : sProp 𝕄)
      = (idsM.view.loc (tile d L) ↦{fullShare} fillI A.ids fi 0) := congrArg _ (ids_write A.ids fi)
  ihave Hids := (Entails.of_eq e0) $$ Hids
  rw [wp_bind]
  iapply (wp_wand_r frame (wpE (defs₀ (F := F)) 𝒱₀ (tile d L) none) Set.univ)
  isplitl [Hids]
  · iapply (tail_spec d L A.ids fi)
    iexact Hids
  iintro %_ Hids
  iapply (wp_copy d L wgM wM cc0_scoped1.sem q A.w fw (Sd := Finset.univ) (Finset.subset_univ _) (View.dmaCredit_pos _ (by decide)) hW1) $$ [Hwg Hw Hr1 HO]
  · isplitl [Hwg]; · iexact Hwg
    isplitl [Hw]; · iexact Hw
    isplitl [Hr1]; · iexact Hr1
    isplitl [HO]; · iexact HO
    iapply ((K (F := F)).mayWait_none (thr := tile d L) (SemLoc.dma cc0_scoped1.sem) hO)
    iexact Hlv
  iintro %W2 %hW2 Hwg Hw Hr1 HO
  have e1 : (wM.view.loc (tile d L) ↦{fullShare} (wM.view.write (Elt F) fw (wgM.view.read (Elt F) A.w) Finset.univ) : sProp 𝕄)
      = (wM.view.loc (tile d L) ↦{fullShare} A.w) := congrArg _ ((View.write_whole_univ _ _ _).trans (View.read_whole _ _))
  ihave Hw := (Entails.of_eq e1) $$ Hw
  iapply (wp_copy d L bgM bM cc0_scoped2.sem q A.b fB (Sd := Finset.univ) (Finset.subset_univ _) (View.dmaCredit_pos _ (by decide)) hW2) $$ [Hbg Hb Hr2 HO]
  · isplitl [Hbg]; · iexact Hbg
    isplitl [Hb]; · iexact Hb
    isplitl [Hr2]; · iexact Hr2
    isplitl [HO]; · iexact HO
    iapply ((K (F := F)).mayWait_none (thr := tile d L) (SemLoc.dma cc0_scoped2.sem) hO)
    iexact Hlv
  iintro %W3 %hW3 Hbg Hb Hr2 HO
  have e2 : (bM.view.loc (tile d L) ↦{fullShare} (bM.view.write (Elt F) fB (bgM.view.read (Elt F) A.b) Finset.univ) : sProp 𝕄)
      = (bM.view.loc (tile d L) ↦{fullShare} A.b) := congrArg _ ((View.write_whole_univ _ _ _).trans (View.read_whole _ _))
  ihave Hb := (Entails.of_eq e2) $$ Hb
  rw [wp_bind]
  iapply (wp_wand_r frame (wpE (defs₀ (F := F)) 𝒱₀ (tile d L) none) Set.univ)
  isplitl [Hids]
  · iapply (count_spec d L A.ids)
    iexact Hids
  iintro %r ⟨%er, Hids⟩
  obtain ⟨ra, rb⟩ := r
  have H := hC L A.ids
  rw [← er] at H
  dsimp only at H ⊢
  rw [wp_assume_of _ _ _ _ (show k0_chk1 _ _ from chk1_holds H)]
  iapply (wp_ldW d L A.w 0 rfl) $$ Hw
  iintro Hw
  iapply (wp_ldW d L A.w 1 rfl) $$ Hw
  iintro Hw
  iapply (wp_ldW d L A.w 2 rfl) $$ Hw
  iintro Hw
  iapply (wp_ldW d L A.w 3 rfl) $$ Hw
  iintro Hw
  iapply (wp_ldW d L A.w 4 rfl) $$ Hw
  iintro Hw
  iapply (wp_ldW d L A.w 5 rfl) $$ Hw
  iintro Hw
  iapply (wp_ldW d L A.w 6 rfl) $$ Hw
  iintro Hw
  iapply (wp_ldW d L A.w 7 rfl) $$ Hw
  iintro Hw
  iapply (wp_ldW d L A.w 8 rfl) $$ Hw
  iintro Hw
  iapply (wp_ldW d L A.w 9 rfl) $$ Hw
  iintro Hw
  iapply (wp_ldW d L A.w 10 rfl) $$ Hw
  iintro Hw
  iapply (wp_ldW d L A.w 11 rfl) $$ Hw
  iintro Hw
  iapply (wp_ldW d L A.w 12 rfl) $$ Hw
  iintro Hw
  iapply (wp_ldW d L A.w 13 rfl) $$ Hw
  iintro Hw
  iapply (wp_ldW d L A.w 14 rfl) $$ Hw
  iintro Hw
  iapply (wp_ldW d L A.w 15 rfl) $$ Hw
  iintro Hw
  iapply (wp_ldB d L A.b) $$ Hb
  iintro Hb
  iapply (rows_spec H d L A (chk1_holds H) _ _ _ _ _ (fun x => ?_) q O W W3 hO hW3 ?_ fb f1 f2) $$ [Hhv Hbuf Hs0 Hs1 Hids Hacc Hcacc Hpw Hpc Hr3 Hr4 HO]
  · show run A (segw L) _ _ = _
    rw [segw_eq]
    rfl
  · have hx : (x 0).val < 16 := (x 0).isLt
    show (BitVec.ofNat 32 (0 * 16 + (x 0).val)).toNat = _
    rw [BitVec.toNat_ofNat, Nat.mod_eq_of_lt (by omega)]
    omega
  · isplitr; · iexact Hlv
    isplitl [Hhv]; · iexact Hhv
    isplitl [Hbuf]; · iexact Hbuf
    isplitl [Hs0]; · iexact Hs0
    isplitl [Hs1]; · iexact Hs1
    isplitl [Hids]; · iexact Hids
    isplitl [Hacc]; · iexact Hacc
    isplitl [Hcacc]; · iexact Hcacc
    isplitl [Hpw]; · iexact Hpw
    isplitl [Hpc]; · iexact Hpc
    isplitl [Hr3]; · iexact Hr3
    isplitl [Hr4]; · iexact Hr4
    iexact HO
  iintro %W4 %hW4 Hhv Hbuf Hs0 Hs1 Hids Hacc Hcacc Hpw Hpc Hr3 Hr4 HO
  isplitl [Hhv Hid Hwg Hbg]
  · isplitl [Hhv]; · iexact Hhv
    isplitl [Hid]; · iexact Hid
    isplitl [Hwg]; · iexact Hwg
    iexact Hbg
  isplitl [Hpw Hpc]
  · isplitl [Hpw]; · iexact Hpw
    iexact Hpc
  isplitl [Hbuf Hids Hw Hb Hacc Hcacc]
  · isplitl [Hbuf]; · iexact Hbuf
    isplitl [Hids]; · iexists _; iexact Hids
    isplitl [Hw]; · iexists _; iexact Hw
    isplitl [Hb]; · iexists _; iexact Hb
    isplitl [Hacc]; · iexact Hacc
    iexact Hcacc
  isplitl [Hs0 Hs1 Hr0 Hr1 Hr2 Hr3 Hr4]
  · isplitl [Hs0]; · iexact Hs0
    isplitl [Hs1]; · iexact Hs1
    isplitl [Hr0]; · iexact Hr0
    isplitl [Hr1]; · iexact Hr1
    isplitl [Hr2]; · iexact Hr2
    isplitl [Hr3]; · iexact Hr3
    iexact Hr4
  iexists W4
  isplitr; · ipureintro; exact hW4
  iexact HO

end Cert.Proof.Seg
-- ==== Proof.Tasks.lean ====
/-
  What the SparseCore call deals its tiles and gets back, and each tile's obligation.
-/
module

public import proofs.«01_k».proof.Proof.Whole
public import Idealize.ShloMosaic.Lib.SparseCore.Stream

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## A tile's own counters and buffers -/

abbrev dcell (d : Dev nD) (c : Fin τ.nSC) (i : Fin τ.nSub) (k : Fin 7) : GSem nD τ sig := (V d c i, .dma ⟨k.val, by have := k.isLt; show k.val < 12; omega⟩)

theorem dcell_mem (d : Dev nD) (c : Fin τ.nSC) (i : Fin τ.nSub) (k : Fin 7) : dcell d c i k ∈ ownCells (V d c i) :=
  mem_ownCells.mpr ⟨rfl, (show ∀ k : Fin 7, (SemLoc.dma ⟨k.val, by have := k.isLt; show k.val < 12; omega⟩ : SemLoc sig).isScoped .scVector = true by decide) k⟩

theorem sep_assoc' (P Q R : sProp 𝕄) : iprop((P ∗ Q) ∗ R) = iprop(P ∗ Q ∗ R) := by
  have h1 : iprop((P ∗ Q) ∗ R) ⊢ iprop(P ∗ Q ∗ R) := by
    iintro ⟨⟨HP, HQ⟩, HR⟩
    isplitl [HP]; · iexact HP
    isplitl [HQ] <;> iassumption
  have h2 : iprop(P ∗ Q ∗ R) ⊢ iprop((P ∗ Q) ∗ R) := by
    iintro ⟨HP, HQ, HR⟩
    isplitr [HR]
    · isplitl [HP] <;> iassumption
    · iexact HR
  exact BI.Entails.antisymm h1 h2

/-- A tile's counters at zero: those its body names and the others. -/
theorem sems_V (d : Dev nD) (L : grid0.Coords) :
    (ownSems0 (tile d L) : sProp 𝕄)
      = iprop(zeros d L ∗ bigSep ((ownCells (tile d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- A tile's buffers other than the named ones. -/
abbrev others (L : grid0.Coords) : Finset (DevRef τ sig) :=
  ((((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4)).erase
    ((Proc.scVector (cV L) (jV L)).devRef cc0_scratch5)

theorem bufs_V (d : Dev nD) (L : grid0.Coords) :
    (ownBufs (tile d L) : sProp 𝕄) = iprop(scratch d L ∗ bigSep (others L) fun b => iprop(∃ f, ((d, b) : Loc nD τ sig) ↦{fullShare} f)) := by
  have own : ∀ b : Ref sig .scVector, ((Proc.scVector (cV L) (jV L)).devRef b).owner = .proc (.scVector (cV L) (jV L)) →
      (Proc.scVector (cV L) (jV L)).devRef b ∈ ownRefs (τ := τ) (.scVector (cV L) (jV L)) := fun b h => SparseCore.Cfg.mem_ownRefs_of_owner h
  have ne : ∀ {b b' : Ref sig .scVector}, b ≠ b' → (Proc.scVector (cV L) (jV L)).devRef b ≠ (Proc.scVector (cV L) (jV L)).devRef b' :=
    fun h e => absurd (Proc.devRef_injective _ e) h
  unfold SparseCore.Cfg.ownBufs
  refine (SparseCore.bigSep_erase' (own cc0_scratch0 rfl)).trans ?_
  rw [SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
      Finset.mem_erase.mpr ⟨ne (show (cc0_scratch3 : Ref sig .scVector) ≠ cc0_scratch0 by decide), own cc0_scratch3 rfl⟩⟩⟩),
    SparseCore.bigSep_erase' (Finset.mem_erase.mpr ⟨ne (show (cc0_scratch4 : Ref sig .scVector) ≠ cc0_scratch3 by decide),
      Finset.mem_erase.mpr ⟨ne (show (cc0_scratch4 : Ref sig .scVector) ≠ cc0_scratch2 by decide),
      Finset.mem_erase.mpr ⟨ne (show (cc0_scratch4 : Ref sig .scVector) ≠ cc0_scratch1 by decide),
      Finset.mem_erase.mpr ⟨ne (show (cc0_scratch4 : Ref sig .scVector) ≠ cc0_scratch0 by decide), own cc0_scratch4 rfl⟩⟩⟩⟩),
    SparseCore.bigSep_erase' (Finset.mem_erase.mpr ⟨ne (show (cc0_scratch5 : Ref sig .scVector) ≠ cc0_scratch4 by decide),
      Finset.mem_erase.mpr ⟨ne (show (cc0_scratch5 : Ref sig .scVector) ≠ cc0_scratch3 by decide),
      Finset.mem_erase.mpr ⟨ne (show (cc0_scratch5 : Ref sig .scVector) ≠ cc0_scratch2 by decide),
      Finset.mem_erase.mpr ⟨ne (show (cc0_scratch5 : Ref sig .scVector) ≠ cc0_scratch1 by decide),
      Finset.mem_erase.mpr ⟨ne (show (cc0_scratch5 : Ref sig .scVector) ≠ cc0_scratch0 by decide), own cc0_scratch5 rfl⟩⟩⟩⟩⟩)]
  unfold scratch
  simp only [sep_assoc']
  rfl

/-! ## What the call carries -/

/-- The coordinates of tile `i` on core `c`. -/
def co (c : Fin 2) (i : Fin 16) : grid0.Coords :=
  fun | 0 => c | 1 => i | ⟨_ + 2, h⟩ => absurd h (Nat.not_lt.2 (Nat.le_add_left _ _))

/-- Its share of the arrays all tiles read. -/
def sh (c : Fin 2) (i : Fin 16) : PosShare TreeShare := piece (piece fullShare 1 c) 15 i

variable (A : Dev nD → Data F) (f1 : Dev nD → Vec F S1024x256 .f32) (f2 : Dev nD → Vec F S1024x16 .f32)

def goT (d : Dev nD) (c : Fin 2) (i : Fin 16) : sProp 𝕄 := iprop(inputs d (co c i) (A d) (sh c i) ∗ rowsOf d (co c i) (f1 d) (f2 d))
def tdT (d : Dev nD) (c : Fin 2) (i : Fin 16) : sProp 𝕄 := iprop(inputs d (co c i) (A d) (sh c i) ∗ rowsOf d (co c i) (PW (A d)) (PC (A d)))

instance goT_st (d : Dev nD) (c : Fin 2) (i : Fin 16) : BI.Storable (upEmb : UEmb _ 𝕄) (goT A f1 f2 d c i) := by
  unfold goT inputs rowsOf; infer_instance
instance tdT_st (d : Dev nD) (c : Fin 2) (i : Fin 16) : BI.Storable (upEmb : UEmb _ 𝕄) (tdT A d c i) := by
  unfold tdT inputs rowsOf; infer_instance

def P : (K (F := F)).Pay (nD := nD) (Val := Elt F) (Name := ℕ) (U := UU) where
  st := fun q d c => match q with | 0 => bigSep Finset.univ fun i : Fin 16 => goT A f1 f2 d c i
  dn := fun q d c => match q with | 0 => bigSep Finset.univ fun i : Fin 16 => tdT A d c i
  go := fun q d c i => match q with | 0 => goT A f1 f2 d c i
  td := fun q d c i => match q with | 0 => tdT A d c i
  x := fun _ _ => iprop(emp)

instance P_storable : (P (F := F) A f1 f2).IsStorable where
  st q d c := match q with | 0 => (inferInstance : BI.Storable (upEmb : UEmb _ 𝕄) (bigSep Finset.univ fun i : Fin 16 => goT A f1 f2 d c i))
  dn q d c := match q with | 0 => (inferInstance : BI.Storable (upEmb : UEmb _ 𝕄) (bigSep Finset.univ fun i : Fin 16 => tdT A d c i))
  go q d c i := match q with | 0 => (inferInstance : BI.Storable (upEmb : UEmb _ 𝕄) (goT A f1 f2 d c i))
  td q d c i := match q with | 0 => (inferInstance : BI.Storable (upEmb : UEmb _ 𝕄) (tdT A d c i))

theorem vecSplit : (K (F := F)).VecSplit' (P A f1 f2) 0 := by
  intro d c
  show (bigSep Finset.univ fun i : Fin 16 => goT A f1 f2 d c i) ⊢ |={Set.univ}=> iprop((bigSep Finset.univ fun i : Fin 16 => goT A f1 f2 d c i)
    ∗ ((bigSep Finset.univ fun i : Fin 16 => tdT A d c i) -∗ (bigSep Finset.univ fun i : Fin 16 => tdT A d c i)))
  iintro H; imodintro
  isplitl [H]; · iexact H
  iintro H; iexact H

/-! ## The obligation -/

theorem tile_body (hC : Counts F) (d : Dev nD) (c : Fin 2) (i : Fin 16) (O : CellTallies nD τ sig (HIx 1)) (W : Waits sig (HIx 1)) (hO : ∀ g, O g none = 0) :
    iprop(levAts (K (F := F)).L (K (F := F)).lev ∗ emp ∗ goT A f1 f2 d c i
        ∗ scopedBufs (tile d (co c i)) ∗ scopedSems0 (tile d (co c i)) ∗ owes (tile d (co c i)) O W)
      ⊢ wp frame (wpE (defs₀ (F := F)) 𝒱₀ (tile d (co c i)) none) Set.univ
        (cc0__sc_body (F := F) (co c i) hvM (Memref.isWhole_whole _) idM (Memref.isWhole_whole _) wgM (Memref.isWhole_whole _) bgM (Memref.isWhole_whole _)
          pwM (Memref.isWhole_whole _) pcM (Memref.isWhole_whole _) bufM (Memref.isWhole_whole _) idsM (Memref.isWhole_whole _) wM (Memref.isWhole_whole _)
          bM (Memref.isWhole_whole _) accM (Memref.isWhole_whole _) caccM (Memref.isWhole_whole _) cc0_scratch6 cc0_scoped0 cc0_scoped1 cc0_scoped2 cc0_scoped3 cc0_scoped4)
        fun _ => iprop(tdT A d c i ∗ scopedBufs (tile d (co c i)) ∗ scopedSems0 (tile d (co c i))
          ∗ ∃ W', ⌜∀ p ∈ W', p ∈ W ∨ p.2 = none ∨ p.2 = some (0 : Fin 1)⌝ ∗ owes (tile d (co c i)) O W') := by
  rw [(K (F := F)).scopedBufs_V scFacts d (cV (co c i)) (jV (co c i)), SparseCore.Cfg.scopedSems0_V (Val := Elt F) d (cV (co c i)) (jV (co c i)), sems_V, bufs_V]
  unfold goT tdT
  iintro ⟨Hlv, -, ⟨Hi, Hr⟩, ⟨Hs, Hbufs⟩, ⟨Hz, Hsems⟩, HO⟩
  iapply (wp_wand_r Idealize.ShloMosaic.frame (wpE (defs₀ (F := F)) 𝒱₀ (tile d (co c i)) none) Set.univ)
  isplitl [Hlv Hi Hr Hs Hz HO]
  · iapply (task_spec hC d (co c i) (A d) (sh c i) O W hO (f1 d) (f2 d))
    isplitl [Hlv]; · iexact Hlv
    isplitl [Hi]; · iexact Hi
    isplitl [Hr]; · iexact Hr
    isplitl [Hs]; · iexact Hs
    isplitl [Hz]; · iexact Hz
    iexact HO
  iintro %_ ⟨Hi, Hr, Hs, Hz, ⟨%W', %hW', HO⟩⟩
  isplitl [Hi Hr]
  · isplitl [Hi] <;> iassumption
  isplitl [Hs Hbufs]
  · isplitl [Hs] <;> iassumption
  isplitl [Hz Hsems]
  · isplitl [Hz] <;> iassumption
  iexists W'; isplitr
  · ipureintro; intro p hp
    rcases hW' p hp with h | h
    · exact .inl h
    · exact .inr (.inl h)
  · iexact HO

theorem defs₀_vector (c : Fin τ.nSC) (s : Fin τ.nSub) :
    defs₀ (F := F) (.scVector c s) 0 ()
      = SparseCore.onTile hcore0 hsub0 (fun c s => cc0__sc_body (F := F) (co c s) hvM (Memref.isWhole_whole _) idM (Memref.isWhole_whole _) wgM (Memref.isWhole_whole _) bgM (Memref.isWhole_whole _)
          pwM (Memref.isWhole_whole _) pcM (Memref.isWhole_whole _) bufM (Memref.isWhole_whole _) idsM (Memref.isWhole_whole _) wM (Memref.isWhole_whole _)
          bM (Memref.isWhole_whole _) accM (Memref.isWhole_whole _) caccM (Memref.isWhole_whole _) cc0_scratch6 cc0_scoped0 cc0_scoped1 cc0_scoped2 cc0_scoped3 cc0_scoped4) ⟨⟩ c s := rfl

theorem tileObl (hC : Counts F) : (K (F := F)).TileObl (D (F := F)) 𝒱 (P A f1 f2) v₀ 0 := by
  intro d c i O W hO _ _
  simp only [show (P A f1 f2).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A f1 f2 hC d ⟨_, hci.1⟩ ⟨_, hci.2⟩ O W hO

end Cert.Proof.Seg
-- ==== Proof.Pieces.lean ====
/-
  The arrays the SparseCore call is handed, cut among the tiles and put together again.
-/
module

public import proofs.«01_k».proof.Proof.Tasks

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- An array read by every tile is the tiles' shares of it. -/
theorem shares {ℓ : Loc nD τ sig} (f : Buf (Elt F) ℓ) :
    (bigSep Finset.univ fun c : Fin 2 => bigSep Finset.univ fun i : Fin 16 => (ℓ ↦{sh c i} f : sProp 𝕄)) = (ℓ ↦{fullShare} f : sProp 𝕄) := by
  rw [pointsTo_pieces Finset.univ f 1 fullShare]
  exact bigSep_congr fun c _ => (pointsTo_pieces Finset.univ f 15 (piece fullShare 1 c)).symm

theorem tn_co (c : Fin 2) (i : Fin 16) : tn (co c i) = i.val * 2 + c.val := rfl

/-- An array is its pieces, one a tile. -/
theorem pieces {ℓ : Loc nD τ sig} (X : ℕ → Finset (Idx ℓ)) (n : Idx ℓ → ℕ) (hn : ∀ x, n x < 32) (hX : ∀ t x, x ∈ X t ↔ n x = t) (f : Buf (Elt F) ℓ) :
    (bigSep Finset.univ fun c : Fin 2 => bigSep Finset.univ fun i : Fin 16 => (ℓ ↦[X (tn (co c i))]{fullShare} f : sProp 𝕄)) = (ℓ ↦{fullShare} f : sProp 𝕄) := by
  rw [← BI.bigSep_univ_prod (fun p : Fin 2 × Fin 16 => (ℓ ↦[X (tn (co p.1 p.2))]{fullShare} f : sProp 𝕄)),
    ← pointsTo_biUnion Finset.univ (fun p : Fin 2 × Fin 16 => X (tn (co p.1 p.2)))]
  · congr 1
    ext x
    simp only [Finset.mem_biUnion, Finset.mem_univ, true_and, iff_true]
    have := hn x
    refine ⟨(⟨n x % 2, by omega⟩, ⟨n x / 2, by omega⟩), (hX _ _).mpr ?_⟩
    rw [tn_co]
    show n x = n x / 2 * 2 + n x % 2
    omega
  · intro p _ p' _ hne
    rw [Finset.disjoint_left]
    intro x hx hx'
    have h1 := (hX _ _).mp hx
    have h2 := (hX _ _).mp hx'
    rw [tn_co] at h1 h2
    have a1 := p.1.isLt
    have a2 := p'.1.isLt
    exact hne (Prod.ext (Fin.ext (by omega)) (Fin.ext (by omega)))

variable (A : Dev nD → Data F) (f1 : Dev nD → Vec F S1024x256 .f32) (f2 : Dev nD → Vec F S1024x16 .f32)

/-- The six arrays of the call. -/
def six (d : Dev nD) (A : Data F) (f1 : Vec F S1024x256 .f32) (f2 : Vec F S1024x16 .f32) : sProp 𝕄 :=
  iprop(((((T d : Thread nD τ).loc main_arg0) ↦{fullShare} A.hv) ∗ (((T d : Thread nD τ).loc main_arg1) ↦{fullShare} A.ids)
    ∗ (((T d : Thread nD τ).loc main_v1) ↦{fullShare} A.w) ∗ (((T d : Thread nD τ).loc main_v2) ↦{fullShare} A.b))
    ∗ (((T d : Thread nD τ).loc main_v3_0) ↦{fullShare} f1) ∗ (((T d : Thread nD τ).loc main_v3_1) ↦{fullShare} f2))

theorem go_eq (d : Dev nD) :
    (bigSep Finset.univ fun c : Fin 2 => bigSep Finset.univ fun i : Fin 16 => goT A f1 f2 d c i) = six d (A d) (f1 d) (f2 d) := by
  unfold goT inputs rowsOf six
  simp only [bigSep_sep']
  rw [← shares (ℓ := (T d : Thread nD τ).loc main_arg0) (A d).hv, ← shares (ℓ := (T d : Thread nD τ).loc main_arg1) (A d).ids,
    ← shares (ℓ := (T d : Thread nD τ).loc main_v1) (A d).w, ← shares (ℓ := (T d : Thread nD τ).loc main_v2) (A d).b,
    ← pieces (ℓ := (T d : Thread nD τ).loc main_v3_0) pwSet (fun x => (x 0).val / 32)
      (fun x => by have : (x 0).val < 1024 := (x 0).isLt; omega) (fun t x => by unfold pwSet; simp) (f1 d),
    ← pieces (ℓ := (T d : Thread nD τ).loc main_v3_1) pcSet (fun x => (x 0).val / 32)
      (fun x => by have : (x 0).val < 1024 := (x 0).isLt; omega) (fun t x => by unfold pcSet; simp) (f2 d)]

theorem st_eq (d : Dev nD) : (bigSep Finset.univ fun c : Fin ((K (F := F)).nCore 0) => (P A f1 f2).st 0 d c) = six d (A d) (f1 d) (f2 d) :=
  go_eq A f1 f2 d

theorem dn_eq (d : Dev nD) : (bigSep Finset.univ fun c : Fin ((K (F := F)).nCore 0) => (P A f1 f2).dn 0 d c) = six d (A d) (PW (A d)) (PC (A d)) :=
  go_eq A (fun d => PW (A d)) (fun d => PC (A d)) d

end Cert.Proof.Seg
-- ==== Proof.Head.lean ====
/-
  The TensorCore call: the matmul over the segment sums, as the pipeline's proof data and its region.
-/
module

public import proofs.«01_k».proof.Proof.Setup
public import proofs.«01_k».proof.Proof.Gen.KernelIdeal.Points
public import proofs.«01_k».proof.Proof.Gen.KernelIdeal.Launch
public import Idealize.ShloMosaic.Lib.Pipeline.RegionArraysS
public import Idealize.ShloMosaic.Lib.Pipeline.ValueKit

@[expose] public section

noncomputable section

namespace Cert.Proof.Seg

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The counts' first column. -/
def col0 (f : Vec F S1024x16 .f32) : Vec F S1024x1 .f32 :=
  fun x => f fun | 0 => x 0 | 1 => ⟨0, by decide⟩ | ⟨_ + 2, h⟩ => absurd h (Nat.not_lt.2 (Nat.le_add_left _ _))

/-- What the call leaves in its result. -/
def head (pw : Vec F S1024x256 .f32) (pc : Vec F S1024x16 .f32) (wp : Vec F S512x256 .f32) (bp : Vec F S1x512 .f32) : Vec F S1024x512 .f32 :=
  k1_pay1 pw (col0 pc) wp bp

variable (W : Dev nD → Valuation τ sig (Elt F))

/-- The window's array, as the region finds it. -/
def ent (d : Dev nD) : (w : Fin cfg1.W) → Buf (Elt F) ((cfg1.win w).arr.view.loc (d.tc : Thread nD τ)) :=
  fun w => W d (Proc.devRef .tc (Pipeline.arrRef spec1 w))

/-- The block a window's buffer is filled from. -/
abbrev blk (d : Dev nD) (X : Pipeline.Window sig grid1) (f : Buf (Elt F) (X.arr.view.loc (d.tc : Thread nD τ))) : (X.xblock (grid1.coords t1_0)).Idx → Elt F X.elt :=
  (X.blk t1_0).view.read (Elt F) f

def stg (d : Dev nD) : (w : Fin cfg1.W) → ((cfg1.win w).block.Idx → Elt F (cfg1.win w).elt)
  | ⟨0, _⟩ => blk d win1_0 (ent W d 0)
  | ⟨1, _⟩ => blk d win1_1 (ent W d 1)
  | ⟨2, _⟩ => blk d win1_2 (ent W d 2)
  | ⟨3, _⟩ => blk d win1_3 (ent W d 3)
  | ⟨4, _⟩ => blk d win1_4 (ent W d 4)

/-- The proof data. -/
def dat (_ : Fin 1) (d : Dev nD) : Dat τ (Elt F) (HIx 1) ℕ UU ℕ cfg1 d where
  A w := ent W d w
  after w _ := match w with
    | ⟨0, _⟩ => stg W d 0
    | ⟨1, _⟩ => stg W d 1
    | ⟨2, _⟩ => stg W d 2
    | ⟨3, _⟩ => stg W d 3
    | ⟨4, _⟩ => head (stg W d 0) (stg W d 1) (stg W d 2) (stg W d 3)
  Φ _ := BI.emp
  q _ := fullShare
  owed _ := 0

theorem before_in (d : Dev nD) (w : Fin cfg1.W) (hw : (cfg1.win w).fetch t1_0 = true) (x : (cfg1.win w).block.Idx → Elt F (cfg1.win w).elt) :
    (dat W 0 d).before w t1_0 x = stg W d w := by
  unfold Dat.before; rw [if_pos hw]; unfold Dat.fetched stg; fin_cases w <;> rfl

/-! ## The body -/

section Body

variable (d : Dev nD)

/-- A load of a rectangle of a buffer held whole. -/
theorem tc_ld {α : Type} {Q : α → sProp 𝕄} {cs : CoreSpace} {s : Shape} {e : EltTy} (M : Memref sig .tc cs s e) (r : Rect s)
    {q : PosShare TreeShare} (f : Buf (Elt F) (M.view.loc (T d : Thread nD τ))) {hl}
    {kk : (r.shape.Idx → Elt F e) → Prog (TpuEff nD τ sig (Elt F) Λ₀ .tc) α} :
    (M.view.loc (T d : Thread nD τ) ↦{q} f : sProp 𝕄)
      ⊢ iprop(((M.view.loc (T d : Thread nD τ) ↦{q} f) -∗ wp frame (wpE (defs₀ (F := F)) 𝒱₀ (T d) none) Set.univ (kk ((M.access r).read (Elt F) f)) Q)
        -∗ wp frame (wpE (defs₀ (F := F)) 𝒱₀ (T d) none) Set.univ (.op (.load M r.toLoadRect hl) kk) Q) :=
  wp_load_rect (defs := defs₀ (F := F)) (Q := Q) 𝒱₀ (T d) none Set.univ (m := M) (r := r) (hl := hl) (k := kk) (S := Finset.univ) (q := q) (f := f)
    (Finset.subset_univ _)

/-- A store into a buffer held whole. -/
theorem tc_st {α : Type} {Q : α → sProp 𝕄} {cs : CoreSpace} {s : Shape} {e : EltTy} (M : Memref sig .tc cs s e) (r : Rect s)
    (f : Buf (Elt F) (M.view.loc (T d : Thread nD τ))) (w : r.shape.Idx → Elt F e) {hx hm}
    {kk : PUnit → Prog (TpuEff nD τ sig (Elt F) Λ₀ .tc) α} :
    (M.view.loc (T d : Thread nD τ) ↦{fullShare} f : sProp 𝕄)
      ⊢ iprop(((M.view.loc (T d : Thread nD τ) ↦{fullShare} ((M.access r).write (Elt F) f w Finset.univ))
          -∗ wp frame (wpE (defs₀ (F := F)) 𝒱₀ (T d) none) Set.univ (kk ⟨⟩) Q)
        -∗ wp frame (wpE (defs₀ (F := F)) 𝒱₀ (T d) none) Set.univ (.op (.store M r w Finset.univ hx hm) kk) Q) :=
  wp_store (defs := defs₀ (F := F)) (Q := Q) 𝒱₀ (T d) none Set.univ (m := M) (r := r) (w := w) (Mk := Finset.univ) (hx := hx) (hm := hm) (k := kk)
    (S := Finset.univ) (f := f) (Finset.subset_univ _)

abbrev s0 : Memref sig .tc .vmem S1024x256 .f32 := Memref.whole cc1_stg0_0
abbrev s1 : Memref sig .tc .vmem S1024x16 .f32 := Memref.whole cc1_stg1_0
abbrev s2 : Memref sig .tc .vmem S512x256 .f32 := Memref.whole cc1_stg2_0
abbrev s3 : Memref sig .tc .vmem S1x512 .f32 := Memref.whole cc1_stg3_0
abbrev s4 : Memref sig .tc .vmem S1024x512 .f32 := Memref.whole cc1_stg4_0

theorem zz : (![0, 0] : Fin 2 → ℕ) = fun _ => 0 := by decide

theorem body_run (i : grid1.Coords) (f0 : Vec F S1024x256 .f32) (f1 : Vec F S1024x16 .f32) (f2 : Vec F S512x256 .f32) (f3 : Vec F S1x512 .f32) (f4 : Vec F S1024x512 .f32)
    {h0 h1 h2 h3 h4} (Q : PUnit → sProp 𝕄) :
    iprop((s0.view.loc (T d : Thread nD τ) ↦{fullShare} f0) ∗ (s1.view.loc (T d : Thread nD τ) ↦{fullShare} f1) ∗ (s2.view.loc (T d : Thread nD τ) ↦{fullShare} f2)
        ∗ (s3.view.loc (T d : Thread nD τ) ↦{fullShare} f3) ∗ (s4.view.loc (T d : Thread nD τ) ↦{fullShare} f4)
        ∗ (((s0.view.loc (T d : Thread nD τ) ↦{fullShare} f0) ∗ (s1.view.loc (T d : Thread nD τ) ↦{fullShare} f1) ∗ (s2.view.loc (T d : Thread nD τ) ↦{fullShare} f2)
          ∗ (s3.view.loc (T d : Thread nD τ) ↦{fullShare} f3) ∗ (s4.view.loc (T d : Thread nD τ) ↦{fullShare} head f0 f1 f2 f3)) -∗ Q ⟨⟩))
      ⊢ wp frame (wpE (defs₀ (F := F)) 𝒱₀ (T d) none) Set.univ (cc1__final_body (F := F) i s0 h0 s1 h1 s2 h2 s3 h3 s4 h4) Q := by
  have e1 : (s1.access (Rect.unit (s := S1024x16) ![0, 0] S1024x1.size inb_S1024x16_S1024x1_0_0)).read (Elt F) f1 = col0 f1 := by
    funext x
    refine congrArg f1 (funext fun a => Fin.ext ?_)
    match a with
    | 0 => show 0 + 1 * (x 0).val = (x 0).val; omega
    | 1 =>
      show 0 + 1 * (x 1).val = 0
      have : (x 1).val < 1 := (x 1).isLt
      omega
  have e0 : (s0.access (Rect.unit (s := S1024x256) ![0, 0] S1024x256.size inb_S1024x256_S1024x256_0_0)).read (Elt F) f0 = f0 :=
    Memref.read_access_unit_zero (Elt F) cc1_stg0_0 zz _ f0
  have e2 : (s2.access (Rect.unit (s := S512x256) ![0, 0] S512x256.size inb_S512x256_S512x256_0_0)).read (Elt F) f2 = f2 :=
    Memref.read_access_unit_zero (Elt F) cc1_stg2_0 zz _ f2
  have e3 : (s3.access (Rect.unit (s := S1x512) ![0, 0] S1x512.size inb_S1x512_S1x512_0_0)).read (Elt F) f3 = f3 :=
    Memref.read_access_unit_zero (Elt F) cc1_stg3_0 zz _ f3
  have e4 : ∀ w : Vec F S1024x512 .f32,
      (s4.access (Rect.unit (s := S1024x512) ![0, 0] S1024x512.size inb_S1024x512_S1024x512_0_0)).write (Elt F) f4 w Finset.univ = w :=
    fun w => Memref.write_access_unit_zero_univ (Elt F) cc1_stg4_0 zz _ f4 w
  rw [cc1__final_body_eq_skeleton]
  unfold cc1__final_body_skel
  simp only [Prog.lift, Prog.bind_op, Prog.bind_ret, Prog.pure_eq_ret]
  iintro ⟨H0, H1, H2, H3, H4, Hk⟩
  iapply (tc_ld d s0 _ f0) $$ H0
  iintro H0
  iapply (tc_ld d s1 _ f1) $$ H1
  iintro H1
  iapply (tc_ld d s2 _ f2) $$ H2
  iintro H2
  iapply (tc_ld d s3 _ f3) $$ H3
  iintro H3
  iapply (tc_ld d s4 _ f4) $$ H4
  iintro H4
  iapply (tc_st d s4 _ f4) $$ H4
  iintro H4
  rw [wp_ret]; imodintro
  rw [e0, e1, e2, e3, e4]
  iapply Hk
  isplitl [H0]; · iexact H0
  isplitl [H1]; · iexact H1
  isplitl [H2]; · iexact H2
  isplitl [H3]; · iexact H3
  iexact H4

end Body

theorem body_obl (d : Dev nD) : BodyObligation (dat W 0 d) (defs₀ (F := F)) 𝒱₀ none Set.univ := fun t => by
  obtain rfl := fin_N1 t
  generalize hsl : cfg1.slots t1_0 = sl
  obtain rfl : sl = fun w => (⟨0, by rcases (cfg1.win w).hnbuf with h | h <;> omega⟩ : Fin (cfg1.win w).nbuf) := funext fun w => Fin.ext (by
    have h1 : (cfg1.win w).nbuf = 1 := by fin_cases w <;> rfl
    have := (sl w).isLt
    show (sl w).val = 0
    omega)
  clear hsl
  rw [bigSep_W1, bigSep_W1]
  simp only [owns_whole_eq]
  rw [show (dat W 0 d).Φ t1_0.castSucc = BI.emp from rfl, show (dat W 0 d).Φ t1_0.succ = BI.emp from rfl,
    show (dat W 0 d).owesAt none t1_0.succ = (dat W 0 d).owesAt none t1_0.castSucc from rfl]
  iintro ⟨-, Ho, ⟨%d0, %f0, %hf0, H0⟩, ⟨%d1, %f1, %hf1, H1⟩, ⟨%d2, %f2, %hf2, H2⟩, ⟨%d3, %f3, %hf3, H3⟩, ⟨%d4, %f4, -, H4⟩⟩
  rw [before_in W d 0 (fetch1_0 _)] at hf0; rw [before_in W d 1 (fetch1_1 _)] at hf1; rw [before_in W d 2 (fetch1_2 _)] at hf2
  rw [before_in W d 3 (fetch1_3 _)] at hf3
  subst hf0 hf1 hf2 hf3
  iapply (body_run d (grid1.coords t1_0) (stg W d 0) (stg W d 1) (stg W d 2) (stg W d 3) f4 (h0 := hstage1_0 0) (h1 := hstage1_1 0) (h2 := hstage1_2 0) (h3 := hstage1_3 0) (h4 := hstage1_4 0) _)
  isplitl [H0]; · iexact H0
  isplitl [H1]; · iexact H1
  isplitl [H2]; · iexact H2
  isplitl [H3]; · iexact H3
  isplitl [H4]; · iexact H4
  iintro ⟨H0, H1, H2, H3, H4⟩
  isplitr; · iempintro
  isplitl [Ho]; · iexact Ho
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr; · ipureintro; rfl
  iexact H4

/-! ## The region -/

abbrev adm : (p : Fin 1) → (pcfgs (F := F) p).Adm := fun p => (cfgs p).toPCfg_adm

abbrev pdats : (p : Fin 1) → (d : Dev nD) → Dat τ (Elt F) (HIx 1) ℕ UU ℕ (Pipeline.pin (pcfgs (F := F)) adm p) d := fun p d => dat W p d

/-- The contents the region leaves. -/
abbrev left (d : Dev nD) : Valuation τ sig (Elt F) := Pipeline.afterRegion (dat W 0 d) (W d)

theorem share_full (d : Dev nD) (w : Fin cfg1.W) : (dat W 0 d).share w = fullShare := by
  unfold Dat.share; split <;> rfl

abbrev region : Pipeline.RegionSeg (pcfgs (F := F)) adm (pdats W) none (defs₀ (F := F)) 𝒱₀ (K (F := F)).L (K (F := F)).lev 0 :=
  Pipeline.RegionSeg.ofHeldIn (pcfgs (F := F)) adm (pdats W) none (defs₀ (F := F)) 𝒱₀ (K (F := F)).L (K (F := F)).lev 0 (fun _ => 0)
    (Pipeline.ucRefs τ sig) (fun _ => BI.emp) (fun _ => BI.emp) (launch1.toP (Val := Elt F)) rfl (fun d => (body_obl W d).loose)
    (fun _ _ => rfl) (fun _ => rfl) (fun d w => share_full W d w)
    (fun d => by
      show _ ⊢ (BI.emp : sProp 𝕄)
      iintro -; iempintro)
    (fun d => by
      show (BI.emp : sProp 𝕄) ⊢ iprop(Pipeline.scopedRest spec1 d ∗ BI.emp)
      rw [scopedRest1_eq]
      iintro -; isplitr <;> iempintro)
    (fun _ => 0) ⟨fun _ _ _ => Finset.mem_univ _, fun _ _ _ => le_rfl, fun _ _ _ h => absurd h (lt_irrefl _)⟩
    (fun _ => BI.emp) W (fun _ _ => rfl)

theorem arr_uc : Pipeline.arrRefs spec1 ⊆ Pipeline.ucRefs τ sig := by decide

theorem region_pre (d : Dev nD) :
    iprop(StableHlo.held (T d : Thread nD τ) (Pipeline.ucRefs τ sig) (W d) ∗ ((∃ X, owes (T d : Thread nD τ) 0 X) ∗ BI.emp ∗ BI.emp)) ⊢ (region W).pre d :=
  Pipeline.RegionSeg.ofHeldIn_pre (pcs := pcfgs (F := F)) (a := adm) (pdats := pdats W) (ι := none) (defs₀ := defs₀ (F := F)) (𝒱₀ := 𝒱₀)
    (L := (K (F := F)).L) (lv := (K (F := F)).lev) (p := 0) (D := fun _ => 0) (S := Pipeline.ucRefs τ sig) arr_uc (X := fun _ => BI.emp) (Y := fun _ => BI.emp)
    (b := fun _ => 0) (R := fun _ => BI.emp) (W := W) d

theorem region_post (d : Dev nD) :
    (region W).post d ⊢ iprop(StableHlo.held (T d : Thread nD τ) (Pipeline.ucRefs τ sig) (left W d) ∗ ((∃ X, owes (T d : Thread nD τ) 0 X) ∗ BI.emp ∗ BI.emp)) :=
  Pipeline.RegionSeg.ofHeldIn_post (D := fun _ => 0) arr_uc d

theorem region_run' (d : Dev nD) :
    iprop(boundary (T d : Thread nD τ) ∗ StableHlo.held (T d : Thread nD τ) (Pipeline.ucRefs τ sig) (W d) ∗ (∃ X, owes (T d : Thread nD τ) 0 X)
        ∗ levAts (K (F := F)).L (K (F := F)).lev ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ (.op (.customCall (Pipeline.entry 0) ()) .ret : Prog (TpuEff nD τ sig (Elt F) (ΛP (F := F)) .tc) PUnit) fun _ =>
          (iprop(boundary (T d : Thread nD τ) ∗ StableHlo.held (T d : Thread nD τ) (Pipeline.ucRefs τ sig) (left W d) ∗ ∃ X, owes (T d : Thread nD τ) 0 X) : sProp 𝕄) := by
  iintro ⟨Hb, Hh, Ho, Hl, Hg, Ht⟩
  iapply (Pipeline.RegionSeg.wp (pcfgs (F := F)) adm (pdats W) none cellOf_inj EP (defs₀ (F := F)) 𝒱₀ (K (F := F)).L (K (F := F)).lev (region W) d none
    (fun _ h => nomatch h) .ret _)
  isplitr [Hb Hh Ho Hl Hg Ht]
  · iintro ⟨Hb, Hp⟩
    rw [wp_ret]; imodintro
    ihave Hp := (region_post W d) $$ Hp
    icases Hp with ⟨Hh, Ho, -⟩
    isplitl [Hb]; · iexact Hb
    isplitl [Hh]; · iexact Hh
    iexact Ho
  isplitl [Hb]; · iexact Hb
  isplitl [Hh Ho]
  · iapply (region_pre W d)
    isplitl [Hh]; · iexact Hh
    isplitl [Ho]; · iexact Ho
    isplitr <;> iempintro
  isplitl [Hl]; · iexact Hl
  isplitl [Hg]; · iexact Hg
  iexact Ht

theorem region_run (d : Dev nD) :
    iprop(boundary (T d : Thread nD τ) ∗ StableHlo.held (T d : Thread nD τ) (Pipeline.ucRefs τ sig) (W d) ∗ (∃ X, owes (T d : Thread nD τ) 0 X)
        ∗ levAts (K (F := F)).L (K (F := F)).lev ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) fun _ =>
          (iprop(boundary (T d : Thread nD τ) ∗ StableHlo.held (T d : Thread nD τ) (Pipeline.ucRefs τ sig) (left W d) ∗ ∃ X, owes (T d : Thread nD τ) 0 X) : sProp 𝕄) :=
  (region_run' W d).trans ((K (F := F)).wp_liftProg (D (F := F)) 𝒱 (T d) Set.univ none _ _)

end Cert.Proof.Seg
-- ==== Proof.HeadVal.lean ====
/-
  The contents the TensorCore call leaves.
-/
module

public import proofs.«01_k».proof.Proof.Head

@[expose] public section

noncomputable section

namespace Cert.Proof.Seg

open Cert.KernelIdeal Cert.KernelIdeal.Gen
open Idealize.ShloMosaic Idealize.ShloMosaic.TcCoe

variable {F : FTy → Type} [FloatOps F] (W : Dev nD → Valuation τ sig (Elt F)) (d : Dev nD)

theorem left_keep (r : Ref sig .tc) (h : r ≠ main_v4) : left W d (Proc.devRef .tc r) = W d (Proc.devRef .tc r) :=
  Pipeline.afterRegion_keeps (dat W 0 d) (W d) winFacts1.arr_inj (fun _ => rfl) r fun w hw => by
    match w, hw with
    | ⟨0, _⟩, _ => rfl
    | ⟨1, _⟩, _ => rfl
    | ⟨2, _⟩, _ => rfl
    | ⟨3, _⟩, _ => rfl
    | ⟨4, _⟩, hw => exact absurd hw.symm h

theorem stg0 : (stg W d 0 : Vec F S1024x256 .f32) = W d (Proc.devRef .tc main_v3_0) := by
  funext y
  refine congrArg (W d (Proc.devRef .tc main_v3_0)) (funext fun a => Fin.ext ?_)
  match a with
  | 0 => show 0 + 1 * (y 0).val = (y 0).val; omega
  | 1 => show 0 + 1 * (y 1).val = (y 1).val; omega

theorem stg1 : (stg W d 1 : Vec F S1024x16 .f32) = W d (Proc.devRef .tc main_v3_1) := by
  funext y
  refine congrArg (W d (Proc.devRef .tc main_v3_1)) (funext fun a => Fin.ext ?_)
  match a with
  | 0 => show 0 + 1 * (y 0).val = (y 0).val; omega
  | 1 => show 0 + 1 * (y 1).val = (y 1).val; omega

theorem stg2 : (stg W d 2 : Vec F S512x256 .f32) = W d (Proc.devRef .tc main_arg4) := by
  funext y
  refine congrArg (W d (Proc.devRef .tc main_arg4)) (funext fun a => Fin.ext ?_)
  match a with
  | 0 => show 0 + 1 * (y 0).val = (y 0).val; omega
  | 1 => show 0 + 1 * (y 1).val = (y 1).val; omega

theorem stg3 : (stg W d 3 : Vec F S1x512 .f32) = W d (Proc.devRef .tc main_v0) := by
  funext y
  refine congrArg (W d (Proc.devRef .tc main_v0)) (funext fun a => Fin.ext ?_)
  match a with
  | 0 => show 0 + 1 * (y 0).val = (y 0).val; omega
  | 1 => show 0 + 1 * (y 1).val = (y 1).val; omega

theorem left_res : left W d (Proc.devRef .tc main_v4)
    = head (W d (Proc.devRef .tc main_v3_0)) (W d (Proc.devRef .tc main_v3_1)) (W d (Proc.devRef .tc main_arg4)) (W d (Proc.devRef .tc main_v0)) := by
  refine (Pipeline.afterRegion_arr (dat W 0 d) (W d) winFacts1.arr_inj 4).trans ?_
  rw [← stg0 W d, ← stg1 W d, ← stg2 W d, ← stg3 W d]
  refine (dat W 0 d).arrAt_eq_of_covers 4 _ (by decide +kernel) fun t hf y => ?_
  obtain rfl := fin_N1 t
  refine congrArg (head (F := F) (stg W d 0) (stg W d 1) (stg W d 2) (stg W d 3)) (funext fun a => Fin.ext ?_)
  match a with
  | 0 => show (y 0).val = 0 + 1 * (y 0).val; omega
  | 1 => show (y 1).val = 0 + 1 * (y 1).val; omega

end Cert.Proof.Seg
-- ==== Proof.Main.lean ====
/-
  @main: the host's operations, the SparseCore call and the TensorCore call, and what the run leaves in memory.
-/
module

public import proofs.«01_k».proof.Proof.Pieces
public import proofs.«01_k».proof.Proof.HeadVal

@[expose] public section

noncomputable section

namespace Cert.Proof.Seg

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The contents -/

variable (m : (ℓ : Loc nD τ sig) → Buf (Elt F) ℓ) (ρ : Dev nD → PrngReg)

abbrev op0 : HloOp τ sig (Elt F) := StableHlo.reshape main_arg5 main_v0 rfl shapeCasts_S512_S1x512
abbrev op1 : HloOp τ sig (Elt F) := StableHlo.reshape main_arg2 main_v1 rfl shapeCasts_S1x256_S256
abbrev op2 : HloOp τ sig (Elt F) := StableHlo.unary main_arg3 main_v2 (broadcastInDim S16 ![0] bcast_S1_S16_0)

theorem sub0 : (op0 (F := F)).bufs ⊆ Pipeline.ucRefs τ sig := by
  show ({↑main_arg5, ↑main_v0} : Finset (DevRef τ sig)) ⊆ _
  decide
theorem sub1 : (op1 (F := F)).bufs ⊆ Pipeline.ucRefs τ sig := by
  show ({↑main_arg2, ↑main_v1} : Finset (DevRef τ sig)) ⊆ _
  decide
theorem sub2 : (op2 (F := F)).bufs ⊆ Pipeline.ucRefs τ sig := by
  show ({↑main_arg3, ↑main_v2} : Finset (DevRef τ sig)) ⊆ _
  decide

/-- At launch, and after each of the host's operations. -/
def W0 (d : Dev nD) : Valuation τ sig (Elt F) := fun b => m (d, b)
def W1 (d : Dev nD) : Valuation τ sig (Elt F) := op0.result (W0 m d)
def W2 (d : Dev nD) : Valuation τ sig (Elt F) := op1.result (W1 m d)
def W3 (d : Dev nD) : Valuation τ sig (Elt F) := op2.result (W2 m d)

/-- The SparseCore call's arguments. -/
def A (d : Dev nD) : Data F :=
  ⟨W3 m d main_arg0, W3 m d main_arg1, W3 m d main_v1, W3 m d main_v2⟩

abbrev e1 (d : Dev nD) : Vec F S1024x256 .f32 := W3 m d main_v3_0
abbrev e2 (d : Dev nD) : Vec F S1024x16 .f32 := W3 m d main_v3_1

/-- After the SparseCore call. -/
def W4 (d : Dev nD) : Valuation τ sig (Elt F) :=
  Function.update (Function.update (W3 m d) main_v3_0 (PW (A m d))) main_v3_1 (PC (A m d))

theorem W3_ne (d : Dev nD) (b : Ref sig .tc) (h0 : b ≠ main_v0) (h1 : b ≠ main_v1) (h2 : b ≠ main_v2) : W3 m d b = m ((T d : Thread nD τ).loc b) := by
  unfold W3 W2 W1
  rw [op2.result_of_not_mem _ (fun h => h2 (Proc.devRef_injective _ (Finset.mem_singleton.mp h))), op1.result_of_not_mem _ (fun h => h1 (Proc.devRef_injective _ (Finset.mem_singleton.mp h))),
    op0.result_of_not_mem _ (fun h => h0 (Proc.devRef_injective _ (Finset.mem_singleton.mp h)))]
  rfl

theorem W4_ne (d : Dev nD) (b : DevRef τ sig) (h0 : b ≠ main_v3_0) (h1 : b ≠ main_v3_1) : W4 m d b = W3 m d b := by
  unfold W4
  rw [Function.update_of_ne h1, Function.update_of_ne h0]
theorem W4_pw (d : Dev nD) : W4 m d main_v3_0 = PW (A m d) := by
  unfold W4
  rw [Function.update_of_ne (by decide), Function.update_self]
theorem W4_pc (d : Dev nD) : W4 m d main_v3_1 = PC (A m d) := by
  unfold W4
  rw [Function.update_self]

/-! ## The call's six arrays among the core's -/

def sixR : Finset (DevRef τ sig) := {↑main_arg0, ↑main_arg1, ↑main_v1, ↑main_v2, ↑main_v3_0, ↑main_v3_1}

theorem six_uc : sixR ⊆ Pipeline.ucRefs τ sig := by decide

theorem six_held (d : Dev nD) (V : Valuation τ sig (Elt F)) :
    (StableHlo.held (T d : Thread nD τ) sixR V : sProp 𝕄) = six d ⟨V main_arg0, V main_arg1, V main_v1, V main_v2⟩ (V main_v3_0) (V main_v3_1) := by
  unfold StableHlo.held sixR six
  rw [SparseCore.bigSep_insert' (by decide), SparseCore.bigSep_insert' (by decide), SparseCore.bigSep_insert' (by decide),
    SparseCore.bigSep_insert' (by decide), SparseCore.bigSep_insert' (by decide), bigSep_singleton]
  rw [sep_assoc', sep_assoc', sep_assoc']

theorem split3 (d : Dev nD) : (StableHlo.held (T d : Thread nD τ) (Pipeline.ucRefs τ sig) (W3 m d) : sProp 𝕄)
    = iprop(six d (A m d) (e1 m d) (e2 m d) ∗ StableHlo.held (T d : Thread nD τ) (Pipeline.ucRefs τ sig \ sixR) (W3 m d)) := by
  rw [StableHlo.held_sub_split (T d : Thread nD τ) six_uc, six_held]
  rfl

theorem split4 (d : Dev nD) : (StableHlo.held (T d : Thread nD τ) (Pipeline.ucRefs τ sig) (W4 m d) : sProp 𝕄)
    = iprop(six d (A m d) (PW (A m d)) (PC (A m d)) ∗ StableHlo.held (T d : Thread nD τ) (Pipeline.ucRefs τ sig \ sixR) (W3 m d)) := by
  rw [StableHlo.held_sub_split (T d : Thread nD τ) six_uc, six_held, W4_pw, W4_pc, W4_ne m d _ (by decide) (by decide), W4_ne m d _ (by decide) (by decide),
    W4_ne m d _ (by decide) (by decide), W4_ne m d _ (by decide) (by decide),
    StableHlo.held_congr (T d : Thread nD τ) (S := Pipeline.ucRefs τ sig \ sixR) (V := W4 m d) (V' := W3 m d) fun b hb => W4_ne m d b
      (fun h => (Finset.mem_sdiff.mp hb).2 (h ▸ by decide)) (fun h => (Finset.mem_sdiff.mp hb).2 (h ▸ by decide))]
  rfl

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

def G (d : Dev nD) : sProp 𝕄 :=
  iprop(Pipeline.cellsGhost (Pipeline.pin (pcfgs (F := F)) adm) EP 0 d ∗ Pipeline.toksInit (Pipeline.pin (pcfgs (F := F)) adm) EP 0 d)

theorem one_region (Φ : Dev nD → Fin 1 → sProp 𝕄) : (bigSep Finset.univ fun d => bigSep Finset.univ fun p => Φ d p) = bigSep Finset.univ fun d => Φ d 0 :=
  bigSep_congr fun _ _ => bigSep_univ_of_subsingleton (0 : Fin 1)

theorem emps {I : Type} (s : Finset I) : (bigSep s fun _ => iprop(emp)) = (iprop(emp) : sProp 𝕄) := bigSep_emp_const s

theorem own_EP (a : UP) : (BI.own (((Emb.inl : Emb UP (UP × Counters)).trans (embR : Emb (UP × Counters) 𝕄)) a) : sProp 𝕄) ⊢ BI.own (EP (F := F) a) :=
  Entails.of_eq rfl

theorem hu₀ (a : Dev nD → Data F) (f1 : Dev nD → Vec F S1024x256 .f32) (f2 : Dev nD → Vec F S1024x16 .f32) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P a f1 f2).x q thr) := by
  unfold u₀
  iintro Hu
  ihave H := (ownU_pair (initOf (K (F := F)).hsCells (K (F := F)).hsToks) (_ : UP × Counters)) $$ Hu
  icases H with ⟨HH, HR⟩
  ihave HR := (own_pair_emb _ (initOf (Pipeline.cells (Pipeline.pin (pcfgs (F := F)) adm) cellOf_inj) (Pipeline.launchToks (Pipeline.pin (pcfgs (F := F)) adm) cellOf_inj)) (1 : Counters)) $$ HR
  icases HR with ⟨HP, -⟩
  ihave HP := (own_EP _) $$ HP
  imod (Pipeline.fund_ghost (Pipeline.pin (pcfgs (F := F)) adm) EP cellOf_inj) $$ HP with ⟨Hc, Ht⟩
  imodintro
  isplitl [HH]; · iexact HH
  isplitl [Hc Ht]
  · unfold G
    rw [bigSep_sep', ← one_region (fun d p => Pipeline.cellsGhost (Pipeline.pin (pcfgs (F := F)) adm) EP p d), ← one_region (fun d p => Pipeline.toksInit (Pipeline.pin (pcfgs (F := F)) adm) EP p d)]
    isplitl [Hc]; · iexact Hc
    iexact Ht
  rw [show (bigSep Finset.univ fun thr : Thread nD τ => bigSep Finset.univ fun q : Fin 1 => (P a f1 f2).x q thr) = bigSep Finset.univ fun _ => iprop(emp) from
    bigSep_congr fun _ _ => bigSep_univ_of_subsingleton (0 : Fin 1), emps]
  iempintro

/-! ## @main -/

abbrev FIN (d : Dev nD) : sProp 𝕄 := StableHlo.held (T d : Thread nD τ) (Pipeline.ucRefs τ sig) (left (W4 m) d)

theorem below (d : Dev nD) (p : SemLoc sig × HIx 1) : (K (F := F)).lev ((T d : Thread nD τ), p.1) p.2 ≤ 8 * 1 := by
  obtain ⟨s, _ | q⟩ := p
  · exact Nat.zero_le _
  · have hq : q.val < 1 := q.isLt
    show 8 * q.val + 6 + 1 ≤ 8 * 1
    omega

theorem hmain (κ : GSem nD τ sig → ℕ) (d : Dev nD) :
    iprop((K (F := F)).ctx EH (P (A m) (e1 m) (e2 m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((T d : Thread nD τ).loc b)) : sProp 𝕄) = StableHlo.held (T d : Thread nD τ) (Pipeline.ucRefs τ sig) (W0 m d) from
    Pipeline.unscopedBufs_held d (W0 m d)]
  simp only [main, wp_bind, wp_pure]
  unfold G
  iintro ⟨#Hctx, Hst, ⟨Hb, Hh, Hts, -⟩, Hg, Ht⟩
  iapply (StableHlo.wp_hlo_within 𝒱 (T d : Thread nD τ) none Set.univ (op := op0) (sub0) (V := W0 m d)) $$ [Hb Hh]
  · isplitl [Hb] <;> iassumption
  iintro ⟨Hb, Hh⟩
  rw [wp_ret]; imodintro
  rw [show op0.result (W0 m d) = W1 m d from rfl]
  iapply (StableHlo.wp_hlo_within 𝒱 (T d : Thread nD τ) none Set.univ (op := op1) (sub1) (V := W1 m d)) $$ [Hb Hh]
  · isplitl [Hb] <;> iassumption
  iintro ⟨Hb, Hh⟩
  rw [wp_ret]; imodintro
  rw [show op1.result (W1 m d) = W2 m d from rfl]
  iapply (StableHlo.wp_hlo_within 𝒱 (T d : Thread nD τ) none Set.univ (op := op2) (sub2) (V := W2 m d)) $$ [Hb Hh]
  · isplitl [Hb] <;> iassumption
  iintro ⟨Hb, Hh⟩
  rw [wp_ret]; imodintro
  rw [show op2.result (W2 m d) = W3 m d from rfl]
  ihave Hh := (Entails.of_eq (split3 m d)) $$ Hh
  icases Hh with ⟨H6, Hrest⟩
  iapply ((K (F := F)).wp_run (D (F := F)) 𝒱 (EH := EH) (P := P (A m) (e1 m) (e2 m)) κ d 0) $$ [Hst H6 Hrest Hb Hts Hg Ht]
  isplitr; · iexact Hctx
  isplitl [Hst]; · iexact Hst
  isplitl [H6]
  · rw [st_eq]; iexact H6
  iintro ⟨Hst, Hdn⟩
  ihave H6 := (Entails.of_eq (dn_eq (A m) (e1 m) (e2 m) d)) $$ Hdn
  ihave Hh := (Entails.of_eq (split4 m d).symm) $$ [H6 Hrest]
  · isplitl [H6] <;> iassumption
  unfold SparseCore.Cfg.tcSt
  icases Hst with ⟨⟨%X, %hX, Hop⟩, Hr⟩
  ihave Hop := (Entails.of_eq (show (owes (T d : Thread nD τ) ((K (F := F)).Otc d (((0 : Fin 1) : ℕ) + 1)) X : sProp 𝕄) = owes (T d : Thread nD τ) 0 X by rw [show (K (F := F)).Otc d (((0 : Fin 1) : ℕ) + 1) = 0 from (K (F := F)).Otc_end d (le_refl 1)])) $$ Hop
  ihave Hlv := ((K (F := F)).ctx_levAts (EH := EH) (P := P (A m) (e1 m) (e2 m)) κ) $$ Hctx
  iapply (wp_wand_r frame (wpE ((K (F := F)).defs (D (F := F))) 𝒱 (T d : Thread nD τ) none) Set.univ)
  isplitl [Hb Hh Hop Hlv Hg Ht]
  · iapply (region_run (W4 m) d)
    isplitl [Hb]; · iexact Hb
    isplitl [Hh]; · iexact Hh
    isplitl [Hop]; · iexists X; iexact Hop
    isplitl [Hlv]; · iexact Hlv
    isplitl [Hg] <;> iassumption
  iintro %_ ⟨Hb, Hh, ⟨%X', Hop⟩⟩
  imodintro
  isplitl [Hop Hr]
  · isplitl [Hop]
    · iexists X'
      isplitr
      · ipureintro
        intro p _
        exact below d p
      · rw [show (K (F := F)).Otc d 1 = 0 from (K (F := F)).Otc_end d (le_refl 1)]; iexact Hop
    iexact Hr
  isplitl [Hh]; · iexact Hh
  isplitl [Hb] <;> iassumption

/-! ## The end -/

theorem held_SI (d : Dev nD) (V : Valuation τ sig (Elt F)) (s' : Phys nD τ sig (Elt F)) (b : DevRef τ sig) (hb : b ∈ Pipeline.ucRefs τ sig) :
    iprop(StableHlo.held (T d : Thread nD τ) (Pipeline.ucRefs τ sig) V ∗ SI s') ⊢ (⌜s'.mem.mem (d, b) = V b⌝ : sProp 𝕄) := by
  unfold StableHlo.held
  iintro ⟨Hh, HSI⟩
  have he : (bigSep (Pipeline.ucRefs τ sig) fun b => (((d, b) : Loc nD τ sig) ↦{fullShare} V b : sProp 𝕄)) ⊢ (((d, b) : Loc nD τ sig) ↦{fullShare} V b : sProp 𝕄) :=
    BI.bigSep_elim (Φ := fun b : DevRef τ sig => (((d, b) : Loc nD τ sig) ↦{fullShare} V b : sProp 𝕄)) hb
  ihave Hp := he $$ Hh
  ihave H := (SI_pointsTo_agree (st := s') (ℓ := (d, b)) (I := Finset.univ) (q := fullShare) (f := V b)) $$ [HSI Hp]
  · isplitl [HSI] <;> iassumption
  icases H with %h
  ipureintro
  exact funext fun (i : Idx ((d, b) : Loc nD τ sig)) => h i (by simp)

def fq (d : Dev nD) (s' : Phys nD τ sig (Elt F)) : Prop := ∀ b ∈ Pipeline.ucRefs τ sig, s'.mem.mem (d, b) = left (W4 m) d b

theorem hfin (d : Dev nD) (s' : Phys nD τ sig (Elt F)) : iprop(FIN m d ∗ SI s') ⊢ (⌜fq m d s'⌝ : sProp 𝕄) :=
  fun x hx b hb => (held_SI d (left (W4 m) d) s' b hb) x hx

def QC : PUnit × MemSt nD τ sig (Elt F) → Prop := fun r =>
  (∀ d : Dev nD, ∀ b ∈ Pipeline.ucRefs τ sig, r.2.mem (d, b) = left (W4 m) d b) ∧ r.2.sem = fun _ => 0

theorem run_main [∀ e, Nonempty (Elt F e)] (hC : Counts F) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (A m) (e1 m) (e2 m)) (A := ∅) scFacts v₀
    (fun q hq => match q with | 0 => nomatch hq)
    (fun q _ => match q with | 0 => tileObl (A m) (e1 m) (e2 m) hC)
    (fun q _ => match q with | 0 => SparseCore.Cfg.VecSplit.of_plain (vecSplit (A m) (e1 m) (e2 m)))
    m ρ main G (FIN m) (u₀ (F := F)) (sep_elim_left.trans (hu₀ (A m) (e1 m) (e2 m))) (hmain m ρ) (fq m) (hfin m) (QC m) (fun _ h hz => ⟨h, hz⟩)

end Cert.Proof.Seg
-- ==== Proof.Count.lean ====
/-
  Counting in floats is exact here: the naturals below 2²⁴, in bit patterns and in the extended reals, and the two
  counts each tile makes of the sorted ids.
-/
module

public import proofs.«01_k».proof.Proof.Whole
public import Idealize.ShloMosaic.Lib.NatWords
public import Idealize.ShloMosaic.Lib.IdealHost

@[expose] public section

noncomputable section

namespace Cert.Proof.Seg

open Cert.KernelIdeal Cert.KernelIdeal.Gen
open Idealize.ShloMosaic

/-- The naturals as f32 values: exact below 2²⁴. -/
structure Nats (F : FTy → Type) [FloatOps F] where
  nat : ℕ → F .f32
  zero : (Scalar.ofBits .f32 0x00000000#32 : F .f32) = nat 0
  one : (Scalar.ofBits .f32 0x3F800000#32 : F .f32) = nat 1
  add : ∀ a b, a + b < 2 ^ 24 → FloatOps.addf (nat a) (nat b) = nat (a + b)
  toI : ∀ a, a < 2 ^ 24 → FloatOps.fptosi 32 (nat a) = BitVec.ofNat 32 a

def natsBits : Nats Bits where
  nat := Bits.f32OfNat
  zero := by rw [Bits.f32OfNat_zero]; rfl
  one := by rw [Bits.f32OfNat_eq 1 (by decide)]; decide
  add a b h := Bits.addf32_nat a b h
  toI a h := Bits.fptosi32_nat a h

def natsIdeal : Nats Ideal where
  nat a := ((a : ℝ) : EReal)
  zero := by show Ideal.ofBits .f32 0x00000000#32 = _; simp
  one := by show Ideal.ofBits .f32 0x3F800000#32 = _; simp
  add a b _ := by
    show ((a : ℝ) : EReal) + ((b : ℝ) : EReal) = _
    rw [← EReal.coe_add, Nat.cast_add]
  toI a h := by
    show Ideal.fptosi 32 ((a : ℝ) : EReal) = _
    rw [Ideal.fptosi, Ideal.toIntClamped_coe, if_pos (Nat.cast_nonneg a), Int.floor_natCast]
    rw [show max (-(2 ^ (32 - 1) : ℕ) : ℤ) (min ((2 ^ (32 - 1) : ℕ) - 1 : ℤ) (a : ℤ)) = (a : ℤ) by
      have : a < 16777216 := h
      omega]
    exact BitVec.ofInt_natCast 32 a

variable {F : FTy → Type} [FloatOps F]

/-- How many of lane `y`'s ids are below `b` after `k` groups. -/
def below' (ids : Vec F S50000 .i32) (b : ℤ) (y k : ℕ) : ℕ := ∑ j ∈ Finset.range k, if (idAt ids (16 * j + y)).toInt < b then 1 else 0

theorem below'_le (ids : Vec F S50000 .i32) (b : ℤ) (y k : ℕ) : below' ids b y k ≤ k := by
  unfold below'
  refine (Finset.sum_le_card_nsmul _ _ 1 fun j _ => ?_).trans (by simp)
  split <;> omega

variable (N : Nats F)

theorem step_nat (a : ℕ) (ha : a + 1 < 2 ^ 24) (x w : BitVec 32) :
    FloatOps.addf (N.nat a) (Scalar.select (IntOp.cmpi .slt x w) (Scalar.ofBits .f32 0x3F800000#32 : F .f32) (Scalar.ofBits .f32 0x00000000#32 : F .f32))
      = N.nat (a + if x.toInt < w.toInt then 1 else 0) := by
  have e : Scalar.select (IntOp.cmpi .slt x w) (Scalar.ofBits .f32 0x3F800000#32 : F .f32) (Scalar.ofBits .f32 0x00000000#32 : F .f32)
      = N.nat (if x.toInt < w.toInt then 1 else 0) := by
    by_cases h : x.toInt < w.toInt
    · simp only [Scalar.select, IntOp.cmpi, BitVec.slt, h, decide_true, BitVec.ofBool_true, if_true, N.one]
    · simp only [Scalar.select, IntOp.cmpi, BitVec.slt, h, decide_false, BitVec.ofBool_false, if_false, N.zero]
      simp
  rw [e, N.add _ _ (by split <;> omega)]

theorem segw_toInt (L : grid0.Coords) : (segw L).toInt = 32 * (tn L : ℤ) := by
  have := segw_isInt L
  unfold Affine.IsInt at this
  rw [this]; push_cast; rfl

theorem segw'_toInt (L : grid0.Coords) : (Scalar.addi (segw L) 32#32).toInt = 32 * ((tn L + 1 : ℕ) : ℤ) := by
  have h1 : (L 0).val < 2 := (L 0).isLt
  have h2 : (L 1).val < 16 := (L 1).isLt
  have ht : tn L < 32 := by unfold tn; omega
  have := Affine.addi (segw_isInt L) (Affine.ofNat (e := 32) 32 (by omega)) ⟨rfl, by omega, by omega⟩
  unfold Affine.IsInt at this
  rw [show (Scalar.addi (segw L) 32#32).toInt = _ from this]; push_cast; omega

theorem cnt_nat (L : grid0.Coords) (ids : Vec F S50000 .i32) (k : ℕ) (hk : k ≤ 3136) (y : S16.Idx) :
    (cnt L ids k).1 y = N.nat (below' ids (32 * (tn L : ℤ)) (y 0).val k) ∧ (cnt L ids k).2 y = N.nat (below' ids (32 * ((tn L + 1 : ℕ) : ℤ)) (y 0).val k) := by
  induction k with
  | zero => exact ⟨N.zero, N.zero⟩
  | succ k ih =>
    obtain ⟨i1, i2⟩ := ih (by omega)
    have l1 := below'_le ids (32 * (tn L : ℤ)) (y 0).val k
    have l2 := below'_le ids (32 * ((tn L + 1 : ℕ) : ℤ)) (y 0).val k
    constructor
    · show FloatOps.addf ((cnt L ids k).1 y) (Scalar.select (IntOp.cmpi .slt (idv ids k y) (segw L)) _ _) = _
      rw [i1]
      refine (step_nat N (below' ids (32 * (tn L : ℤ)) (y 0).val k) (by omega) (idv ids k y) (segw L)).trans ?_
      rw [segw_toInt]
      unfold below'
      rw [Finset.sum_range_succ]; rfl
    · show FloatOps.addf ((cnt L ids k).2 y) (Scalar.select (IntOp.cmpi .slt (idv ids k y) (Scalar.addi (segw L) 32#32)) _ _) = _
      rw [i2]
      refine (step_nat N (below' ids (32 * ((tn L + 1 : ℕ) : ℤ)) (y 0).val k) (by omega) (idv ids k y) (Scalar.addi (segw L) 32#32)).trans ?_
      rw [segw'_toInt]
      unfold below'
      rw [Finset.sum_range_succ]; rfl

theorem foldl_ofNat (n : Fin 16 → ℕ) (l : List (Fin 16)) (a : ℕ) :
    l.foldl (fun r k => IntOp.addi r (BitVec.ofNat 32 (n k))) (BitVec.ofNat 32 a) = BitVec.ofNat 32 (a + (l.map n).sum) := by
  induction l generalizing a with
  | nil => simp
  | cons x l ih =>
    rw [List.foldl_cons, show IntOp.addi (BitVec.ofNat 32 a) (BitVec.ofNat 32 (n x)) = BitVec.ofNat 32 (a + n x) from (BitVec.ofNat_add a (n x)).symm, ih,
      List.map_cons, List.sum_cons, Nat.add_assoc]

/-- The last lane of the running sum of sixteen words. -/
theorem scan_last (n : ℕ → ℕ) (v : IVec S16 32) (hv : ∀ y, v y = BitVec.ofNat 32 (n (y 0).val)) :
    extractAt ![15] (scan .sum v) inpos_S16_p15 = BitVec.ofNat 32 (∑ y ∈ Finset.range 16, n y) := by
  have e : extractAt ![15] (scan .sum v) inpos_S16_p15
      = ((List.finRange 16).filter fun k => decide (0 < k.val ∧ k.val ≤ 15)).foldl (fun r k => IntOp.addi r (BitVec.ofNat 32 (n k.val))) (BitVec.ofNat 32 (n 0)) := by
    have hv' : v = fun y => BitVec.ofNat 32 (n (y 0).val) := funext hv
    subst hv'
    rfl
  rw [e, foldl_ofNat (fun k => n k.val)]
  congr 1

theorem lanes_sum {M : Type} [AddCommMonoid M] (f : ℕ → M) (k : ℕ) : (∑ y ∈ Finset.range 16, ∑ j ∈ Finset.range k, f (16 * j + y)) = ∑ p ∈ Finset.range (16 * k), f p := by
  refine Finset.sum_comm.trans ?_
  induction k with
  | zero => simp
  | succ k ih => rw [Finset.sum_range_succ, ih, Nat.mul_succ, Finset.sum_range_add f (16 * k) 16]

theorem loOf_eq (ids : Vec F S50000 .i32) (t : ℕ) (ht : t ≤ 32) : (∑ y ∈ Finset.range 16, below' ids (32 * (t : ℤ)) y 3136) = loOf ids t := by
  unfold below' loOf
  rw [lanes_sum (fun p => if (idAt ids p).toInt < 32 * (t : ℤ) then 1 else 0) 3136, Finset.card_filter,
    show 16 * 3136 = 50000 + 176 from rfl, Finset.sum_range_add]
  have : (∑ x ∈ Finset.range 176, if (idAt ids (50000 + x)).toInt < 32 * (t : ℤ) then 1 else 0) = 0 := by
    refine Finset.sum_eq_zero fun x _ => if_neg ?_
    rw [show idAt ids (50000 + x) = 1024#32 from if_neg (by omega), show (1024#32 : BitVec 32).toInt = 1024 by decide]
    omega
  rw [this, Nat.add_zero]

theorem loOf_le (ids : Vec F S50000 .i32) (t : ℕ) : loOf ids t ≤ 50000 :=
  (Finset.card_filter_le _ _).trans (by simp)

theorem loOf_mono (ids : Vec F S50000 .i32) (t : ℕ) : loOf ids t ≤ loOf ids (t + 1) := by
  unfold loOf
  refine Finset.card_le_card fun p hp => ?_
  rw [Finset.mem_filter] at hp ⊢
  exact ⟨hp.1, by push_cast; omega⟩

include N in
theorem counts : Counts F := by
  intro L ids
  have h1 : (L 0).val < 2 := (L 0).isLt
  have h2 : (L 1).val < 16 := (L 1).isLt
  have ht : tn L < 32 := by unfold tn; omega
  have e1 : extractAt ![15] (k0_pay129 (cnt L ids 3136).1) inpos_S16_p15 = BitVec.ofNat 32 (loOf ids (tn L)) := by
    rw [← loOf_eq ids (tn L) (by omega)]
    refine scan_last (fun y => below' ids (32 * (tn L : ℤ)) y 3136) (fptosi 32 (cnt L ids 3136).1) fun y => ?_
    show FloatOps.fptosi 32 ((cnt L ids 3136).1 y) = _
    rw [(cnt_nat N L ids 3136 (le_refl _) y).1, N.toI _ (lt_of_le_of_lt (below'_le _ _ _ _) (by decide))]
  have e2 : extractAt ![15] (k0_pay130 (cnt L ids 3136).2) inpos_S16_p15 = BitVec.ofNat 32 (loOf ids (tn L + 1)) := by
    rw [← loOf_eq ids (tn L + 1) (by omega)]
    refine scan_last (fun y => below' ids (32 * ((tn L + 1 : ℕ) : ℤ)) y 3136) (fptosi 32 (cnt L ids 3136).2) fun y => ?_
    show FloatOps.fptosi 32 ((cnt L ids 3136).2 y) = _
    rw [(cnt_nat N L ids 3136 (le_refl _) y).2, N.toI _ (lt_of_le_of_lt (below'_le _ _ _ _) (by decide))]
  have b1 := loOf_le ids (tn L)
  have b2 := loOf_le ids (tn L + 1)
  rw [e1, e2]
  exact ⟨Affine.ofNat (e := (loOf ids (tn L) : ℤ)) _ (by omega), Affine.ofNat (e := (loOf ids (tn L + 1) : ℤ)) _ (by omega), loOf_mono ids (tn L), b2⟩

theorem counts_bits : Counts Bits := counts natsBits
theorem counts_ideal : Counts Ideal := counts natsIdeal

end Cert.Proof.Seg
-- ==== Proof.Same.lean ====
/-
  The two printed programs are one.
-/
module

public import proofs.«01_k».proof.Proof.Gen.KernelIdeal
public import proofs.«01_k».proof.Proof.Gen.Kernel

@[expose] public section

noncomputable section

namespace Cert.Proof.Seg

open Idealize.ShloMosaic Idealize.SL.Sem

variable {F : FTy → Type} [FloatOps F]

/-- The body tables are one. -/
theorem defs₀_same : Cert.KernelIdeal.defs₀ (F := F) = Cert.Kernel.defs₀ (F := F) := by
  funext c ℓ a
  match c, ℓ, a with
  | .scVector c s, 0, _ => rfl
  | .scVector c s, 1, _ => rfl
  | .tc, 0, _ => rfl
  | .tc, 1, (t, s) => rfl
  | .scScalar _, 0, _ => rfl
  | .scScalar _, 1, _ => rfl

set_option maxRecDepth 65536 in
theorem same (m : (ℓ : Loc Cert.Kernel.nD Cert.Kernel.τ Cert.Kernel.sig) → Buf (Elt F) ℓ) (g : Dev Cert.Kernel.nD → PrngReg) (Q) :
   θ_run (Cert.KernelIdeal.defs (F := F)) (Cert.KernelIdeal.threads (F := F)) ⟨m, fun _ => 0, g⟩ Q =
    θ_run (Cert.Kernel.defs (F := F)) (Cert.Kernel.threads (F := F)) ⟨m, fun _ => 0, g⟩ Q := by
  unfold Cert.KernelIdeal.defs Cert.Kernel.defs
  rw [defs₀_same]
  rfl

end Cert.Proof.Seg
-- ==== Proof.Frames.lean ====
/-
  The frame claims, and the kernel's run at the ideal instance with its result.
-/
module

public import proofs.«01_k».proof.Defs
public import proofs.«01_k».proof.Proof.Main
public import proofs.«01_k».proof.Proof.Count
public import proofs.«01_k».proof.Proof.Same
public import proofs.«01_k».proof.Proof.Gen.Kernel
public import proofs.«01_k».proof.Proof.Gen.ReferenceIdeal.Run
public import Idealize.ShloMosaic.Lib.Quiescent

@[expose] public section

noncomputable section

namespace Cert.Proof.Seg

open Cert.KernelIdeal Cert.KernelIdeal.Gen
open Idealize.ShloMosaic Idealize.ShloMosaic.TcCoe
open Idealize.ShloMosaic.SparseCore (S V T)
open Idealize.SL Idealize.SL.Sem

variable {F : FTy → Type} [FloatOps F]

/-- What the run leaves: the arguments as they were, the result at the head of the tiles' sums, the semaphores at zero. -/
theorem run_kernel [∀ e, Nonempty (Elt F e)] (hC : Counts F) (m : (ℓ : Loc nD τ sig) → Buf (Elt F) ℓ) (ρ : Dev nD → PrngReg) :
    θ_run (Cert.KernelIdeal.defs (F := F)) (Cert.KernelIdeal.threads (F := F)) ⟨m, fun _ => 0, ρ⟩ (fun r => (∀ c : Dev nD,
      r.2.mem ((c.tc : Thread nD τ).loc main_v4) = head (PW (A m c)) (PC (A m c)) (m ((c.tc : Thread nD τ).loc main_arg4)) (W3 m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run _ _ _).mono (fun r h => ⟨fun c => ?_, h.2⟩) (run_main m ρ hC)
  have keep : ∀ b : Ref sig .tc, (b : DevRef τ sig) ∈ Pipeline.ucRefs τ sig → b ≠ main_v4 → (b : DevRef τ sig) ≠ main_v3_0 → (b : DevRef τ sig) ≠ main_v3_1 →
      r.2.mem ((c.tc : Thread nD τ).loc b) = W3 m c b := fun b hu h4 h0 h1 =>
    (h.1 c b hu).trans ((left_keep (W4 m) c b h4).trans (W4_ne m c b h0 h1))
  refine ⟨(h.1 c main_v4 (by decide)).trans ((left_res (W4 m) c).trans ?_),
    (keep main_arg0 (by decide) (by decide) (by decide) (by decide)).trans (W3_ne m c _ (by decide) (by decide) (by decide)),
    (keep main_arg1 (by decide) (by decide) (by decide) (by decide)).trans (W3_ne m c _ (by decide) (by decide) (by decide)),
    (keep main_arg2 (by decide) (by decide) (by decide) (by decide)).trans (W3_ne m c _ (by decide) (by decide) (by decide)),
    (keep main_arg3 (by decide) (by decide) (by decide) (by decide)).trans (W3_ne m c _ (by decide) (by decide) (by decide)),
    (keep main_arg4 (by decide) (by decide) (by decide) (by decide)).trans (W3_ne m c _ (by decide) (by decide) (by decide)),
    (keep main_arg5 (by decide) (by decide) (by decide) (by decide)).trans (W3_ne m c _ (by decide) (by decide) (by decide))⟩
  rw [W4_pw, W4_pc, W4_ne m c _ (by decide) (by decide), W4_ne m c _ (by decide) (by decide), W3_ne m c main_arg4 (by decide) (by decide) (by decide)]

theorem frame_ideal : Cert.quiescent_KernelIdeal (hKernelIdeal := Cert.KernelIdeal.Gen.facts) := fun m g _ =>
  (θ_run _ _ _).mono (fun _ h => ⟨fun c => (h.1 c).2, h.2⟩) (run_kernel counts_ideal m g)

theorem frame_bits : Cert.quiescent_Kernel (hKernel := Cert.Kernel.Gen.facts) := fun m g _ => by
  rw [← same m g]
  exact (θ_run _ _ _).mono (fun _ h => ⟨fun c => (h.1 c).2, h.2⟩) (run_kernel counts_bits m g)

theorem frame_ref : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

end Cert.Proof.Seg
-- ==== Proof.RunSum.lean ====
/-
  What a tile's table holds when the tile is done, over the extended reals: in each cell the sum of the contributions
  of every row whose id is the cell's segment.
-/
module

public import proofs.«01_k».proof.Proof.Count

@[expose] public section

noncomputable section

namespace Cert.Proof.Seg

open Cert.KernelIdeal Cert.KernelIdeal.Gen
open Idealize.ShloMosaic

/-! ## Runs of equal ids, summed and written out where a run ends -/

/-- A running sum put to zero where the id changes, and a cell that takes the running sum where the cell's id ends:
together they hold the sum over the rows of that id. -/
theorem runs (id : ℕ → BitVec 32) (g : BitVec 32) (u r T : ℕ → EReal) (r0 : r 0 = 0) (T0 : T 0 = 0)
    (hr : ∀ n, r (n + 1) = if id n ≠ id (n + 1) then 0 else r n + u n)
    (hT : ∀ n, T (n + 1) = if id n ≠ id (n + 1) ∧ id n = g then T n + (r n + u n) else T n) (n : ℕ) :
    T n + (if id n = g then r n else 0) = ∑ q ∈ Finset.range n, if id q = g then u q else 0 := by
  induction n with
  | zero => simp [r0, T0]
  | succ n ih =>
    rw [Finset.sum_range_succ, ← ih, hr, hT]
    by_cases h1 : id n = id (n + 1)
    · by_cases h2 : id (n + 1) = g
      · simp [h1, h2, add_assoc]
      · simp [h1, h2]
    · rw [if_pos h1, ite_self, add_zero]
      by_cases h2 : id n = g
      · rw [if_pos ⟨h1, h2⟩, if_pos h2, if_pos h2, add_assoc]
      · rw [if_neg fun h => h2 h.2, if_neg h2, if_neg h2, add_zero, add_zero]

/-- The same from row `p₀`, and once the id is another. -/
theorem runs_done (id : ℕ → BitVec 32) (g : BitVec 32) (u r T : ℕ → EReal) (p₀ n : ℕ) (r0 : r 0 = 0) (T0 : T 0 = 0)
    (hr : ∀ n, r (n + 1) = if id (p₀ + n) ≠ id (p₀ + n + 1) then 0 else r n + u (p₀ + n))
    (hT : ∀ n, T (n + 1) = if id (p₀ + n) ≠ id (p₀ + n + 1) ∧ id (p₀ + n) = g then T n + (r n + u (p₀ + n)) else T n)
    (hlo : ∀ q, q < p₀ → id q ≠ g) (hhi : ∀ q, p₀ + n ≤ q → id q ≠ g) (N : ℕ) (hN : p₀ ≤ N)
    (hN' : ∀ q, N ≤ q → id q ≠ g) :
    T n = ∑ q ∈ Finset.range N, if id q = g then u q else 0 := by
  have h := runs (fun q => id (p₀ + q)) g (fun q => u (p₀ + q)) r T r0 T0 hr hT n
  simp only [if_neg (hhi _ le_rfl), add_zero] at h
  obtain ⟨k, rfl⟩ := Nat.exists_eq_add_of_le hN
  rw [h, Finset.sum_range_add, Finset.sum_eq_zero (fun q hq => if_neg (hlo q (Finset.mem_range.1 hq))), zero_add]
  rcases le_total n k with hk | hk
  · obtain ⟨l, rfl⟩ := Nat.exists_eq_add_of_le hk
    rw [Finset.sum_range_add, Finset.sum_eq_zero (s := Finset.range l) (fun q _ => if_neg (hhi _ (by omega))), add_zero]
  · obtain ⟨l, rfl⟩ := Nat.exists_eq_add_of_le hk
    rw [Finset.sum_range_add, Finset.sum_eq_zero (s := Finset.range l) (fun q _ => if_neg (hN' _ (by omega))), add_zero]

/-! ## The tile's own run -/

/-- What row `q` adds to lane `y` of running sum `k`. -/
def cv (A : Data Ideal) (k : ℕ) (y : S16.Idx) (q : ℕ) : EReal := if k < 16 then rowv A.hv q k y * gate A q y else gate A q y

theorem addRow_cv (A : Data Ideal) (p : ℕ) (r : ℕ → FVec Ideal S16 .f32) (k : ℕ) (y : S16.Idx) : addRow A p r k y = r k y + cv A k y p := by
  unfold addRow cv
  by_cases h : k < 16
  · simp only [if_pos h]; rfl
  · simp only [if_neg h]; rfl

theorem zero_lane (y : S16.Idx) : (k0_pay125 (F := Ideal)) y = 0 := Ideal.ofBits_zero_f32

theorem small_toInt (n : ℕ) (h : n < 2 ^ 31) : (BitVec.ofNat 32 n).toInt = (n : ℤ) := by
  have e : (BitVec.ofNat 32 n).toNat = n := by rw [BitVec.toNat_ofNat]; omega
  rw [BitVec.toInt_eq_toNat_of_lt (by omega), e]

/-- Row `s` of the table takes the running sums exactly where the id that ends is the tile's segment `s`. -/
theorem ends_iff (v6 a b : BitVec 32) (s : ℕ) (hs : s < 32) : (fl v6 a b ∧ s = loc v6 a b) ↔ (a ≠ b ∧ a = v6 + BitVec.ofNat 32 s) := by
  constructor
  · rintro ⟨h, e⟩
    unfold loc at e
    rw [if_pos h] at e
    refine ⟨h.1, ?_⟩
    rw [e, BitVec.ofNat_toNat, BitVec.setWidth_eq]
    exact (by rw [BitVec.add_comm, BitVec.sub_add_cancel] : v6 + (a - v6) = a).symm
  · rintro ⟨h, e⟩
    have e' : a - v6 = BitVec.ofNat 32 s := by rw [e, BitVec.add_comm, BitVec.add_sub_cancel]
    have hf : fl v6 a b := ⟨h, by rw [e', small_toInt s (by omega)]; omega⟩
    refine ⟨hf, ?_⟩
    unfold loc
    rw [if_pos hf, e', BitVec.toNat_ofNat]; omega

section
variable (A : Data Ideal) (v6 : BitVec 32) (p₀ : ℕ)

theorem regs_step (k : ℕ) (y : S16.Idx) (n : ℕ) :
    (run A v6 p₀ (n + 1)).regs k y = if idAt A.ids (p₀ + n) ≠ idAt A.ids (p₀ + n + 1) then 0 else (run A v6 p₀ n).regs k y + cv A k y (p₀ + n) := by
  show (if chg (idAt A.ids (p₀ + n)) (idAt A.ids (p₀ + n + 1)) then k0_pay125 else addRow A (p₀ + n) (run A v6 p₀ n).regs k) y = _
  by_cases h : chg (idAt A.ids (p₀ + n)) (idAt A.ids (p₀ + n + 1))
  · rw [if_pos h, if_pos h, zero_lane]
  · rw [if_neg h, if_neg h, addRow_cv]

theorem acc_step (j : S32x256.Idx) (n : ℕ) :
    (run A v6 p₀ (n + 1)).acc j = if idAt A.ids (p₀ + n) ≠ idAt A.ids (p₀ + n + 1) ∧ idAt A.ids (p₀ + n) = v6 + BitVec.ofNat 32 (j 0).val
      then (run A v6 p₀ n).acc j + ((run A v6 p₀ n).regs ((j 1).val / 16) (ln (j 1).val) + cv A ((j 1).val / 16) (ln (j 1).val) (p₀ + n))
      else (run A v6 p₀ n).acc j := by
  show accB _ _ _ _ _ j = _
  unfold accB
  rw [addRow_cv]
  have h0 : (j 0).val < 32 := (j 0).isLt
  have h1 : (j 1).val < 256 := (j 1).isLt
  have := ends_iff v6 (idAt A.ids (p₀ + n)) (idAt A.ids (p₀ + n + 1)) (j 0).val h0
  by_cases h : fl v6 (idAt A.ids (p₀ + n)) (idAt A.ids (p₀ + n + 1)) ∧ (j 0).val = loc v6 (idAt A.ids (p₀ + n)) (idAt A.ids (p₀ + n + 1))
  · rw [if_pos ⟨h.1, h.2, h1⟩, if_pos (this.1 h)]; rfl
  · rw [if_neg fun e => h ⟨e.1, e.2.1⟩, if_neg fun e => h (this.2 e)]

theorem cacc_step (j : S32x16.Idx) (n : ℕ) :
    (run A v6 p₀ (n + 1)).cacc j = if idAt A.ids (p₀ + n) ≠ idAt A.ids (p₀ + n + 1) ∧ idAt A.ids (p₀ + n) = v6 + BitVec.ofNat 32 (j 0).val
      then (run A v6 p₀ n).cacc j + ((run A v6 p₀ n).regs 16 (ln (j 1).val) + cv A 16 (ln (j 1).val) (p₀ + n))
      else (run A v6 p₀ n).cacc j := by
  show caccB _ _ _ _ j = _
  unfold caccB
  rw [addRow_cv]
  have h0 : (j 0).val < 32 := (j 0).isLt
  have := ends_iff v6 (idAt A.ids (p₀ + n)) (idAt A.ids (p₀ + n + 1)) (j 0).val h0
  by_cases h : fl v6 (idAt A.ids (p₀ + n)) (idAt A.ids (p₀ + n + 1)) ∧ (j 0).val = loc v6 (idAt A.ids (p₀ + n)) (idAt A.ids (p₀ + n + 1))
  · rw [if_pos h, if_pos (this.1 h)]; rfl
  · rw [if_neg h, if_neg fun e => h (this.2 e)]
end

/-! ## Sorted ids: a tile's rows are those of its segments -/

/-- The ids do not decrease. -/
def Sorted (ids : Vec Ideal S50000 .i32) : Prop := ∀ p q, p ≤ q → q < 50000 → (idAt ids p).toInt ≤ (idAt ids q).toInt

/-- The rows with an id below `b` come first. -/
theorem below_iff {ids : Vec Ideal S50000 .i32} (h : Sorted ids) (t p : ℕ) (hp : p < 50000) : (idAt ids p).toInt < 32 * (t : ℤ) ↔ p < loOf ids t := by
  constructor
  · intro hlt
    have : Finset.range (p + 1) ⊆ (Finset.range 50000).filter fun p => (idAt ids p).toInt < 32 * (t : ℤ) := fun q hq => by
      rw [Finset.mem_range] at hq
      exact Finset.mem_filter.2 ⟨Finset.mem_range.2 (by omega), (h q p (by omega) hp).trans_lt hlt⟩
    have := Finset.card_le_card this
    rw [Finset.card_range] at this
    exact this
  · intro hlt
    by_contra hge
    have : ((Finset.range 50000).filter fun p => (idAt ids p).toInt < 32 * (t : ℤ)) ⊆ Finset.range p := fun q hq => by
      obtain ⟨hq, hq'⟩ := Finset.mem_filter.1 hq
      rw [Finset.mem_range] at hq ⊢
      by_contra hpq
      exact hge ((h p q (by omega) hq).trans_lt hq')
    have := Finset.card_le_card this
    rw [Finset.card_range] at this
    exact absurd hlt (not_lt.2 this)

/-- The sum over every row of segment `g`. -/
def seg (ids : Vec Ideal S50000 .i32) (g : ℕ) (u : ℕ → EReal) : EReal := ∑ q ∈ Finset.range 50000, if (idAt ids q).toInt = (g : ℤ) then u q else 0

theorem word_iff (a : BitVec 32) (t s : ℕ) (ht : t < 32) (hs : s < 32) :
    a = BitVec.ofNat 32 (32 * t) + BitVec.ofNat 32 s ↔ a.toInt = ((32 * t + s : ℕ) : ℤ) := by
  rw [← BitVec.ofNat_add]
  have e : (BitVec.ofNat 32 (32 * t + s)).toInt = ((32 * t + s : ℕ) : ℤ) := small_toInt _ (by omega)
  rw [← e, BitVec.toInt_inj]

theorem tile_sum (ids : Vec Ideal S50000 .i32) (h : Sorted ids) (t s : ℕ) (ht : t < 32) (hs : s < 32) (u r T : ℕ → EReal) (r0 : r 0 = 0) (T0 : T 0 = 0)
    (hr : ∀ n, r (n + 1) = if idAt ids (80 * (loOf ids t / 80) + n) ≠ idAt ids (80 * (loOf ids t / 80) + n + 1) then 0 else r n + u (80 * (loOf ids t / 80) + n))
    (hT : ∀ n, T (n + 1) = if idAt ids (80 * (loOf ids t / 80) + n) ≠ idAt ids (80 * (loOf ids t / 80) + n + 1)
        ∧ idAt ids (80 * (loOf ids t / 80) + n) = BitVec.ofNat 32 (32 * t) + BitVec.ofNat 32 s then T n + (r n + u (80 * (loOf ids t / 80) + n)) else T n) :
    T (80 * nChunks (loOf ids t) (loOf ids (t + 1))) = seg ids (32 * t + s) u := by
  have hle := loOf_le ids t
  have hm := loOf_mono ids t
  have big : ∀ q, 50000 ≤ q → idAt ids q ≠ BitVec.ofNat 32 (32 * t) + BitVec.ofNat 32 s := fun q hq => by
    unfold idAt
    rw [if_neg (by omega), Ne, word_iff _ t s ht hs]
    have : (1024#32 : BitVec 32).toInt = 1024 := by decide
    omega
  rw [runs_done (idAt ids) (BitVec.ofNat 32 (32 * t) + BitVec.ofNat 32 s) u r T _ _ r0 T0 hr hT ?_ ?_ 50000 (by omega) big]
  · unfold seg
    exact Finset.sum_congr rfl fun q _ => if_congr (word_iff _ t s ht hs) rfl rfl
  · intro q hq
    rw [Ne, word_iff _ t s ht hs]
    have := (below_iff h t q (by omega)).2 (by omega)
    omega
  · intro q hq
    by_cases h5 : q < 50000
    · rw [Ne, word_iff _ t s ht hs]
      have : ¬ q < loOf ids (t + 1) := by unfold nChunks at hq; omega
      have := mt (below_iff h (t + 1) q h5).1 this
      push_cast at this ⊢
      omega
    · exact big q (by omega)

theorem PW_apply (A : Data Ideal) (h : Sorted A.ids) (x : S1024x256.Idx) :
    PW A x = seg A.ids (x 0).val (cv A ((x 1).val / 16) (ln (x 1).val)) := by
  have h0 : (x 0).val < 1024 := (x 0).isLt
  have h1 : (x 1).val < 256 := (x 1).isLt
  have e1 : ((cellA (x 0).val (x 1).val) 1).val = (x 1).val := Nat.mod_eq_of_lt h1
  have := tile_sum A.ids h ((x 0).val / 32) ((x 0).val % 32) (by omega) (by omega) (cv A ((x 1).val / 16) (ln (x 1).val))
    (fun n => (run A (BitVec.ofNat 32 (32 * ((x 0).val / 32))) (80 * (loOf A.ids ((x 0).val / 32) / 80)) n).regs ((x 1).val / 16) (ln (x 1).val))
    (fun n => (run A (BitVec.ofNat 32 (32 * ((x 0).val / 32))) (80 * (loOf A.ids ((x 0).val / 32) / 80)) n).acc (cellA (x 0).val (x 1).val))
    (zero_lane (ln (x 1).val)) (zero_lane (ln 0)) (fun n => regs_step A _ _ _ _ n)
    (fun n => by have := acc_step A (BitVec.ofNat 32 (32 * ((x 0).val / 32))) (80 * (loOf A.ids ((x 0).val / 32) / 80)) (cellA (x 0).val (x 1).val) n; rw [e1] at this; exact this)
  rw [show 32 * ((x 0).val / 32) + (x 0).val % 32 = (x 0).val by omega] at this
  exact this

theorem PC_apply (A : Data Ideal) (h : Sorted A.ids) (x : S1024x16.Idx) :
    PC A x = seg A.ids (x 0).val (cv A 16 (ln (x 1).val)) := by
  have h0 : (x 0).val < 1024 := (x 0).isLt
  have h1 : (x 1).val < 16 := (x 1).isLt
  have e1 : ((cellC (x 0).val (x 1).val) 1).val = (x 1).val := Nat.mod_eq_of_lt h1
  have := tile_sum A.ids h ((x 0).val / 32) ((x 0).val % 32) (by omega) (by omega) (cv A 16 (ln (x 1).val))
    (fun n => (run A (BitVec.ofNat 32 (32 * ((x 0).val / 32))) (80 * (loOf A.ids ((x 0).val / 32) / 80)) n).regs 16 (ln (x 1).val))
    (fun n => (run A (BitVec.ofNat 32 (32 * ((x 0).val / 32))) (80 * (loOf A.ids ((x 0).val / 32) / 80)) n).cacc (cellC (x 0).val (x 1).val))
    (zero_lane (ln (x 1).val)) (zero_lane (ln 0)) (fun n => regs_step A _ _ _ _ n)
    (fun n => by have := cacc_step A (BitVec.ofNat 32 (32 * ((x 0).val / 32))) (80 * (loOf A.ids ((x 0).val / 32) / 80)) (cellC (x 0).val (x 1).val) n; rw [e1] at this; exact this)
  rw [show 32 * ((x 0).val / 32) + (x 0).val % 32 = (x 0).val by omega] at this
  exact this

end Cert.Proof.Seg
-- ==== Proof.Alg.lean ====
/-
  The last step, over the extended reals: projecting each row, adding the bias, scaling by the gate and summing is the
  same as summing the gated rows and the gates first and projecting once.
-/
module

public import Idealize.ShloMosaic.Lib.IdealHost

@[expose] public section

noncomputable section

namespace Cert.Proof.Seg

open Idealize.ShloMosaic

/-- A finite sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of non-negative reals times anything is the sum of the products. -/
theorem sum_mul_any {ι : Type} (s : Finset ι) (g : ι → ℝ) (hg : ∀ i, 0 ≤ g i) (b : EReal) :
    (∑ i ∈ s, (g i : EReal)) * b = ∑ i ∈ s, (g i : EReal) * b := by
  classical
  induction s using Finset.induction_on with
  | empty => simp
  | insert a s ha ih =>
    rw [Finset.sum_insert ha, Finset.sum_insert ha, ← ih]
    exact EReal.right_distrib_of_nonneg (EReal.coe_nonneg.2 (hg a)) (Finset.sum_nonneg fun i _ => EReal.coe_nonneg.2 (hg i))

theorem project {ι κ : Type} (s : Finset ι) (t : Finset κ) (g : ι → ℝ) (hg : ∀ i, 0 ≤ g i) (h : ι → κ → ℝ) (w : κ → ℝ) (b : EReal) :
    (∑ i ∈ s, (g i : EReal) * ((∑ k ∈ t, (h i k : EReal) * (w k : EReal)) + b))
      = (∑ k ∈ t, (∑ i ∈ s, (h i k : EReal) * (g i : EReal)) * (w k : EReal)) + (∑ i ∈ s, (g i : EReal)) * b := by
  have e : ∀ i, (g i : EReal) * ((∑ k ∈ t, (h i k : EReal) * (w k : EReal)) + b)
      = ((g i * ∑ k ∈ t, h i k * w k : ℝ) : EReal) + (g i : EReal) * b := fun i => by
    rw [EReal.left_distrib_of_nonneg_of_ne_top (EReal.coe_nonneg.2 (hg i)) (EReal.coe_ne_top _), EReal.coe_mul, coe_sum]
    simp only [EReal.coe_mul]
  have r : (∑ i ∈ s, g i * ∑ k ∈ t, h i k * w k) = ∑ k ∈ t, (∑ i ∈ s, h i k * g i) * w k := by
    simp only [Finset.mul_sum, Finset.sum_mul]
    rw [Finset.sum_comm]
    exact Finset.sum_congr rfl fun k _ => Finset.sum_congr rfl fun i _ => by rw [← mul_assoc, mul_comm (g i)]
  rw [Finset.sum_congr rfl fun i _ => e i, Finset.sum_add_distrib, sum_mul_any s g hg, ← coe_sum, r]
  simp only [← EReal.coe_mul, ← coe_sum]

/-- A quotient of one by one plus an exponential is a real in [0, 1]. -/
theorem logistic_real (x : EReal) : ∃ r : ℝ, 0 ≤ r ∧ Ideal.div 1 (1 + Ideal.exp x) = (r : EReal) := by
  induction x using EReal.rec with
  | bot => exact ⟨1, zero_le_one, by rw [show Ideal.exp ⊥ = 0 from rfl, add_zero]; simp [Ideal.div]⟩
  | top => exact ⟨0, le_rfl, by rw [show Ideal.exp ⊤ = ⊤ from rfl, EReal.add_top_of_ne_bot (by exact EReal.coe_ne_bot 1)]; simp [Ideal.div]⟩
  | coe r =>
    have hp : 0 < 1 + Real.exp r := by have := Real.exp_pos r; linarith
    refine ⟨(1 + Real.exp r)⁻¹, inv_nonneg.2 hp.le, ?_⟩
    have : (1 : EReal) + Ideal.exp (r : EReal) = ((1 + Real.exp r : ℝ) : EReal) := by
      rw [EReal.coe_add]; rfl
    rw [this]
    unfold Ideal.div
    rw [if_neg (by rw [EReal.coe_eq_zero]; exact hp.ne'), one_mul, EReal.coe_inv]

/-- A finite extended real is a real. -/
theorem real_of_abs {x : EReal} (h : max x (-x) < ⊤) : ∃ r : ℝ, x = (r : EReal) := by
  induction x using EReal.rec with
  | bot => simp at h
  | top => simp at h
  | coe r => exact ⟨r, rfl⟩

end Cert.Proof.Seg
-- ==== Proof.GateVal.lean ====
/-
  A row's gate over the extended reals: the logistic of the row's product with the gate's weights plus the gate's bias.
-/
module

public import proofs.«01_k».proof.Proof.RunSum
public import proofs.«01_k».proof.Proof.Alg
public import proofs.«01_k».proof.Proof.Frames
public import Idealize.ShloMosaic.Lib.Pointwise

@[expose] public section

noncomputable section

namespace Cert.Proof.Seg

open Cert.KernelIdeal Cert.KernelIdeal.Gen
open Idealize.ShloMosaic

theorem lane1 (v : Vec Ideal S1x1x16 .f32) (y : S16.Idx) : k0_pay1 v y = v (ix3 0 0 (y 0)) := by
  pointwise [k0_pay1]

theorem gsum_apply (R : ℕ → Vec Ideal S1x1x16 .f32) (wg : ℕ → Vec Ideal S16 .f32) (y : S16.Idx) :
    gsum R wg y = ∑ k ∈ Finset.range 16, R k (ix3 0 0 (y 0)) * wg k y := by
  unfold gsum
  pointwise [k0_pay17, k0_pay1, k0_pay2, k0_pay3, k0_pay4, k0_pay5, k0_pay6, k0_pay7, k0_pay8, k0_pay9, k0_pay10, k0_pay11, k0_pay12, k0_pay13, k0_pay14, k0_pay15, k0_pay16]
  simp only [Finset.sum_range_succ, Finset.sum_range_zero, zero_add]
  ac_rfl

theorem gsum2_apply (R : ℕ → Vec Ideal S1x1x16 .f32) (wg : ℕ → Vec Ideal S16 .f32) :
    gsum2 R wg = gsum R wg (ix1 0) + gsum R wg (ix1 1) := by
  unfold gsum2 k0_pay18
  pointwise [gsum]

theorem pay19_apply (b v : FVec Ideal S16 .f32) (s : Ideal .f32) (y : S16.Idx) :
    k0_pay19 b v s y = Ideal.div 1 (1 + Ideal.exp (0 - (s + v (ix1 2) + v (ix1 3) + v (ix1 4) + v (ix1 5) + v (ix1 6) + v (ix1 7) + v (ix1 8)
      + v (ix1 9) + v (ix1 10) + v (ix1 11) + v (ix1 12) + v (ix1 13) + v (ix1 14) + v (ix1 15) + b y))) := by
  pointwise [k0_pay19]

/-- A row's product with the gate's weights. -/
def dotw (A : Data Ideal) (p : ℕ) : EReal := ∑ j ∈ Finset.range 256, A.hv (at2 p j) * A.w (at1 j)

theorem gate_apply (A : Data Ideal) (p : ℕ) (y : S16.Idx) : gate A p y = Ideal.div 1 (1 + Ideal.exp (-(dotw A p + A.b y))) := by
  have e : dotw A p = ∑ l : Fin 16, gsum (raw A.hv p) (wgv A.w) (ix1 l) := by
    unfold dotw
    rw [show 256 = 16 * 16 from rfl, ← lanes_sum, ← Fin.sum_univ_eq_sum_range]
    refine Finset.sum_congr rfl fun l _ => ?_
    rw [gsum_apply]
    rfl
  unfold gate
  rw [pay19_apply, gsum2_apply, zero_sub, e]
  simp only [Fin.sum_univ_castSucc, Fin.sum_univ_zero, zero_add]
  rfl

/-- The gate is a real, not below zero. -/
theorem gate_real (A : Data Ideal) (p : ℕ) (y : S16.Idx) : ∃ r : ℝ, 0 ≤ r ∧ gate A p y = (r : EReal) := by
  rw [gate_apply]; exact logistic_real _

theorem rowv_apply (A : Data Ideal) (p c : ℕ) (hc : c < 256) : rowv A.hv p (c / 16) (ln c) = A.hv (at2 p c) := by
  unfold rowv
  rw [lane1]
  show A.hv (at2 p (16 * (c / 16) + c % 16)) = _
  rw [Nat.div_add_mod]

/-- The result's product, at an element. -/
theorem head_apply (pw : Vec Ideal S1024x256 .f32) (pc : Vec Ideal S1024x16 .f32) (wp : Vec Ideal S512x256 .f32) (bp : Vec Ideal S1x512 .f32)
    (i : S1024x512.Idx) :
    head pw pc wp bp i = (∑ k : Fin 256, pw (ix2 (i 0) k) * wp (ix2 (i 1) k)) + pc (ix2 (i 0) 0) * bp (ix2 0 (i 1)) := by
  unfold head
  pointwise [k1_pay1, col0]
  congr 3
  funext a
  match a with
  | 0 => rfl
  | 1 => rfl

end Cert.Proof.Seg
-- ==== Proof.RefVal.lean ====
/-
  What the reference computes, at an element: the rows of the element's segment, each projected, biased and scaled by its
  gate, summed.
-/
module

public import proofs.«01_k».proof.Proof.Gen.ReferenceIdeal.Run
public import Idealize.ShloMosaic.Lib.Pointwise
public import Idealize.ShloMosaic.Lib.IdealHost

@[expose] public section

noncomputable section

namespace Cert.Proof.Seg

open Cert.ReferenceIdeal
open Cert.ReferenceIdeal.Facts₀ Cert.ReferenceIdeal.Facts
open Idealize.ShloMosaic

section
variable (hv : FVec Ideal S50000x256 .f32) (ids : IVec S50000 32) (wg : FVec Ideal S1x256 .f32) (bg : FVec Ideal S1 .f32)
  (wp : FVec Ideal S512x256 .f32) (bp : FVec Ideal S512 .f32)

/-- The gates. -/
def refGate : FVec Ideal S50000x1 .f32 :=
  Host.divf (broadcastInDim S50000x1 ![] bcast_S_S50000x1 (constant S_ .f32 0x3F800000#32)) (addf (broadcastInDim S50000x1 ![] bcast_S_S50000x1 (constant S_ .f32 0x3F800000#32)) (Host.exp (Host.negf (addf (Host.dotGeneral dot_S50000x256_S256x1_S50000x1_1_0_0_1_n_n none hv (transpose S256x1 [1, 0] wg transposes_S1x256_S256x1_1_0)) (broadcastInDim S50000x1 ![0, 1] bcast_S1x1_S50000x1_0_1 (broadcastInDim S1x1 ![1] bcast_S1_S1x1_1 bg))))))

/-- The gated rows. -/
def refRows : FVec Ideal S50000x512 .f32 :=
  mulf (broadcastInDim S50000x512 ![0, 1] bcast_S50000x1_S50000x512_0_1 (refGate hv wg bg)) (addf (Host.dotGeneral dot_S50000x256_S256x512_S50000x512_1_0_0_1_n_n none hv (transpose S256x512 [1, 0] wp transposes_S512x256_S256x512_1_0)) (broadcastInDim S50000x512 ![0, 1] bcast_S1x512_S50000x512_0_1 (broadcastInDim S1x512 ![1] bcast_S512_S1x512_1 bp)))

theorem refGate_apply (j : S50000x1.Idx) :
    refGate hv wg bg j = Ideal.div 1 (1 + Ideal.exp (-((∑ k : Fin 256, hv (ix2 (j 0) k) * wg (ix2 0 k)) + bg (ix1 0)))) := by
  pointwise [refGate]

theorem refRows_apply (j : S50000x512.Idx) :
    refRows hv wg bg wp bp j = refGate hv wg bg (ix2 (j 0) 0) * ((∑ k : Fin 256, hv (ix2 (j 0) k) * wp (ix2 (j 1) k)) + bp (ix1 (j 1))) := by
  pointwise [refRows]

/-- The index columns. -/
abbrev idc : IVec S50000x1 32 := broadcastInDim S50000x1 ![0] bcast_S50000_S50000x1_0 ids

theorem idc_apply (j : S50000x1.Idx) : idc ids j = ids (ix1 (j 0)) := by
  pointwise

abbrev sc := scatter_S1024x512_S50000x1_S50000x512_1_0_0_1

theorem start0 (j : S50000x512.Idx) : sc.start j (idc ids) 0 = (ids (ix1 (j 0))).toInt := by
  unfold ScatterDims.start
  rw [dif_pos (by decide), idc_apply]
  rfl

theorem start1 (j : S50000x512.Idx) : sc.start j (idc ids) 1 = 0 := by
  unfold ScatterDims.start
  rw [dif_neg (by decide)]

theorem window0 (j : S50000x512.Idx) : sc.window j 0 = 0 := by
  unfold ScatterDims.window
  rw [dif_neg (by decide)]

theorem window1 (j : S50000x512.Idx) : sc.window j 1 = (j 1).val := by
  unfold ScatterDims.window
  rw [dif_pos (by decide)]
  rfl

theorem lands_iff (j : S50000x512.Idx) (i : S1024x512.Idx) :
    sc.resultIdx? j (idc ids) = some i ↔ (ids (ix1 (j 0))).toInt = ((i 0).val : ℤ) ∧ j 1 = i 1 := by
  have h0 : (i 0).val < 1024 := (i 0).isLt
  have h1 : (j 1).val < 512 := (j 1).isLt
  unfold ScatterDims.resultIdx?
  constructor
  · intro h
    split at h
    · rename_i hin
      have e := Option.some.inj h
      have e0 := congrArg Fin.val (congrFun e 0)
      have e1 := congrArg Fin.val (congrFun e 1)
      have p0 := hin 0
      simp only [start0, start1, window0, window1] at e0 e1 p0
      exact ⟨by omega, Fin.ext (by omega)⟩
    · cases h
  · rintro ⟨e0, e1⟩
    have e1' : (j 1).val = (i 1).val := congrArg Fin.val e1
    have hin : ∀ a, 0 ≤ sc.start j (idc ids) a + sc.window j a ∧ sc.start j (idc ids) a + sc.window j a < S1024x512.size a := by
      rw [forall_fin2, start0, start1, window0, window1]
      refine ⟨⟨by omega, ?_⟩, by omega, ?_⟩
      · show _ < ((1024 : ℕ) : ℤ); omega
      · show _ < ((512 : ℕ) : ℤ); omega
    rw [dif_pos hin]
    congr 1
    funext a
    apply Fin.ext
    show (sc.start j (idc ids) a + sc.window j a).toNat = (i a).val
    match a with
    | 0 => rw [start0, window0]; omega
    | 1 => rw [start1, window1]; omega

/-- The reference, at an element. -/
theorem ref_apply (i : S1024x512.Idx) :
    (Host.scatterAdd sc (broadcastInDim S1024x512 ![] bcast_S_S1024x512 (constant S_ .f32 0x00000000#32)) (idc ids) (refRows hv wg bg wp bp)
        : FVec Ideal S1024x512 .f32) i
      = ∑ q : Fin 50000, if (ids (ix1 q)).toInt = ((i 0).val : ℤ) then refRows hv wg bg wp bp (ix2 q (i 1)) else 0 := by
  show Ideal.hostScatterAdd sc _ _ _ i = _
  unfold Ideal.hostScatterAdd
  rw [Finset.sum_filter, sum_idx2]
  have z : (broadcastInDim S1024x512 ![] bcast_S_S1024x512 (constant S_ .f32 0x00000000#32) : FVec Ideal S1024x512 .f32) i = 0 := by
    pointwise
  rw [z, zero_add]
  refine Finset.sum_congr rfl fun q _ => (Finset.sum_congr rfl fun b _ =>
    if_congr (show _ ↔ (ids (ix1 q)).toInt = ((i 0).val : ℤ) ∧ b = i 1 from lands_iff ids (ix2 q b) i) rfl rfl).trans ?_
  by_cases h : (ids (ix1 q)).toInt = ((i 0).val : ℤ)
  · simp only [h, true_and, if_true]
    exact (Finset.sum_ite_eq' Finset.univ (i 1) fun b => refRows hv wg bg wp bp (ix2 q b)).trans (if_pos (Finset.mem_univ _))
  · simp only [h, false_and, if_false]; exact Finset.sum_const_zero
end

end Cert.Proof.Seg
-- ==== Proof.Value.lean ====
/-
  The kernel's result is the reference's, element by element, for sorted ids and finite features and projection weights.
-/
module

public import proofs.«01_k».proof.Proof.GateVal
public import proofs.«01_k».proof.Proof.RefVal

@[expose] public section

noncomputable section

namespace Cert.Proof.Seg

open Cert.KernelIdeal Cert.KernelIdeal.Gen
open Idealize.ShloMosaic Idealize.ShloMosaic.TcCoe

theorem at2_eq (q : Fin 50000) (k : Fin 256) : at2 q.val k.val = ix2 q k := by
  funext a
  match a with
  | 0 => exact Fin.ext (Nat.mod_eq_of_lt q.isLt)
  | 1 => exact Fin.ext (Nat.mod_eq_of_lt k.isLt)

theorem at1_eq (k : Fin 256) : at1 k.val = ix1 k := by
  funext a
  match a with
  | 0 => exact Fin.ext (Nat.mod_eq_of_lt k.isLt)

theorem idAt_eq (ids : IVec S50000 32) (q : Fin 50000) : idAt (F := Ideal) ids q.val = ids (ix1 q) := by
  unfold idAt
  rw [if_pos q.isLt]
  congr 1
  funext a
  match a with
  | 0 => exact Fin.ext (Nat.mod_eq_of_lt q.isLt)

section
variable (A : Data Ideal) (wg : FVec Ideal S1x256 .f32) (bg : FVec Ideal S1 .f32) (wp : FVec Ideal S512x256 .f32)
  (bp : FVec Ideal S512 .f32) (bp' : FVec Ideal S1x512 .f32)
  (hw : ∀ k : Fin 256, A.w (ix1 k) = wg (ix2 0 k)) (hb : ∀ y, A.b y = bg (ix1 0)) (hbp : ∀ l : Fin 512, bp' (ix2 0 l) = bp (ix1 l))

include hw hb in
theorem gate_ref (q : Fin 50000) (y : S16.Idx) : gate A q.val y = refGate A.hv wg bg (ix2 q 0) := by
  rw [gate_apply, refGate_apply, hb]
  unfold dotw
  rw [Finset.sum_range, Finset.sum_congr rfl fun (k : Fin 256) _ => by rw [at2_eq, at1_eq, hw]]
  rfl

/-- The rows of segment `g`. -/
def rowsAt (g : ℕ) : Finset (Fin 50000) := Finset.univ.filter fun q => (A.ids (ix1 q)).toInt = (g : ℤ)

theorem seg_rows (g : ℕ) (u : ℕ → EReal) : seg A.ids g u = ∑ q ∈ rowsAt A g, u q.val := by
  unfold seg rowsAt
  rw [Finset.sum_range, Finset.sum_filter]
  exact Finset.sum_congr rfl fun q _ => by rw [idAt_eq]

include hw hb hbp in
theorem value_apply (hs : Sorted A.ids) (hf : ∀ j, max (A.hv j) (-A.hv j) < ⊤) (hp : ∀ j, max (wp j) (-wp j) < ⊤) (i : S1024x512.Idx) :
    head (PW A) (PC A) wp bp' i = ∑ q ∈ rowsAt A (i 0).val, refRows A.hv wg bg wp bp (ix2 q (i 1)) := by
  choose h eh using fun j => real_of_abs (hf j)
  choose w ew using fun j => real_of_abs (hp j)
  choose g g0 eg using fun q : Fin 50000 => gate_real A q.val (ln 0)
  have eG : ∀ (q : Fin 50000) y, gate A q.val y = (g q : EReal) := fun q y => by
    rw [gate_ref A wg bg hw hb q y, ← gate_ref A wg bg hw hb q (ln 0), eg]
  have eR : ∀ q : Fin 50000, refGate A.hv wg bg (ix2 q 0) = (g q : EReal) := fun q => by
    rw [← gate_ref A wg bg hw hb q (ln 0), eg]
  rw [head_apply, PC_apply A hs, seg_rows]
  have e1 : ∀ k : Fin 256, PW A (ix2 (i 0) k) = ∑ q ∈ rowsAt A (i 0).val, (h (ix2 q k) : EReal) * (g q : EReal) := fun k => by
    rw [PW_apply A hs, seg_rows]
    refine Finset.sum_congr rfl fun q _ => ?_
    show cv A (k.val / 16) (ln k.val) q.val = _
    unfold cv
    have := k.isLt
    rw [if_pos (by omega), rowv_apply A q.val k.val this, at2_eq, eG, ← eh]
  have e2 : ∀ q : Fin 50000, cv A 16 (ln ((ix2 (n0 := 1024) (n1 := 16) (i 0) 0) 1).val) q.val = (g q : EReal) := fun q => by
    unfold cv
    rw [if_neg (by omega), eG]
  have e3 : ∀ q : Fin 50000, refRows A.hv wg bg wp bp (ix2 q (i 1))
      = (g q : EReal) * ((∑ k : Fin 256, (h (ix2 q k) : EReal) * (w (ix2 (i 1) k) : EReal)) + bp (ix1 (i 1))) := fun q => by
    rw [refRows_apply]
    refine congrArg₂ (· * ·) (eR q) (congrArg (· + _) (Finset.sum_congr rfl fun k _ => ?_))
    rw [← eh, ← ew]
    rfl
  rw [Finset.sum_congr rfl fun q _ => e3 q, project (rowsAt A (i 0).val) Finset.univ g g0 (fun q k => h (ix2 q k)) (fun k => w (ix2 (i 1) k)) (bp (ix1 (i 1)))]
  refine congrArg₂ (· + ·) (Finset.sum_congr rfl fun k _ => ?_) ?_
  · rw [e1, ew]
  · exact congrArg₂ (· * ·) (Finset.sum_congr rfl fun q _ => e2 q) (hbp (i 1))
end

/-! ## The arrays the program makes before the call -/

section
variable (m : (ℓ : Loc nD τ sig) → Buf (Elt Ideal) ℓ) (d : Dev nD)

theorem W3_v1 (k : Fin 256) : (W3 m d main_v1 : FVec Ideal S256 .f32) (ix1 k) = (m ((d.tc : Thread nD τ).loc main_arg2) : FVec Ideal S1x256 .f32) (ix2 0 k) := by
  have e : W3 m d main_v1 = (shapeCast S256 (m ((d.tc : Thread nD τ).loc main_arg2) : FVec Ideal S1x256 .f32) shapeCasts_S1x256_S256) := by
    unfold W3 W2
    rw [StableHlo.unary_result_ne, StableHlo.reshape_result]
    unfold W1
    rw [StableHlo.reshape_result_ne]
    · rfl
    all_goals decide
  rw [e]
  pointwise

theorem W3_v0 (l : Fin 512) : (W3 m d main_v0 : FVec Ideal S1x512 .f32) (ix2 0 l) = (m ((d.tc : Thread nD τ).loc main_arg5) : FVec Ideal S512 .f32) (ix1 l) := by
  have e : W3 m d main_v0 = (shapeCast S1x512 (m ((d.tc : Thread nD τ).loc main_arg5) : FVec Ideal S512 .f32) shapeCasts_S512_S1x512) := by
    unfold W3 W2 W1
    rw [StableHlo.unary_result_ne, StableHlo.reshape_result_ne, StableHlo.reshape_result]
    · rfl
    all_goals decide
  rw [e]
  pointwise

theorem W3_v2 (y : S16.Idx) : (W3 m d main_v2 : FVec Ideal S16 .f32) y = (m ((d.tc : Thread nD τ).loc main_arg3) : FVec Ideal S1 .f32) (ix1 0) := by
  have e : W3 m d main_v2 = (broadcastInDim S16 ![0] bcast_S1_S16_0 (m ((d.tc : Thread nD τ).loc main_arg3) : FVec Ideal S1 .f32)) := by
    unfold W3
    rw [StableHlo.unary_result]
    unfold W2 W1
    rw [StableHlo.reshape_result_ne, StableHlo.reshape_result_ne]
    · rfl
    all_goals decide
  rw [e]
  pointwise
end

end Cert.Proof.Seg
-- ==== Proof.PreVal.lean ====
/-
  What the precondition says: the ids do not decrease, and the features and the projection's weights are finite.
-/
module

public import proofs.«01_k».proof.Pre_sorted_ids_finite_floats
public import proofs.«01_k».proof.Proof.RunSum
public import Idealize.ShloMosaic.Lib.ReduceAll
public import Idealize.ShloMosaic.Lib.Pointwise

@[expose] public section

noncomputable section

namespace Cert.Proof.Seg

open Cert.KernelIdeal
open Idealize.ShloMosaic

instance preFacts : Cert.Pre_sorted_ids_finite_floats.Facts where
  slices_S50000_S49999_0 := by decide
  slices_S50000_S49999_1 := by decide
  reducesTo_S49999_S_d0 := by decide
  h_S_ := by decide
  bcast_S_S50000x256 := by decide
  reducesTo_S50000x256_S_d0_1 := by decide
  bcast_S_S512x256 := by decide
  reducesTo_S512x256_S_d0_1 := by decide

theorem inf_bits : (Scalar.ofBits .f32 0x7F800000#32 : Ideal .f32) = (⊤ : EReal) := by
  rfl

variable (hv : FVec Ideal S50000x256 .f32) (ids : IVec S50000 32) (wg : FVec Ideal S1x256 .f32) (bg : FVec Ideal S1 .f32)
  (wp : FVec Ideal S512x256 .f32) (bp : FVec Ideal S512 .f32)

theorem olt_iff (x y : EReal) : Ideal.cmp .olt x y = 1#1 ↔ x < y := by
  show BitVec.ofBool (decide (x < y)) = 1#1 ↔ _
  rw [ofBool_one, decide_eq_true_iff]

theorem sorted_of_steps (h : ∀ p, p < 49999 → (idAt (F := Ideal) ids p).toInt ≤ (idAt (F := Ideal) ids (p + 1)).toInt) : Sorted ids := by
  intro p q hpq
  induction q, hpq using Nat.le_induction with
  | base => exact fun _ => le_rfl
  | succ q _ ih => exact fun hq => (ih (by omega)).trans (h q (by omega))

theorem pre_decode (h : Cert.Pre_sorted_ids_finite_floats.fn (F := Ideal) hv ids wg bg wp bp = fun _ => 1#1) :
    Sorted ids ∧ (∀ j, max (hv j) (-hv j) < ⊤) ∧ (∀ j, max (wp j) (-wp j) < ⊤) := by
  have e := congrFun h ix0
  dsimp only [Cert.Pre_sorted_ids_finite_floats.fn] at e
  obtain ⟨e, e3⟩ := (and_one _ _).1 e
  obtain ⟨e1, e2⟩ := (and_one _ _).1 e
  haveI : Subsingleton Cert.Pre_sorted_ids_finite_floats.S_.Idx := ⟨fun a b => funext fun i => i.elim0⟩
  refine ⟨sorted_of_steps ids fun p hp => ?_, fun j => ?_, fun j => ?_⟩
  · have := Host.reduce_andi_all _ _ _ _ _ e1 (ix1 ⟨p, hp⟩)
    have := IntOp.cmpi_sle.1 this
    unfold idAt
    rw [if_pos (by omega), if_pos (by omega)]
    refine le_of_eq_of_le (congrArg (fun x => (ids x).toInt) ?_) (this.trans_eq (congrArg (fun x => (ids x).toInt) ?_))
    · funext a
      match a with
      | 0 => exact Fin.ext (by show p % 50000 = 0 + p; omega)
    · funext a
      match a with
      | 0 => exact Fin.ext (by show 1 + p = (p + 1) % 50000; omega)
  · have := Host.reduce_andi_all _ _ _ _ _ e2 j
    have := (olt_iff _ _).1 this
    exact this.trans_eq inf_bits
  · have := Host.reduce_andi_all _ _ _ _ _ e3 j
    have := (olt_iff _ _).1 this
    exact this.trans_eq inf_bits

end Cert.Proof.Seg
-- ==== Proof.Algebraic.lean ====
/-
  The value claim: over the extended reals, for sorted ids and finite features and projection weights, the kernel and the
  reference leave equal results.
-/
module

public import proofs.«01_k».proof.Defs
public import proofs.«01_k».proof.Proof.Value
public import proofs.«01_k».proof.Proof.PreVal

@[expose] public section

noncomputable section

namespace Cert.Proof.Seg

open Idealize.ShloMosaic Idealize.ShloMosaic.TcCoe Idealize.SL.Sem

section
open Cert.KernelIdeal Cert.KernelIdeal.Gen

/-- The two results, one memory's arguments in both. -/
theorem value_eq (m : (ℓ : Loc nD τ sig) → Buf (Elt Ideal) ℓ) (c : Dev nD)
    (h : Cert.Pre_sorted_ids_finite_floats.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    head (PW (A m c)) (PC (A m c)) (m ((c.tc : Thread nD τ).loc main_arg4)) (W3 m c main_v0)
      = Host.scatterAdd sc (broadcastInDim Cert.ReferenceIdeal.S1024x512 ![] Cert.ReferenceIdeal.Facts₀.bcast_S_S1024x512 (constant Cert.ReferenceIdeal.S_ .f32 0x00000000#32))
          (idc (m ((c.tc : Thread nD τ).loc main_arg1)))
          (refRows (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5))) := by
  have e0 : (A m c).hv = m ((c.tc : Thread nD τ).loc main_arg0) := W3_ne m c main_arg0 (by decide) (by decide) (by decide)
  have e1 : (A m c).ids = m ((c.tc : Thread nD τ).loc main_arg1) := W3_ne m c main_arg1 (by decide) (by decide) (by decide)
  obtain ⟨hs, hf, hp⟩ := pre_decode _ _ _ _ _ _ h
  funext i
  rw [ref_apply, value_apply (A m c) (m ((c.tc : Thread nD τ).loc main_arg2)) (m ((c.tc : Thread nD τ).loc main_arg3))
    (m ((c.tc : Thread nD τ).loc main_arg4)) (m ((c.tc : Thread nD τ).loc main_arg5)) (W3 m c main_v0) (W3_v1 m c) (W3_v2 m c) (W3_v0 m c)
    (by rw [e1]; exact hs) (by rw [e0]; exact hf) hp i]
  unfold rowsAt
  rw [Finset.sum_filter, e0, e1]
end

theorem frame_ideal_pre : Cert.quiescent_KernelIdeal_pre_sorted_ids_finite_floats := fun m g _ => frame_ideal m g trivial

theorem frame_ref_pre : Cert.quiescent_ReferenceIdeal_pre_sorted_ids_finite_floats := fun m g _ => frame_ref m g trivial

theorem algebraic : Cert.algebraic_KernelIdeal_ReferenceIdeal_pre_sorted_ids_finite_floats := by
  intro m g m' g' hp hm
  refine ⟨_, (θ_run _ _ _).mono (fun r h => h.1) (run_kernel counts_ideal m g), (θ_run _ _ _).mono (fun r h c => ?_) (Cert.ReferenceIdeal.Value.run (F := Ideal) m' g')⟩
  obtain ⟨h0, h1, h2, h3, h4, h5⟩ := hm c
  refine ⟨(h c).1.trans ?_, (h c).2⟩
  rw [h0, h1, h2, h3, h4, h5]
  exact (value_eq m c (hp c)).symm

end Cert.Proof.Seg
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Seg.preFacts,
  ⟨Seg.frame_bits, Seg.frame_ideal, Seg.frame_ideal_pre, Seg.frame_ref, Seg.frame_ref_pre, trivial, Seg.algebraic⟩⟩

end Cert.Proof

end
